-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale_log2e" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x4096x1024 : Shape := ⟨3, ![4, 4096, 1024]⟩
abbrev S4x4096x512 : Shape := ⟨3, ![4, 4096, 512]⟩
abbrev S4x4096x128 : Shape := ⟨3, ![4, 4096, 128]⟩
abbrev S32x8 : Shape := ⟨2, ![32, 8]⟩
abbrev S8 : Shape := ⟨1, ![8]⟩
abbrev S1024x1024 : Shape := ⟨2, ![1024, 1024]⟩
abbrev S_ : Shape := ⟨0, ![]⟩

class Facts : Prop where
  bcast_S_S4x4096x512 : S_.BroadcastsInDim S4x4096x512 (![] : Fin 0 → Fin S4x4096x512.rank)
  bcast_S_S4x4096x128 : S_.BroadcastsInDim S4x4096x128 (![] : Fin 0 → Fin S4x4096x128.rank)
  bcast_S_S32x8 : S_.BroadcastsInDim S32x8 (![] : Fin 0 → Fin S32x8.rank)
  bcast_S_S8 : S_.BroadcastsInDim S8 (![] : Fin 0 → Fin S8.rank)

variable [Facts]

def fn {F : FTy → Type} [FloatOps F] (main_arg0 : FVec F S4x4096x1024 .f32) (main_arg1 : FVec F S4x4096x512 .f32) (main_arg2 : FVec F S4x4096x128 .f32) (main_arg3 : FVec F S4x4096x128 .f32) (main_arg4 : FVec F S4x4096x512 .f32) (main_arg5 : FVec F S32x8 .f32) (main_arg6 : FVec F S8 .f32) (main_arg7 : FVec F S1024x1024 .f32) : IVec S4x4096x512 1 × IVec S4x4096x128 1 × IVec S32x8 1 × IVec S8 1 :=
  let main_v0 : FVec F S4x4096x512 .f32 := Host.absf main_arg1
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_v3 : FVec F S4x4096x128 .f32 := Host.absf main_arg2
  let main_cst_0 : FVec F S_ .f32 := constant S_ .f32 0x7F800000#32
  let main_v4 : FVec F S4x4096x128 .f32 := broadcastInDim S4x4096x128 ![] bcast_S_S4x4096x128 main_cst_0
  let main_v5 : IVec S4x4096x128 1 := cmpf .olt main_v3 main_v4
  let main_v6 : FVec F S32x8 .f32 := Host.absf main_arg5
  let main_cst_1 : FVec F S_ .f32 := constant S_ .f32 0x7F800000#32
  let main_v7 : FVec F S32x8 .f32 := broadcastInDim S32x8 ![] bcast_S_S32x8 main_cst_1
  let main_v8 : IVec S32x8 1 := cmpf .olt main_v6 main_v7
  let main_v9 : FVec F S8 .f32 := Host.absf main_arg6
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Kernel.lean ====
abbrev S4x4096x1024 : Shape := ⟨3, ![4, 4096, 1024]⟩
abbrev S4x4096x512 : Shape := ⟨3, ![4, 4096, 512]⟩
abbrev S4x4096x128 : Shape := ⟨3, ![4, 4096, 128]⟩
abbrev S32x8 : Shape := ⟨2, ![32, 8]⟩
abbrev S8 : Shape := ⟨1, ![8]⟩
abbrev S1024x1024 : Shape := ⟨2, ![1024, 1024]⟩
abbrev S4x4096x64 : Shape := ⟨3, ![4, 4096, 64]⟩
abbrev S4x4096x256 : Shape := ⟨3, ![4, 4096, 256]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S_ : Shape := ⟨0, ![]⟩
abbrev S3x128x384 : Shape := ⟨3, ![3, 128, 384]⟩
abbrev S1x1x384 : Shape := ⟨3, ![1, 1, 384]⟩
abbrev S3x1x384 : Shape := ⟨3, ![3, 1, 384]⟩
abbrev S3x8x128x384 : Shape := ⟨4, ![3, 8, 128, 384]⟩
abbrev S1x128x384 : Shape := ⟨3, ![1, 128, 384]⟩
abbrev S1x8x128x384 : Shape := ⟨4, ![1, 8, 128, 384]⟩
abbrev S1x1 : Shape := ⟨2, ![1, 1]⟩
abbrev S1x1x128x384 : Shape := ⟨4, ![1, 1, 128, 384]⟩
abbrev S512x1024 : Shape := ⟨2, ![512, 1024]⟩
abbrev S1x1024x1024 : Shape := ⟨3, ![1, 1024, 1024]⟩
abbrev S1x1024x512 : Shape := ⟨3, ![1, 1024, 512]⟩
abbrev S1x4096x256 : Shape := ⟨3, ![1, 4096, 256]⟩
abbrev S4x1280x128 : Shape := ⟨3, ![4, 1280, 128]⟩
abbrev S1024x512 : Shape := ⟨2, ![1024, 512]⟩
abbrev S8x128x384 : Shape := ⟨3, ![8, 128, 384]⟩
abbrev S1x128 : Shape := ⟨2, ![1, 128]⟩
abbrev S1x128x256 : Shape := ⟨3, ![1, 128, 256]⟩
abbrev S128x256 : Shape := ⟨2, ![128, 256]⟩
abbrev S128x128 : Shape := ⟨2, ![128, 128]⟩
abbrev S1x128x128 : Shape := ⟨3, ![1, 128, 128]⟩
abbrev S1x1024x256 : Shape := ⟨3, ![1, 1024, 256]⟩
abbrev S1024x256 : Shape := ⟨2, ![1024, 256]⟩
abbrev S1024x128 : Shape := ⟨2, ![1024, 128]⟩
abbrev S1x1024x128 : Shape := ⟨3, ![1, 1024, 128]⟩
abbrev S1x384x128 : Shape := ⟨3, ![1, 384, 128]⟩
abbrev S384x128 : Shape := ⟨2, ![384, 128]⟩
abbrev S1 : Shape := ⟨1, ![1]⟩
abbrev S1x256x1024 : Shape := ⟨3, ![1, 256, 1024]⟩
abbrev S256x1024 : Shape := ⟨2, ![256, 1024]⟩
abbrev S256x512 : Shape := ⟨2, ![256, 512]⟩
abbrev S1x256x512 : Shape := ⟨3, ![1, 256, 512]⟩

abbrev nBuf : Space → Nat
  | .hbm => 91
  | .vmem => 26
  | .smem => 2
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x128, .f32⟩
  | .hbm, ⟨3, _⟩ => ⟨S4x4096x128, .f32⟩
  | .hbm, ⟨4, _⟩ => ⟨S4x4096x512, .f32⟩
  | .hbm, ⟨5, _⟩ => ⟨S32x8, .f32⟩
  | .hbm, ⟨6, _⟩ => ⟨S8, .f32⟩
  | .hbm, ⟨7, _⟩ => ⟨S1024x1024, .f32⟩
  | .hbm, ⟨8, _⟩ => ⟨S4x4096x64, .f32⟩
  | .hbm, ⟨9, _⟩ => ⟨S4x4096x64, .f32⟩
  | .hbm, ⟨10, _⟩ => ⟨S4x4096x128, .f32⟩
  | .hbm, ⟨11, _⟩ => ⟨S4x4096x256, .f32⟩
  | .hbm, ⟨12, _⟩ => ⟨S4x4096x256, .bf16⟩
  | .hbm, ⟨13, _⟩ => ⟨S4x4096x64, .f32⟩
  | .hbm, ⟨14, _⟩ => ⟨S4x4096x64, .f32⟩
  | .hbm, ⟨15, _⟩ => ⟨S4x4096x128, .f32⟩
  | .hbm, ⟨16, _⟩ => ⟨S4x4096x256, .f32⟩
  | .hbm, ⟨17, _⟩ => ⟨S4x4096x256, .bf16⟩
  | .hbm, ⟨18, _⟩ => ⟨S4x4096x512, .bf16⟩
  | .hbm, ⟨19, _⟩ => ⟨S4x4096x512, .bf16⟩
  | .hbm, ⟨20, _⟩ => ⟨S128, .i32⟩
  | .hbm, ⟨21, _⟩ => ⟨S128x1, .i32⟩
  | .hbm, ⟨22, _⟩ => ⟨S384, .i32⟩
  | .hbm, ⟨23, _⟩ => ⟨S1x384, .i32⟩
  | .hbm, ⟨24, _⟩ => ⟨S128x384, .i32⟩
  | .hbm, ⟨25, _⟩ => ⟨S128x384, .i32⟩
  | .hbm, ⟨26, _⟩ => ⟨S128x384, .i32⟩
  | .hbm, ⟨27, _⟩ => ⟨S_, .i32⟩
  | .hbm, ⟨28, _⟩ => ⟨S128x384, .i32⟩
  | .hbm, ⟨29, _⟩ => ⟨S128x384, .i32⟩
  | .hbm, ⟨30, _⟩ => ⟨S3x128x384, .i32⟩
  | .hbm, ⟨31, _⟩ => ⟨S_, .i32⟩
  | .hbm, ⟨32, _⟩ => ⟨S1x384, .i32⟩
  | .hbm, ⟨33, _⟩ => ⟨S1x384, .i1⟩
  | .hbm, ⟨34, _⟩ => ⟨S_, .i32⟩
  | .hbm, ⟨35, _⟩ => ⟨S1x384, .i32⟩
  | .hbm, ⟨36, _⟩ => ⟨S1x384, .i1⟩
  | .hbm, ⟨37, _⟩ => ⟨S_, .i32⟩
  | .hbm, ⟨38, _⟩ => ⟨S1x384, .i32⟩
  | .hbm, ⟨39, _⟩ => ⟨S1x384, .i1⟩
  | .hbm, ⟨40, _⟩ => ⟨S1x1x384, .i1⟩
  | .hbm, ⟨41, _⟩ => ⟨S1x1x384, .i1⟩
  | .hbm, ⟨42, _⟩ => ⟨S1x1x384, .i1⟩
  | .hbm, ⟨43, _⟩ => ⟨S3x1x384, .i1⟩
  | .hbm, ⟨44, _⟩ => ⟨S_, .i32⟩
  | .hbm, ⟨45, _⟩ => ⟨S3x128x384, .i32⟩
  | .hbm, ⟨46, _⟩ => ⟨S3x128x384, .i1⟩
  | .hbm, ⟨47, _⟩ => ⟨S3x128x384, .i32⟩
  | .hbm, ⟨48, _⟩ => ⟨S_, .i32⟩
  | .hbm, ⟨49, _⟩ => ⟨S3x128x384, .i32⟩
  | .hbm, ⟨50, _⟩ => ⟨S3x128x384, .i32⟩
  | .hbm, ⟨51, _⟩ => ⟨S3x128x384, .i32⟩
  | .hbm, ⟨52, _⟩ => ⟨S_, .i32⟩
  | .hbm, ⟨53, _⟩ => ⟨S3x128x384, .i32⟩
  | .hbm, ⟨54, _⟩ => ⟨S3x128x384, .i32⟩
  | .hbm, ⟨55, _⟩ => ⟨S3x128x384, .f32⟩
  | .hbm, ⟨56, _⟩ => ⟨S_, .f32⟩
  | .hbm, ⟨57, _⟩ => ⟨S3x128x384, .f32⟩
  | .hbm, ⟨58, _⟩ => ⟨S3x128x384, .f32⟩
  | .hbm, ⟨59, _⟩ => ⟨S3x128x384, .f32⟩
  | .hbm, ⟨60, _⟩ => ⟨S_, .f32⟩
  | .hbm, ⟨61, _⟩ => ⟨S3x128x384, .f32⟩
  | .hbm, ⟨62, _⟩ => ⟨S3x128x384, .f32⟩
  | .hbm, ⟨63, _⟩ => ⟨S_, .f32⟩
  | .hbm, ⟨64, _⟩ => ⟨S3x128x384, .f32⟩
  | .hbm, ⟨65, _⟩ => ⟨S3x128x384, .f32⟩
  | .hbm, ⟨66, _⟩ => ⟨S3x128x384, .i32⟩
  | .hbm, ⟨67, _⟩ => ⟨S_, .i32⟩
  | .hbm, ⟨68, _⟩ => ⟨S3x128x384, .i32⟩
  | .hbm, ⟨69, _⟩ => ⟨S3x128x384, .i32⟩
  | .hbm, ⟨70, _⟩ => ⟨S_, .i32⟩
  | .hbm, ⟨71, _⟩ => ⟨S3x128x384, .i32⟩
  | .hbm, ⟨72, _⟩ => ⟨S3x128x384, .i32⟩
  | .hbm, ⟨73, _⟩ => ⟨S_, .i32⟩
  | .hbm, ⟨74, _⟩ => ⟨S3x128x384, .i32⟩
  | .hbm, ⟨75, _⟩ => ⟨S3x128x384, .i1⟩
  | .hbm, ⟨76, _⟩ => ⟨S3x128x384, .i32⟩
  | .hbm, ⟨77, _⟩ => ⟨S3x128x384, .i32⟩
  | .hbm, ⟨78, _⟩ => ⟨S3x128x384, .i32⟩
  | .hbm, ⟨79, _⟩ => ⟨S_, .i32⟩
  | .hbm, ⟨80, _⟩ => ⟨S3x128x384, .i32⟩
  | .hbm, ⟨81, _⟩ => ⟨S3x128x384, .i1⟩
  | .hbm, ⟨82, _⟩ => ⟨S3x128x384, .i1⟩
  | .hbm, ⟨83, _⟩ => ⟨S3x128x384, .i1⟩
  | .hbm, ⟨84, _⟩ => ⟨S3x128x384, .i32⟩
  | .hbm, ⟨85, _⟩ => ⟨S3x8x128x384, .f32⟩
  | .hbm, ⟨86, _⟩ => ⟨S512x1024, .f32⟩
  | .hbm, ⟨87, _⟩ => ⟨S512x1024, .bf16⟩
  | .hbm, ⟨88, _⟩ => ⟨S512x1024, .f32⟩
  | .hbm, ⟨89, _⟩ => ⟨S512x1024, .bf16⟩
  | .hbm, ⟨90, _⟩ => ⟨S4x4096x1024, .f32⟩
  | .local _ .vmem, ⟨0, _⟩ => ⟨S1x128x384, .i32⟩
  | .local _ .vmem, ⟨1, _⟩ => ⟨S1x128x384, .i32⟩
  | .local _ .vmem, ⟨2, _⟩ => ⟨S1x128x384, .i32⟩
  | .local _ .vmem, ⟨3, _⟩ => ⟨S1x128x384, .i32⟩
  | .local _ .vmem, ⟨4, _⟩ => ⟨S1x8x128x384, .f32⟩
  | .local _ .vmem, ⟨5, _⟩ => ⟨S1x8x128x384, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024x512, .bf16⟩
  | .local _ .vmem, ⟨9, _⟩ => ⟨S1x1024x512, .bf16⟩
  | .local _ .vmem, ⟨10, _⟩ => ⟨S1x4096x256, .bf16⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S1x1024x512, .bf16⟩
  | .local _ .vmem, ⟨15, _⟩ => ⟨S1x1024x512, .bf16⟩
  | .local _ .vmem, ⟨16, _⟩ => ⟨S3x8x128x384, .f32⟩
  | .local _ .vmem, ⟨17, _⟩ => ⟨S512x1024, .bf16⟩
  | .local _ .vmem, ⟨18, _⟩ => ⟨S512x1024, .bf16⟩
  | .local _ .vmem, ⟨19, _⟩ => ⟨S1x1024x1024, .f32⟩
  | .local _ .vmem, ⟨20, _⟩ => ⟨S1x1024x1024, .f32⟩
  | .local _ .vmem, ⟨21, _⟩ => ⟨S4x1280x128, .bf16⟩
  | .local _ .vmem, ⟨22, _⟩ => ⟨S4x1280x128, .bf16⟩
  | .local _ .vmem, ⟨23, _⟩ => ⟨S1024x512, .bf16⟩
  | .local _ .vmem, ⟨24, _⟩ => ⟨S8x128x384, .f32⟩
  | .local _ .vmem, ⟨25, _⟩ => ⟨S8x128x384, .f32⟩
  | .local _ .smem, ⟨0, _⟩ => ⟨S32x8, .f32⟩
  | .local _ .smem, ⟨1, _⟩ => ⟨S8, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call1_v0 : Ref sig .tc := ⟨.hbm, 13, rfl⟩
abbrev main_call1_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_8 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def k1_mult1 (i : grid1.Coords) : BitVec 32 :=
  let arg1 : BitVec 32 := BitVec.ofNat 32 (i 1).val
  let c1024_i32 : BitVec 32 := 1024#32
  let v0 : BitVec 32 := Scalar.muli arg1 c1024_i32
  v0
def k1_mult2 (i : grid1.Coords) : BitVec 32 :=
  let arg1 : BitVec 32 := BitVec.ofNat 32 (i 1).val
  let c1024_i32 : BitVec 32 := 1024#32
  let v0 : BitVec 32 := Scalar.muli arg1 c1024_i32
  let v1 : BitVec 32 := v0
  let c128_i32 : BitVec 32 := 128#32
  let v2 : BitVec 32 := Scalar.subi v1 c128_i32
  let c0_i32 : BitVec 32 := 0#32
  let v3 : BitVec 32 := Scalar.maxsi v2 c0_i32
  v3
def k1_mult3 (i : grid1.Coords) : BitVec 32 :=
  let arg1 : BitVec 32 := BitVec.ofNat 32 (i 1).val
  let c1024_i32 : BitVec 32 := 1024#32
  let v0 : BitVec 32 := Scalar.muli arg1 c1024_i32
  let v1 : BitVec 32 := v0
  let c1024_i32_0 : BitVec 32 := 1024#32
  let v5 : BitVec 32 := Scalar.addi v1 c1024_i32_0
  let c3968_i32 : BitVec 32 := 3968#32
  let v6 : BitVec 32 := Scalar.minsi v5 c3968_i32
  v6
def k1_off1 (i : grid1.Coords) : Fin 3 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := v0
  let c128_i32 : BitVec 32 := 128#32
  let v2 : BitVec 32 := Scalar.subi v1 c128_i32
  let c0_i32 : BitVec 32 := 0#32
  let v3 : BitVec 32 := Scalar.maxsi v2 c0_i32
  let v4 : BitVec 32 := v3
  let v11 : Index := Scalar.indexCast v4
  let c0_1 : Index := 0#32
  ![0, v11.toNat, 0]
def k1_off2 (i : grid1.Coords) : Fin 3 → Nat :=
  let c0_14 : Index := 0#32
  let arg1 : BitVec 32 := BitVec.ofNat 32 (i 1).val
  let c1024_i32 : BitVec 32 := 1024#32
  let v0 : BitVec 32 := Scalar.muli arg1 c1024_i32
  let v1 : BitVec 32 := v0
  let v44 : Index := Scalar.indexCast v1
  let c0_15 : Index := 0#32
  ![0, v44.toNat, 0]
def k1_off3 (i : grid1.Coords) : Fin 3 → Nat :=
  let c0_31 : Index := 0#32
  let arg1 : BitVec 32 := BitVec.ofNat 32 (i 1).val
  let c1024_i32 : BitVec 32 := 1024#32
  let v0 : BitVec 32 := Scalar.muli arg1 c1024_i32
  let v1 : BitVec 32 := v0
  let c1024_i32_0 : BitVec 32 := 1024#32
  let v5 : BitVec 32 := Scalar.addi v1 c1024_i32_0
  let c3968_i32 : BitVec 32 := 3968#32
  let v6 : BitVec 32 := Scalar.minsi v5 c3968_i32
  let v7 : BitVec 32 := v6
  let v77 : Index := Scalar.indexCast v7
  let c0_32 : Index := 0#32
  ![0, v77.toNat, 0]
def k1_mult4 (i : grid1.Coords) : BitVec 32 :=
  let arg1 : BitVec 32 := BitVec.ofNat 32 (i 1).val
  let c0_i32_102 : BitVec 32 := 0#32
  let v209 : BitVec 32 := Scalar.minsi arg1 c0_i32_102
  let c128_i32_103 : BitVec 32 := 128#32
  let v210 : BitVec 32 := Scalar.muli v209 c128_i32_103
  v210
def k1_off4 (i : grid1.Coords) : Fin 3 → Nat :=
  let c0_278 : Index := 0#32
  let arg1 : BitVec 32 := BitVec.ofNat 32 (i 1).val
  let c0_i32_102 : BitVec 32 := 0#32
  let v209 : BitVec 32 := Scalar.minsi arg1 c0_i32_102
  let c128_i32_103 : BitVec 32 := 128#32
  let v210 : BitVec 32 := Scalar.muli v209 c128_i32_103
  let v211 : BitVec 32 := v210
  let v409 : Index := Scalar.indexCast v211
  let c0_279 : Index := 0#32
  ![0, v409.toNat, 0]
def k1_off5 (i : grid1.Coords) (c0_i32_274 : BitVec 32) : Fin 4 → Nat :=
  let arg1 : BitVec 32 := BitVec.ofNat 32 (i 1).val
  let c1024_i32 : BitVec 32 := 1024#32
  let v0 : BitVec 32 := Scalar.muli arg1 c1024_i32
  let v1 : BitVec 32 := v0
  let v404 : BitVec 32 := Scalar.addi v1 c0_i32_274
  let c0_i32_275 : BitVec 32 := 0#32
  let v405 : BitVec 1 := Scalar.cmpi .eq v404 c0_i32_275
  let c1_i32 : BitVec 32 := 1#32
  let c3968_i32_276 : BitVec 32 := 3968#32
  let v406 : BitVec 1 := Scalar.cmpi .eq v404 c3968_i32_276
  let c2_i32 : BitVec 32 := 2#32
  let c0_i32_277 : BitVec 32 := 0#32
  let v407 : BitVec 32 := Scalar.select v406 c2_i32 c0_i32_277
  let v408 : BitVec 32 := Scalar.select v405 c1_i32 v407
  let v412 : Index := Scalar.indexCast v408
  let c0_280 : Index := 0#32
  let c0_281 : Index := 0#32
  let c0_282 : Index := 0#32
  ![v412.toNat, 0, 0, 0]
def k1_off6 (i : grid1.Coords) : Fin 3 → Nat :=
  let c1_290 : Index := 1#32
  let arg1 : BitVec 32 := BitVec.ofNat 32 (i 1).val
  let c0_i32_102 : BitVec 32 := 0#32
  let v209 : BitVec 32 := Scalar.minsi arg1 c0_i32_102
  let c128_i32_103 : BitVec 32 := 128#32
  let v210 : BitVec 32 := Scalar.muli v209 c128_i32_103
  let v211 : BitVec 32 := v210
  let v434 : Index := Scalar.indexCast v211
  let c0_291 : Index := 0#32
  ![1, v434.toNat, 0]
def k1_off7 (i : grid1.Coords) (c0_i32_274 : BitVec 32) : Fin 4 → Nat :=
  let arg1 : BitVec 32 := BitVec.ofNat 32 (i 1).val
  let c1024_i32 : BitVec 32 := 1024#32
  let v0 : BitVec 32 := Scalar.muli arg1 c1024_i32
  let v1 : BitVec 32 := v0
  let v404 : BitVec 32 := Scalar.addi v1 c0_i32_274
  let c0_i32_275 : BitVec 32 := 0#32
  let v405 : BitVec 1 := Scalar.cmpi .eq v404 c0_i32_275
  let c1_i32 : BitVec 32 := 1#32
  let c3968_i32_276 : BitVec 32 := 3968#32
  let v406 : BitVec 1 := Scalar.cmpi .eq v404 c3968_i32_276
  let c2_i32 : BitVec 32 := 2#32
  let c0_i32_277 : BitVec 32 := 0#32
  let v407 : BitVec 32 := Scalar.select v406 c2_i32 c0_i32_277
  let v408 : BitVec 32 := Scalar.select v405 c1_i32 v407
  let v437 : Index := Scalar.indexCast v408
  let c1_292 : Index := 1#32
  let c0_293 : Index := 0#32
  let c0_294 : Index := 0#32
  ![v437.toNat, 1, 0, 0]
def k1_off8 (i : grid1.Coords) : Fin 3 → Nat :=
  let c2_305 : Index := 2#32
  let arg1 : BitVec 32 := BitVec.ofNat 32 (i 1).val
  let c0_i32_102 : BitVec 32 := 0#32
  let v209 : BitVec 32 := Scalar.minsi arg1 c0_i32_102
  let c128_i32_103 : BitVec 32 := 128#32
  let v210 : BitVec 32 := Scalar.muli v209 c128_i32_103
  let v211 : BitVec 32 := v210
  let v475 : Index := Scalar.indexCast v211
  let c0_306 : Index := 0#32
  ![2, v475.toNat, 0]
def k1_off9 (i : grid1.Coords) (c0_i32_274 : BitVec 32) : Fin 4 → Nat :=
  let arg1 : BitVec 32 := BitVec.ofNat 32 (i 1).val
  let c1024_i32 : BitVec 32 := 1024#32
  let v0 : BitVec 32 := Scalar.muli arg1 c1024_i32
  let v1 : BitVec 32 := v0
  let v404 : BitVec 32 := Scalar.addi v1 c0_i32_274
  let c0_i32_275 : BitVec 32 := 0#32
  let v405 : BitVec 1 := Scalar.cmpi .eq v404 c0_i32_275
  let c1_i32 : BitVec 32 := 1#32
  let c3968_i32_276 : BitVec 32 := 3968#32
  let v406 : BitVec 1 := Scalar.cmpi .eq v404 c3968_i32_276
  let c2_i32 : BitVec 32 := 2#32
  let c0_i32_277 : BitVec 32 := 0#32
  let v407 : BitVec 32 := Scalar.select v406 c2_i32 c0_i32_277
  let v408 : BitVec 32 := Scalar.select v405 c1_i32 v407
  let v478 : Index := Scalar.indexCast v408
  let c2_307 : Index := 2#32
  let c0_308 : Index := 0#32
  let c0_309 : Index := 0#32
  ![v478.toNat, 2, 0, 0]
def k1_off10 (i : grid1.Coords) : Fin 3 → Nat :=
  let c3_317 : Index := 3#32
  let arg1 : BitVec 32 := BitVec.ofNat 32 (i 1).val
  let c0_i32_102 : BitVec 32 := 0#32
  let v209 : BitVec 32 := Scalar.minsi arg1 c0_i32_102
  let c128_i32_103 : BitVec 32 := 128#32
  let v210 : BitVec 32 := Scalar.muli v209 c128_i32_103
  let v211 : BitVec 32 := v210
  let v500 : Index := Scalar.indexCast v211
  let c0_318 : Index := 0#32
  ![3, v500.toNat, 0]
def k1_off11 (i : grid1.Coords) (c0_i32_274 : BitVec 32) : Fin 4 → Nat :=
  let arg1 : BitVec 32 := BitVec.ofNat 32 (i 1).val
  let c1024_i32 : BitVec 32 := 1024#32
  let v0 : BitVec 32 := Scalar.muli arg1 c1024_i32
  let v1 : BitVec 32 := v0
  let v404 : BitVec 32 := Scalar.addi v1 c0_i32_274
  let c0_i32_275 : BitVec 32 := 0#32
  let v405 : BitVec 1 := Scalar.cmpi .eq v404 c0_i32_275
  let c1_i32 : BitVec 32 := 1#32
  let c3968_i32_276 : BitVec 32 := 3968#32
  let v406 : BitVec 1 := Scalar.cmpi .eq v404 c3968_i32_276
  let c2_i32 : BitVec 32 := 2#32
  let c0_i32_277 : BitVec 32 := 0#32
  let v407 : BitVec 32 := Scalar.select v406 c2_i32 c0_i32_277
  let v408 : BitVec 32 := Scalar.select v405 c1_i32 v407
  let v503 : Index := Scalar.indexCast v408
  let c3_319 : Index := 3#32
  let c0_320 : Index := 0#32
  let c0_321 : Index := 0#32
  ![v503.toNat, 3, 0, 0]
def k1_off12 (i : grid1.Coords) : Fin 3 → Nat :=
  let c4_332 : Index := 4#32
  let arg1 : BitVec 32 := BitVec.ofNat 32 (i 1).val
  let c0_i32_102 : BitVec 32 := 0#32
  let v209 : BitVec 32 := Scalar.minsi arg1 c0_i32_102
  let c128_i32_103 : BitVec 32 := 128#32
  let v210 : BitVec 32 := Scalar.muli v209 c128_i32_103
  let v211 : BitVec 32 := v210
  let v541 : Index := Scalar.indexCast v211
  let c0_333 : Index := 0#32
  ![4, v541.toNat, 0]
def k1_off13 (i : grid1.Coords) (c0_i32_274 : BitVec 32) : Fin 4 → Nat :=
  let arg1 : BitVec 32 := BitVec.ofNat 32 (i 1).val
  let c1024_i32 : BitVec 32 := 1024#32
  let v0 : BitVec 32 := Scalar.muli arg1 c1024_i32
  let v1 : BitVec 32 := v0
  let v404 : BitVec 32 := Scalar.addi v1 c0_i32_274
  let c0_i32_275 : BitVec 32 := 0#32
  let v405 : BitVec 1 := Scalar.cmpi .eq v404 c0_i32_275
  let c1_i32 : BitVec 32 := 1#32
  let c3968_i32_276 : BitVec 32 := 3968#32
  let v406 : BitVec 1 := Scalar.cmpi .eq v404 c3968_i32_276
  let c2_i32 : BitVec 32 := 2#32
  let c0_i32_277 : BitVec 32 := 0#32
  let v407 : BitVec 32 := Scalar.select v406 c2_i32 c0_i32_277
  let v408 : BitVec 32 := Scalar.select v405 c1_i32 v407
  let v544 : Index := Scalar.indexCast v408
  let c4_334 : Index := 4#32
  let c0_335 : Index := 0#32
  let c0_336 : Index := 0#32
  ![v544.toNat, 4, 0, 0]
def k1_off14 (i : grid1.Coords) : Fin 3 → Nat :=
  let c5_344 : Index := 5#32
  let arg1 : BitVec 32 := BitVec.ofNat 32 (i 1).val
  let c0_i32_102 : BitVec 32 := 0#32
  let v209 : BitVec 32 := Scalar.minsi arg1 c0_i32_102
  let c128_i32_103 : BitVec 32 := 128#32
  let v210 : BitVec 32 := Scalar.muli v209 c128_i32_103
  let v211 : BitVec 32 := v210
  let v566 : Index := Scalar.indexCast v211
  let c0_345 : Index := 0#32
  ![5, v566.toNat, 0]
def k1_off15 (i : grid1.Coords) (c0_i32_274 : BitVec 32) : Fin 4 → Nat :=
  let arg1 : BitVec 32 := BitVec.ofNat 32 (i 1).val
  let c1024_i32 : BitVec 32 := 1024#32
  let v0 : BitVec 32 := Scalar.muli arg1 c1024_i32
  let v1 : BitVec 32 := v0
  let v404 : BitVec 32 := Scalar.addi v1 c0_i32_274
  let c0_i32_275 : BitVec 32 := 0#32
  let v405 : BitVec 1 := Scalar.cmpi .eq v404 c0_i32_275
  let c1_i32 : BitVec 32 := 1#32
  let c3968_i32_276 : BitVec 32 := 3968#32
  let v406 : BitVec 1 := Scalar.cmpi .eq v404 c3968_i32_276
  let c2_i32 : BitVec 32 := 2#32
  let c0_i32_277 : BitVec 32 := 0#32
  let v407 : BitVec 32 := Scalar.select v406 c2_i32 c0_i32_277
  let v408 : BitVec 32 := Scalar.select v405 c1_i32 v407
  let v569 : Index := Scalar.indexCast v408
  let c5_346 : Index := 5#32
  let c0_347 : Index := 0#32
  let c0_348 : Index := 0#32
  ![v569.toNat, 5, 0, 0]
def k1_off16 (i : grid1.Coords) : Fin 3 → Nat :=
  let c6_359 : Index := 6#32
  let arg1 : BitVec 32 := BitVec.ofNat 32 (i 1).val
  let c0_i32_102 : BitVec 32 := 0#32
  let v209 : BitVec 32 := Scalar.minsi arg1 c0_i32_102
  let c128_i32_103 : BitVec 32 := 128#32
  let v210 : BitVec 32 := Scalar.muli v209 c128_i32_103
  let v211 : BitVec 32 := v210
  let v607 : Index := Scalar.indexCast v211
  let c0_360 : Index := 0#32
  ![6, v607.toNat, 0]
def k1_off17 (i : grid1.Coords) (c0_i32_274 : BitVec 32) : Fin 4 → Nat :=
  let arg1 : BitVec 32 := BitVec.ofNat 32 (i 1).val
  let c1024_i32 : BitVec 32 := 1024#32
  let v0 : BitVec 32 := Scalar.muli arg1 c1024_i32
  let v1 : BitVec 32 := v0
  let v404 : BitVec 32 := Scalar.addi v1 c0_i32_274
  let c0_i32_275 : BitVec 32 := 0#32
  let v405 : BitVec 1 := Scalar.cmpi .eq v404 c0_i32_275
  let c1_i32 : BitVec 32 := 1#32
  let c3968_i32_276 : BitVec 32 := 3968#32
  let v406 : BitVec 1 := Scalar.cmpi .eq v404 c3968_i32_276
  let c2_i32 : BitVec 32 := 2#32
  let c0_i32_277 : BitVec 32 := 0#32
  let v407 : BitVec 32 := Scalar.select v406 c2_i32 c0_i32_277
  let v408 : BitVec 32 := Scalar.select v405 c1_i32 v407
  let v610 : Index := Scalar.indexCast v408
  let c6_361 : Index := 6#32
  let c0_362 : Index := 0#32
  let c0_363 : Index := 0#32
  ![v610.toNat, 6, 0, 0]
def k1_off18 (i : grid1.Coords) : Fin 3 → Nat :=
  let c7_371 : Index := 7#32
  let arg1 : BitVec 32 := BitVec.ofNat 32 (i 1).val
  let c0_i32_102 : BitVec 32 := 0#32
  let v209 : BitVec 32 := Scalar.minsi arg1 c0_i32_102
  let c128_i32_103 : BitVec 32 := 128#32
  let v210 : BitVec 32 := Scalar.muli v209 c128_i32_103
  let v211 : BitVec 32 := v210
  let v632 : Index := Scalar.indexCast v211
  let c0_372 : Index := 0#32
  ![7, v632.toNat, 0]
def k1_off19 (i : grid1.Coords) (c0_i32_274 : BitVec 32) : Fin 4 → Nat :=
  let arg1 : BitVec 32 := BitVec.ofNat 32 (i 1).val
  let c1024_i32 : BitVec 32 := 1024#32
  let v0 : BitVec 32 := Scalar.muli arg1 c1024_i32
  let v1 : BitVec 32 := v0
  let v404 : BitVec 32 := Scalar.addi v1 c0_i32_274
  let c0_i32_275 : BitVec 32 := 0#32
  let v405 : BitVec 1 := Scalar.cmpi .eq v404 c0_i32_275
  let c1_i32 : BitVec 32 := 1#32
  let c3968_i32_276 : BitVec 32 := 3968#32
  let v406 : BitVec 1 := Scalar.cmpi .eq v404 c3968_i32_276
  let c2_i32 : BitVec 32 := 2#32
  let c0_i32_277 : BitVec 32 := 0#32
  let v407 : BitVec 32 := Scalar.select v406 c2_i32 c0_i32_277
  let v408 : BitVec 32 := Scalar.select v405 c1_i32 v407
  let v635 : Index := Scalar.indexCast v408
  let c7_373 : Index := 7#32
  let c0_374 : Index := 0#32
  let c0_375 : Index := 0#32
  ![v635.toNat, 7, 0, 0]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S3x8x128x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S512x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x1024x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some ((8⁻¹ * (Real.log 2)⁻¹ : ℝ) : EReal)
  | _ => none
-- ==== ReferenceIdeal.lean ====
abbrev S4x4096x1024 : Shape := ⟨3, ![4, 4096, 1024]⟩
abbrev S4x4096x512 : Shape := ⟨3, ![4, 4096, 512]⟩
abbrev S4x4096x128 : Shape := ⟨3, ![4, 4096, 128]⟩
abbrev S32x8 : Shape := ⟨2, ![32, 8]⟩
abbrev S8 : Shape := ⟨1, ![8]⟩
abbrev S1024x1024 : Shape := ⟨2, ![1024, 1024]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S4x32x128x2x4x64 : Shape := ⟨6, ![4, 32, 128, 2, 4, 64]⟩
abbrev S4x4096x2x64 : Shape := ⟨4, ![4, 4096, 2, 64]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S4x32x2x384x128x4 : Shape := ⟨6, ![4, 32, 2, 384, 128, 4]⟩
abbrev S4x32x2x4x128x384 : Shape := ⟨6, ![4, 32, 2, 4, 128, 384]⟩
abbrev S1x1x2x4x128x384 : Shape := ⟨6, ![1, 1, 2, 4, 128, 384]⟩
abbrev S1x32x1x1x128x384 : Shape := ⟨6, ![1, 32, 1, 1, 128, 384]⟩
abbrev S2x4x1x1 : Shape := ⟨4, ![2, 4, 1, 1]⟩
abbrev S4x32x2x4x128 : Shape := ⟨5, ![4, 32, 2, 4, 128]⟩
abbrev S4x32x2x4x128x1 : Shape := ⟨6, ![4, 32, 2, 4, 128, 1]⟩
abbrev S1x1x2x4x1x1 : Shape := ⟨6, ![1, 1, 2, 4, 1, 1]⟩
abbrev S4x32x2x64x4x128 : Shape := ⟨6, ![4, 32, 2, 64, 4, 128]⟩

abbrev nBuf : Space → Nat
  | .hbm => 151
  | .vmem => 0
  | .smem => 0
  | _ => 0

abbrev hbmTy0_0 (i : Nat) : BufTy := match i % 128 with
  | 0 => ⟨S4x4096x1024, .f32⟩
  | 1 => ⟨S4x4096x512, .f32⟩
  | 2 => ⟨S4x4096x128, .f32⟩
  | 3 => ⟨S4x4096x128, .f32⟩
  | 4 => ⟨S4x4096x512, .f32⟩
  | 5 => ⟨S32x8, .f32⟩
  | 6 => ⟨S8, .f32⟩
  | 7 => ⟨S1024x1024, .f32⟩
  | 8 => ⟨S128, .i32⟩
  | 9 => ⟨S128x1, .i32⟩
  | 10 => ⟨S384, .i32⟩
  | 11 => ⟨S1x384, .i32⟩
  | 12 => ⟨S_, .i32⟩
  | 13 => ⟨S1x384, .i32⟩
  | 14 => ⟨S1x384, .i32⟩
  | 15 => ⟨S128x384, .i32⟩
  | 16 => ⟨S128x384, .i32⟩
  | 17 => ⟨S128x384, .i32⟩
  | 18 => ⟨S_, .i32⟩
  | 19 => ⟨S128x384, .i32⟩
  | 20 => ⟨S128x384, .i1⟩
  | 21 => ⟨S128x384, .i32⟩
  | 22 => ⟨S_, .i32⟩
  | 23 => ⟨S128x384, .i32⟩
  | 24 => ⟨S128x384, .i32⟩
  | 25 => ⟨S128x384, .i32⟩
  | 26 => ⟨S_, .i32⟩
  | 27 => ⟨S128x384, .i32⟩
  | 28 => ⟨S128x384, .i32⟩
  | 29 => ⟨S128x384, .f32⟩
  | 30 => ⟨S_, .f32⟩
  | 31 => ⟨S128x384, .f32⟩
  | 32 => ⟨S128x384, .f32⟩
  | 33 => ⟨S128x384, .f32⟩
  | 34 => ⟨S_, .f32⟩
  | 35 => ⟨S128x384, .f32⟩
  | 36 => ⟨S128x384, .f32⟩
  | 37 => ⟨S_, .f32⟩
  | 38 => ⟨S128x384, .f32⟩
  | 39 => ⟨S128x384, .f32⟩
  | 40 => ⟨S128x384, .i32⟩
  | 41 => ⟨S_, .i32⟩
  | 42 => ⟨S128x384, .i32⟩
  | 43 => ⟨S128x384, .i32⟩
  | 44 => ⟨S_, .i32⟩
  | 45 => ⟨S128x384, .i32⟩
  | 46 => ⟨S128x384, .i32⟩
  | 47 => ⟨S_, .i32⟩
  | 48 => ⟨S128x384, .i32⟩
  | 49 => ⟨S128x384, .i1⟩
  | 50 => ⟨S128x384, .i32⟩
  | 51 => ⟨S128x384, .i32⟩
  | 52 => ⟨S_, .i32⟩
  | 53 => ⟨S128x384, .i32⟩
  | 54 => ⟨S128x384, .i1⟩
  | 55 => ⟨S_, .i32⟩
  | 56 => ⟨S128x384, .i32⟩
  | 57 => ⟨S128x384, .i32⟩
  | 58 => ⟨S128x384, .i32⟩
  | 59 => ⟨S128x384x1, .i32⟩
  | 60 => ⟨S128x384x8, .f32⟩
  | 61 => ⟨S8x128x384, .f32⟩
  | 62 => ⟨S2x4x128x384, .f32⟩
  | 63 => ⟨S128x384, .i32⟩
  | 64 => ⟨S_, .i32⟩
  | 65 => ⟨S128x384, .i32⟩
  | 66 => ⟨S128x384, .i1⟩
  | 67 => ⟨S4x32x128x2x4x64, .f32⟩
  | 68 => ⟨S4x4096x2x64, .f32⟩
  | 69 => ⟨S_, .i32⟩
  | 70 => ⟨S_, .f32⟩
  | 71 => ⟨S4x4352x2x64, .f32⟩
  | 72 => ⟨S4x34x128x2x64, .f32⟩
  | 73 => ⟨S4x32x128x2x64, .f32⟩
  | 74 => ⟨S4x32x128x2x64, .f32⟩
  | 75 => ⟨S4x32x128x2x64, .f32⟩
  | 76 => ⟨S4x32x384x2x64, .f32⟩
  | 77 => ⟨S4x4096x2x64, .f32⟩
  | 78 => ⟨S_, .i32⟩
  | 79 => ⟨S_, .f32⟩
  | 80 => ⟨S4x4352x2x64, .f32⟩
  | 81 => ⟨S4x34x128x2x64, .f32⟩
  | 82 => ⟨S4x32x128x2x64, .f32⟩
  | 83 => ⟨S4x32x128x2x64, .f32⟩
  | 84 => ⟨S4x32x128x2x64, .f32⟩
  | 85 => ⟨S4x32x384x2x64, .f32⟩
  | 86 => ⟨S32, .i32⟩
  | 87 => ⟨S32x1, .i32⟩
  | 88 => ⟨S_, .i32⟩
  | 89 => ⟨S32x1, .i32⟩
  | 90 => ⟨S32x1, .i32⟩
  | 91 => ⟨S384, .i32⟩
  | 92 => ⟨S1x384, .i32⟩
  | 93 => ⟨S32x384, .i32⟩
  | 94 => ⟨S32x384, .i32⟩
  | 95 => ⟨S32x384, .i32⟩
  | 96 => ⟨S_, .i32⟩
  | 97 => ⟨S32x384, .i32⟩
  | 98 => ⟨S32x384, .i32⟩
  | 99 => ⟨S_, .i32⟩
  | 100 => ⟨S32x384, .i32⟩
  | 101 => ⟨S32x384, .i1⟩
  | 102 => ⟨S_, .i32⟩
  | 103 => ⟨S32x384, .i32⟩
  | 104 => ⟨S32x384, .i1⟩
  | 105 => ⟨S32x384, .i1⟩
  | 106 => ⟨S1x128x384, .i1⟩
  | 107 => ⟨S32x1x384, .i1⟩
  | 108 => ⟨S32x128x384, .i1⟩
  | 109 => ⟨S32x128x384, .i1⟩
  | 110 => ⟨S32x128x384, .i1⟩
  | 111 => ⟨S4x32x2x384x128x4, .f32⟩
  | 112 => ⟨S4x32x2x4x128x384, .f32⟩
  | 113 => ⟨S_, .f32⟩
  | 114 => ⟨S4x32x2x4x128x384, .f32⟩
  | 115 => ⟨S4x32x2x4x128x384, .f32⟩
  | 116 => ⟨S1x1x2x4x128x384, .f32⟩
  | 117 => ⟨S4x32x2x4x128x384, .f32⟩
  | 118 => ⟨S4x32x2x4x128x384, .f32⟩
  | 119 => ⟨S1x32x1x1x128x384, .i1⟩
  | 120 => ⟨S_, .f32⟩
  | 121 => ⟨S_, .f32⟩
  | 122 => ⟨S4x32x2x4x128x384, .i1⟩
  | 123 => ⟨S4x32x2x4x128x384, .f32⟩
  | 124 => ⟨S4x32x2x4x128x384, .f32⟩
  | 125 => ⟨S2x4x1x1, .f32⟩
  | 126 => ⟨S_, .f32⟩
  | 127 => ⟨S4x32x2x4x128, .f32⟩
  | _ => ⟨S4x4096x1024, .f32⟩

abbrev hbmTy0_1 (i : Nat) : BufTy := match i % 128 with
  | 0 => ⟨S4x32x2x4x128x1, .f32⟩
  | 1 => ⟨S1x1x2x4x1x1, .f32⟩
  | 2 => ⟨S4x32x2x4x128x1, .f32⟩
  | 3 => ⟨S4x32x2x4x128x1, .f32⟩
  | 4 => ⟨S4x32x2x4x128x384, .f32⟩
  | 5 => ⟨S4x32x2x4x128x384, .f32⟩
  | 6 => ⟨S4x32x2x4x128x384, .f32⟩
  | 7 => ⟨S_, .f32⟩
  | 8 => ⟨S4x32x2x4x128, .f32⟩
  | 9 => ⟨S4x32x2x4x128x1, .f32⟩
  | 10 => ⟨S1x1x2x4x1x1, .f32⟩
  | 11 => ⟨S4x32x2x4x128x1, .f32⟩
  | 12 => ⟨S4x32x2x4x128x1, .f32⟩
  | 13 => ⟨S4x32x2x4x128x1, .f32⟩
  | 14 => ⟨S4x32x2x4x128x1, .f32⟩
  | 15 => ⟨S4x32x2x4x128x384, .f32⟩
  | 16 => ⟨S4x32x2x4x128x384, .f32⟩
  | 17 => ⟨S4x32x2x64x4x128, .f32⟩
  | 18 => ⟨S4x32x128x2x4x64, .f32⟩
  | 19 => ⟨S4x4096x512, .f32⟩
  | 20 => ⟨S4x4096x1024, .f32⟩
  | 21 => ⟨S4x4096x1024, .f32⟩
  | 22 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_call2_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_18 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_20 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1024x2x11x256 : Shape := ⟨4, ![1024, 2, 11, 256]⟩
abbrev S2x11x1024x256 : Shape := ⟨4, ![2, 11, 1024, 256]⟩
abbrev S3x2x11x256 : Shape := ⟨4, ![3, 2, 11, 256]⟩
abbrev S2x11x3x256 : Shape := ⟨4, ![2, 11, 3, 256]⟩
abbrev S1x5632 : Shape := ⟨2, ![1, 5632]⟩
abbrev S1x2x11x256 : Shape := ⟨4, ![1, 2, 11, 256]⟩
abbrev S2x11x1x256 : Shape := ⟨4, ![2, 11, 1, 256]⟩
abbrev S11x256x1024 : Shape := ⟨3, ![11, 256, 1024]⟩
abbrev S1x1024x1024 : Shape := ⟨3, ![1, 1024, 1024]⟩
abbrev S1x8x1024 : Shape := ⟨3, ![1, 8, 1024]⟩
abbrev S1040x1024 : Shape := ⟨2, ![1040, 1024]⟩
abbrev S2x1040x128 : Shape := ⟨3, ![2, 1040, 128]⟩
abbrev S8x1024 : Shape := ⟨2, ![8, 1024]⟩
abbrev S8 : Shape := ⟨1, ![8]⟩
abbrev S8x1 : Shape := ⟨2, ![8, 1]⟩
abbrev S1024x1024 : Shape := ⟨2, ![1024, 1024]⟩
abbrev S1024x1 : Shape := ⟨2, ![1024, 1]⟩
abbrev S1x1x1024x256 : Shape := ⟨4, ![1, 1, 1024, 256]⟩
abbrev S1024x256 : Shape := ⟨2, ![1024, 256]⟩
abbrev S1040x256 : Shape := ⟨2, ![1040, 256]⟩
abbrev S1040x128 : Shape := ⟨2, ![1040, 128]⟩
abbrev S1x1040x128 : Shape := ⟨3, ![1, 1040, 128]⟩
abbrev S1x1x3x256 : Shape := ⟨4, ![1, 1, 3, 256]⟩
abbrev S3x256 : Shape := ⟨2, ![3, 256]⟩
abbrev S1x1x1x256 : Shape := ⟨4, ![1, 1, 1, 256]⟩
abbrev S1x256 : Shape := ⟨2, ![1, 256]⟩
abbrev S1x128 : Shape := ⟨2, ![1, 128]⟩
abbrev S1x1024x128 : Shape := ⟨3, ![1, 1024, 128]⟩
abbrev S1024x128 : Shape := ⟨2, ![1024, 128]⟩
abbrev S1x256x1024 : Shape := ⟨3, ![1, 256, 1024]⟩
abbrev S256x1024 : Shape := ⟨2, ![256, 1024]⟩

abbrev nBuf : Space → Nat
  | .hbm => 20
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1024x2x11x256, .bf16⟩
  | .hbm, ⟨10, _⟩ => ⟨S2x11x1024x256, .bf16⟩
  | .hbm, ⟨11, _⟩ => ⟨S3x2x11x256, .f32⟩
  | .hbm, ⟨12, _⟩ => ⟨S2x11x3x256, .f32⟩
  | .hbm, ⟨13, _⟩ => ⟨S1x5632, .f32⟩
  | .hbm, ⟨14, _⟩ => ⟨S1x2x11x256, .f32⟩
  | .hbm, ⟨15, _⟩ => ⟨S2x11x1x256, .f32⟩
  | .hbm, ⟨16, _⟩ => ⟨S2816x1024, .bf16⟩
  | .hbm, ⟨17, _⟩ => ⟨S11x256x1024, .bf16⟩
  | .hbm, ⟨18, _⟩ => ⟨S1x1024, .f32⟩
  | .hbm, ⟨19, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S2x11x1024x256, .bf16⟩
  | .local _ .vmem, ⟨8, _⟩ => ⟨S2x11x3x256, .f32⟩
  | .local _ .vmem, ⟨9, _⟩ => ⟨S2x11x1x256, .f32⟩
  | .local _ .vmem, ⟨10, _⟩ => ⟨S11x256x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1040x1024, .bf16⟩
  | .local _ .vmem, ⟨15, _⟩ => ⟨S2x1040x128, .f32⟩
  | .local _ .vmem, ⟨16, _⟩ => ⟨S2x1040x128, .f32⟩
  | .local _ .vmem, ⟨17, _⟩ => ⟨S2x1040x128, .f32⟩
  | .local _ .vmem, ⟨18, _⟩ => ⟨S2x1040x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_53 : BitVec 32 := 0#32
  let c2_i32 : BitVec 32 := 2#32
  let v90 : BitVec 32 := Scalar.addi c0_i32_53 c2_i32
  let c1_i32 : BitVec 32 := 1#32
  ⟨c0_i32_53, v90, c1_i32⟩
def k0_off1 (k0_t1 : Fin k0_t1_loop.trips) (c1_i32_363 : BitVec 32) : Fin 4 → Nat :=
  let c0_366 : Index := 0#32
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v535 : BitVec 32 := Scalar.addi v534 c1_i32_363
  let v537 : Index := Scalar.indexCast v535
  let c0_367 : Index := 0#32
  let c0_368 : Index := 0#32
  ![0, v537.toNat, 0, 0]
def k0_off2 (k0_t1 : Fin k0_t1_loop.trips) (c1_i32_363 : BitVec 32) : Fin 4 → Nat :=
  let c1_370 : Index := 1#32
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v535 : BitVec 32 := Scalar.addi v534 c1_i32_363
  let v541 : Index := Scalar.indexCast v535
  let c0_371 : Index := 0#32
  let c0_372 : Index := 0#32
  ![1, v541.toNat, 0, 0]
def k0_off3 (k0_t1 : Fin k0_t1_loop.trips) : Fin 4 → Nat :=
  let c0_386 : Index := 0#32
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v561 : Index := Scalar.indexCast v534
  let c0_387 : Index := 0#32
  let c0_388 : Index := 0#32
  ![0, v561.toNat, 0, 0]
def k0_off4 (k0_t1 : Fin k0_t1_loop.trips) : Fin 4 → Nat :=
  let c0_389 : Index := 0#32
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v564 : Index := Scalar.indexCast v534
  let c0_390 : Index := 0#32
  let c0_391 : Index := 0#32
  ![0, v564.toNat, 0, 0]
def k0_off5 (k0_t1 : Fin k0_t1_loop.trips) : Fin 4 → Nat :=
  let c1_401 : Index := 1#32
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v587 : Index := Scalar.indexCast v534
  let c0_402 : Index := 0#32
  let c0_403 : Index := 0#32
  ![1, v587.toNat, 0, 0]
def k0_off6 (k0_t1 : Fin k0_t1_loop.trips) : Fin 4 → Nat :=
  let c1_404 : Index := 1#32
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v590 : Index := Scalar.indexCast v534
  let c0_405 : Index := 0#32
  let c0_406 : Index := 0#32
  ![1, v590.toNat, 0, 0]
def k0_off7 (k0_t1 : Fin k0_t1_loop.trips) : Fin 3 → Nat :=
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v688 : Index := Scalar.indexCast v534
  let c0_455 : Index := 0#32
  let c0_456 : Index := 0#32
  ![v688.toNat, 0, 0]
def k0_off8 (k0_t1 : Fin k0_t1_loop.trips) (c1_i32_484 : BitVec 32) : Fin 4 → Nat :=
  let c0_485 : Index := 0#32
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v722 : BitVec 32 := Scalar.addi v534 c1_i32_484
  let v723 : Index := Scalar.indexCast v722
  let c0_486 : Index := 0#32
  let c0_487 : Index := 0#32
  ![0, v723.toNat, 0, 0]
def k0_off9 (k0_t1 : Fin k0_t1_loop.trips) (c1_i32_484 : BitVec 32) : Fin 4 → Nat :=
  let c0_488 : Index := 0#32
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v722 : BitVec 32 := Scalar.addi v534 c1_i32_484
  let v726 : Index := Scalar.indexCast v722
  let c0_489 : Index := 0#32
  let c0_490 : Index := 0#32
  ![0, v726.toNat, 0, 0]
def k0_off10 (k0_t1 : Fin k0_t1_loop.trips) (c1_i32_484 : BitVec 32) : Fin 4 → Nat :=
  let c1_500 : Index := 1#32
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v722 : BitVec 32 := Scalar.addi v534 c1_i32_484
  let v749 : Index := Scalar.indexCast v722
  let c0_501 : Index := 0#32
  let c0_502 : Index := 0#32
  ![1, v749.toNat, 0, 0]
def k0_off11 (k0_t1 : Fin k0_t1_loop.trips) (c1_i32_484 : BitVec 32) : Fin 4 → Nat :=
  let c1_503 : Index := 1#32
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v722 : BitVec 32 := Scalar.addi v534 c1_i32_484
  let v752 : Index := Scalar.indexCast v722
  let c0_504 : Index := 0#32
  let c0_505 : Index := 0#32
  ![1, v752.toNat, 0, 0]
def k0_off12 (k0_t1 : Fin k0_t1_loop.trips) (c1_i32_484 : BitVec 32) : Fin 3 → Nat :=
  let c4_i32 : BitVec 32 := 4#32
  let c0_i32_53 : BitVec 32 := 0#32
  let c1_i32 : BitVec 32 := 1#32
  let arg17 : BitVec 32 := Scf.iv c0_i32_53 c1_i32 k0_t1
  let v534 : BitVec 32 := Scalar.muli c4_i32 arg17
  let v722 : BitVec 32 := Scalar.addi v534 c1_i32_484
  let v850 : Index := Scalar.indexCast v722
  let c0_554 : Index := 0#32
  let c0_555 : Index := 0#32
  ![v850.toNat, 0, 0]
def k0_off13 (k0_t1 : Fin k0_t1_loop.trips) (c1_i32_562 : BitVec 32) : Fin 4 → Nat :=
  let c0_565 : Index := 0#32
  let c4_i32_560 : BitVec 32 := 4#32
  let c0_i32_53 : BitVec 32 := 0#32
  let c1_i32 : BitVec 32 := 1#32
  let arg17 : BitVec 32 := Scf.iv c0_i32_53 c1_i32 k0_t1
  let v858 : BitVec 32 := Scalar.muli c4_i32_560 arg17
  let c2_i32_561 : BitVec 32 := 2#32
  let v859 : BitVec 32 := Scalar.addi v858 c2_i32_561
  let v860 : BitVec 32 := Scalar.addi v859 c1_i32_562
  let v862 : Index := Scalar.indexCast v860
  let c0_566 : Index := 0#32
  let c0_567 : Index := 0#32
  ![0, v862.toNat, 0, 0]
def k0_off14 (k0_t1 : Fin k0_t1_loop.trips) (c1_i32_562 : BitVec 32) : Fin 4 → Nat :=
  let c1_569 : Index := 1#32
  let c4_i32_560 : BitVec 32 := 4#32
  let c0_i32_53 : BitVec 32 := 0#32
  let c1_i32 : BitVec 32 := 1#32
  let arg17 : BitVec 32 := Scf.iv c0_i32_53 c1_i32 k0_t1
  let v858 : BitVec 32 := Scalar.muli c4_i32_560 arg17
  let c2_i32_561 : BitVec 32 := 2#32
  let v859 : BitVec 32 := Scalar.addi v858 c2_i32_561
  let v860 : BitVec 32 := Scalar.addi v859 c1_i32_562
  let v866 : Index := Scalar.indexCast v860
  let c0_570 : Index := 0#32
  let c0_571 : Index := 0#32
  ![1, v866.toNat, 0, 0]
def k0_off15 (k0_t1 : Fin k0_t1_loop.trips) : Fin 4 → Nat :=
  let c0_684 : Index := 0#32
  let c4_i32_560 : BitVec 32 := 4#32
  let c0_i32_53 : BitVec 32 := 0#32
  let c1_i32 : BitVec 32 := 1#32
  let arg17 : BitVec 32 := Scf.iv c0_i32_53 c1_i32 k0_t1
  let v858 : BitVec 32 := Scalar.muli c4_i32_560 arg17
  let c2_i32_561 : BitVec 32 := 2#32
  let v859 : BitVec 32 := Scalar.addi v858 c2_i32_561
  let c1_i32_683 : BitVec 32 := 1#32
  let v1047 : BitVec 32 := Scalar.addi v859 c1_i32_683
  let v1048 : Index := Scalar.indexCast v1047
  let c0_685 : Index := 0#32
  let c0_686 : Index := 0#32
  ![0, v1048.toNat, 0, 0]
def k0_off16 (k0_t1 : Fin k0_t1_loop.trips) : Fin 4 → Nat :=
  let c0_687 : Index := 0#32
  let c4_i32_560 : BitVec 32 := 4#32
  let c0_i32_53 : BitVec 32 := 0#32
  let c1_i32 : BitVec 32 := 1#32
  let arg17 : BitVec 32 := Scf.iv c0_i32_53 c1_i32 k0_t1
  let v858 : BitVec 32 := Scalar.muli c4_i32_560 arg17
  let c2_i32_561 : BitVec 32 := 2#32
  let v859 : BitVec 32 := Scalar.addi v858 c2_i32_561
  let c1_i32_683 : BitVec 32 := 1#32
  let v1047 : BitVec 32 := Scalar.addi v859 c1_i32_683
  let v1051 : Index := Scalar.indexCast v1047
  let c0_688 : Index := 0#32
  let c0_689 : Index := 0#32
  ![0, v1051.toNat, 0, 0]
def k0_off17 (k0_t1 : Fin k0_t1_loop.trips) : Fin 4 → Nat :=
  let c1_699 : Index := 1#32
  let c4_i32_560 : BitVec 32 := 4#32
  let c0_i32_53 : BitVec 32 := 0#32
  let c1_i32 : BitVec 32 := 1#32
  let arg17 : BitVec 32 := Scf.iv c0_i32_53 c1_i32 k0_t1
  let v858 : BitVec 32 := Scalar.muli c4_i32_560 arg17
  let c2_i32_561 : BitVec 32 := 2#32
  let v859 : BitVec 32 := Scalar.addi v858 c2_i32_561
  let c1_i32_683 : BitVec 32 := 1#32
  let v1047 : BitVec 32 := Scalar.addi v859 c1_i32_683
  let v1074 : Index := Scalar.indexCast v1047
  let c0_700 : Index := 0#32
  let c0_701 : Index := 0#32
  ![1, v1074.toNat, 0, 0]
def k0_off18 (k0_t1 : Fin k0_t1_loop.trips) : Fin 4 → Nat :=
  let c1_702 : Index := 1#32
  let c4_i32_560 : BitVec 32 := 4#32
  let c0_i32_53 : BitVec 32 := 0#32
  let c1_i32 : BitVec 32 := 1#32
  let arg17 : BitVec 32 := Scf.iv c0_i32_53 c1_i32 k0_t1
  let v858 : BitVec 32 := Scalar.muli c4_i32_560 arg17
  let c2_i32_561 : BitVec 32 := 2#32
  let v859 : BitVec 32 := Scalar.addi v858 c2_i32_561
  let c1_i32_683 : BitVec 32 := 1#32
  let v1047 : BitVec 32 := Scalar.addi v859 c1_i32_683
  let v1077 : Index := Scalar.indexCast v1047
  let c0_703 : Index := 0#32
  let c0_704 : Index := 0#32
  ![1, v1077.toNat, 0, 0]
def k0_off19 (k0_t1 : Fin k0_t1_loop.trips) : Fin 3 → Nat :=
  let c4_i32_560 : BitVec 32 := 4#32
  let c0_i32_53 : BitVec 32 := 0#32
  let c1_i32 : BitVec 32 := 1#32
  let arg17 : BitVec 32 := Scf.iv c0_i32_53 c1_i32 k0_t1
  let v858 : BitVec 32 := Scalar.muli c4_i32_560 arg17
  let c2_i32_561 : BitVec 32 := 2#32
  let v859 : BitVec 32 := Scalar.addi v858 c2_i32_561
  let c1_i32_683 : BitVec 32 := 1#32
  let v1047 : BitVec 32 := Scalar.addi v859 c1_i32_683
  let v1175 : Index := Scalar.indexCast v1047
  let c0_753 : Index := 0#32
  let c0_754 : Index := 0#32
  ![v1175.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x11x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x11x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x11x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S4x4096x1024 : Shape := ⟨3, ![4, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x5632, .f32⟩
  | .hbm, ⟨24, _⟩ => ⟨S_, .i32⟩
  | .hbm, ⟨25, _⟩ => ⟨S_, .f32⟩
  | .hbm, ⟨26, _⟩ => ⟨S4x4098x5632, .f32⟩
  | .hbm, ⟨27, _⟩ => ⟨S4x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x4096x5632, .f32⟩
  | .hbm, ⟨32, _⟩ => ⟨S4x4096x5632, .f32⟩
  | .hbm, ⟨33, _⟩ => ⟨S4x4096x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S4x4096x5632, .f32⟩
  | .hbm, ⟨38, _⟩ => ⟨S4x4096x5632, .f32⟩
  | .hbm, ⟨39, _⟩ => ⟨S4x4096x5632, .f32⟩
  | .hbm, ⟨40, _⟩ => ⟨S4x4096x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S4x4096x5632, .f32⟩
  | .hbm, ⟨45, _⟩ => ⟨S4x4096x5632, .f32⟩
  | .hbm, ⟨46, _⟩ => ⟨S4x4096x5632, .f32⟩
  | .hbm, ⟨47, _⟩ => ⟨S1x1x5632, .f32⟩
  | .hbm, ⟨48, _⟩ => ⟨S4x4096x5632, .f32⟩
  | .hbm, ⟨49, _⟩ => ⟨S4x4096x5632, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S_, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_2 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Proof.Mixer.Model.lean ====
module

public import proofs.«01_k».proof.Proof.Gen.KernelIdeal.Frame

/-!
# What the attention call stores at one grid point, as a table

The run of the call's body (the generated `kernelRun1_A`) names every value it stores. Here the same stores are written
as functions of the block of queries and of the head, and the two are compared: the stores of the scores, of the
attention's output, and of the result.
-/

open Idealize.ShloMosaic
open Cert.KernelIdeal Cert.KernelIdeal.Gen

@[expose] public section

noncomputable section

namespace Cert.Mixer

open scoped Cert.KernelIdeal

/-- The lanes of the first head of a pair. -/
noncomputable abbrev lo : IVec S1x128 1 := cmpi .slt kernelRun1_A.sl.v8 kernelRun1_A.sl.v9

/-- The scores of one head: 128 queries against the 384 keys of their band. -/
noncomputable def scoreTile (q : Vec Ideal S1x128x128 .bf16) (k : Vec Ideal S1x384x128 .bf16) : FVec Ideal S1x128x384 .f32 :=
  k1_pay50 q k

section head
variable (s : Vec Ideal S1x128x384 .f32) (b : Vec Ideal S1x1x128x384 .f32) (σ : Elt Ideal .f32) (v : Vec Ideal S1x384x128 .bf16)

/-- The scores with the bias. -/
noncomputable def biased : FVec Ideal S128x384 .f32 :=
  addf (shapeCast S128x384 s shapeCasts_S1x128x384_S128x384) (shapeCast S128x384 b shapeCasts_S1x1x128x384_S128x384)

/-- The sink's logit, in powers of two. -/
noncomputable def sinkLog : Ideal .f32 := Scalar.mulf σ (Named.named κ "log2e" 0x3FB8AA3B#32)

/-- The largest score of a row, the sink among them. -/
noncomputable def rowMax : FVec Ideal S128x1 .f32 :=
  maximumf (shapeCast S128x1 (multiReduction .maximumf [1] S128 (biased s b) 0xFF800000#32 reduces_S128x384_S128 (.inl rfl) rfl) shapeCasts_S128_S128x1)
    (broadcast S128x1 (sinkLog σ))

/-- The weights times the values, in the lanes of the values' plane. -/
noncomputable def weighted : FVec Ideal S128x128 .f32 :=
  matmul dot_S128x384_S384x128_S128x128_1_0_0_1_n_n none
    (truncf .bf16 (exp2 (subf (biased s b) (broadcastTo S128x384 (rowMax s b σ) broadcasts_S128x1_S128x384))) bitsLt_bf16_f32)
    (shapeCast S384x128 v shapeCasts_S1x384x128_S384x128 : FVec Ideal S384x128 .bf16) (constant S128x128 .f32 0x00000000#32)

/-- The sink's weight, in every lane. -/
noncomputable def sinkWeight : FVec Ideal S128x128 .f32 :=
  broadcastTo S128x128 (shapeCast S128x1 (exp2 (subf (broadcast S128x1 (sinkLog σ)) (rowMax s b σ))) shapeCasts_S128x1_S128x1) broadcasts_S128x1_S128x128

end head

/-- Lanes `< 64` of the first, the others of the second. -/
noncomputable def pick (a b : FVec Ideal S128x128 .f32) : FVec Ideal S128x128 .f32 :=
  select (broadcastTo S128x128 (shapeCast S1x128 lo shapeCasts_S1x128_S1x128) broadcasts_S1x128_S128x128) a b

/-- The attention of a pair of heads: 128 queries, 64 lanes a head. -/
noncomputable def pairTile (s₀ : Vec Ideal S1x128x384 .f32) (b₀ : Vec Ideal S1x1x128x384 .f32) (σ₀ : Elt Ideal .f32) (v₀ : Vec Ideal S1x384x128 .bf16)
    (s₁ : Vec Ideal S1x128x384 .f32) (b₁ : Vec Ideal S1x1x128x384 .f32) (σ₁ : Elt Ideal .f32) (v₁ : Vec Ideal S1x384x128 .bf16) : FVec Ideal S128x128 .bf16 :=
  shapeCast S128x128 (truncf .bf16 (divf (pick (weighted s₀ b₀ σ₀ v₀) (weighted s₁ b₁ σ₁ v₁))
    (addf (dynamicRotate 1 64#32 none (pick (weighted s₁ b₁ σ₁ v₁) (weighted s₀ b₀ σ₀ v₀)) rotates_S128x128_d1)
      (pick (sinkWeight s₀ b₀ σ₀) (sinkWeight s₁ b₁ σ₁)))) bitsLt_bf16_f32) shapeCasts_S128x128_S128x128

/-- 256 rows of the result: the input, the attention through its weights, the convolution through its own. -/
noncomputable def outTile (x : Vec Ideal S1x256x1024 .f32) (y : Vec Ideal S256x512 .bf16) (wa : Vec Ideal S512x1024 .bf16)
    (cc : Vec Ideal S1x256x512 .bf16) (wc : Vec Ideal S512x1024 .bf16) : FVec Ideal S1x256x1024 .f32 :=
  shapeCast S1x256x1024 (addf (addf (shapeCast S256x1024 x shapeCasts_S1x256x1024_S256x1024)
      (matmul (φ₁ := .bf16) (φ₂ := .bf16) dot_S256x512_S512x1024_S256x1024_1_0_0_1_n_n none y (shapeCast S512x1024 wa shapeCasts_S512x1024_S512x1024 : FVec Ideal S512x1024 .bf16) (constant S256x1024 .f32 0x00000000#32)))
      (matmul (φ₁ := .bf16) (φ₂ := .bf16) dot_S256x512_S512x1024_S256x1024_1_0_0_1_n_n none (shapeCast S256x512 cc shapeCasts_S1x256x512_S256x512 : FVec Ideal S256x512 .bf16)
        (shapeCast S512x1024 wc shapeCasts_S512x1024_S512x1024 : FVec Ideal S512x1024 .bf16) (constant S256x1024 .f32 0x00000000#32))) shapeCasts_S256x1024_S1x256x1024

/-- The score buffer's row offset is zero at every point: `min(i, 0)` blocks. -/
theorem off4_zero (i : grid1.Coords) : k1_off4 i 1 = 0 := by
  have h := k1_off4_inb i 1
  have e : S1x128x384.size 1 = 128 := rfl
  have e' : S8x128x384.size 1 = 128 := rfl
  omega

/-- The table a block of queries takes: the first block of the sequence one, the last one another, the rest the plain one. -/
theorem off5_eq : ∀ (i : grid1.Coords) (jb : Fin 8), k1_off5 i (BitVec.ofNat 32 (128 * jb.val)) 0
    = if (i 1).val = 0 ∧ jb.val = 0 then 1 else if (i 1).val = 3 ∧ jb.val = 7 then 2 else 0 := by decide +kernel

section run
variable (c : Dev nD) (i : grid1.Coords) (arg2 : Memref sig .tc .smem S8 .f32) (harg2 : arg2.IsWhole) (arg3 : Memref sig .tc .vmem S1x1024x1024 .f32) (harg3 : arg3.IsWhole)
  (arg4 : Memref sig .tc .vmem S1x1024x512 .bf16) (harg4 : arg4.IsWhole) (arg5 : Memref sig .tc .vmem S1x4096x256 .bf16) (harg5 : arg5.IsWhole)
  (arg6 : Memref sig .tc .vmem S1x4096x256 .bf16) (harg6 : arg6.IsWhole) (arg7 : Memref sig .tc .vmem S1x1024x512 .bf16) (harg7 : arg7.IsWhole)
  (arg8 : Memref sig .tc .vmem S3x8x128x384 .f32) (harg8 : arg8.IsWhole) (arg9 : Memref sig .tc .vmem S512x1024 .bf16) (harg9 : arg9.IsWhole)
  (arg10 : Memref sig .tc .vmem S512x1024 .bf16) (harg10 : arg10.IsWhole)
  (arg12 arg13 : Memref sig .tc .vmem S4x1280x128 .bf16) (arg14 : Memref sig .tc .vmem S1024x512 .bf16) (arg15 arg16 : Memref sig .tc .vmem S8x128x384 .f32)
  (x0 : Vec Ideal S8 .f32) (x1 : Vec Ideal S1x1024x1024 .f32) (x2 : Vec Ideal S1x1024x512 .bf16) (x3 x4 : Vec Ideal S1x4096x256 .bf16) (x5 : Vec Ideal S1x1024x512 .bf16)
  (x6 : Vec Ideal S3x8x128x384 .f32) (x7 x8 : Vec Ideal S512x1024 .bf16)

/-- The plane of a head's keys. -/
noncomputable abbrev plane (n : Fin 8) : ℕ := 2 * (n.val / 4) + n.val % 2

theorem plane_inb (n jb : Fin 8) : ∀ a, (![plane n, jb.val * 128, 0] : Fin 3 → ℕ) a + S1x384x128.size a ≤ S4x1280x128.size a := by
  revert n jb; decide

/-- The band of keys (or values) of a head and a block. -/
noncomputable abbrev bandRect (n jb : Fin 8) : Rect S4x1280x128 := Rect.unit ![plane n, jb.val * 128, 0] S1x384x128.size (plane_inb n jb)

theorem q_inb (n jb : Fin 8) : ∀ a, (![0, jb.val * 128, n.val / 2 * 128] : Fin 3 → ℕ) a + S1x128x128.size a ≤ S1x1024x512.size a := by
  revert n jb; decide

noncomputable abbrev qRect (n jb : Fin 8) : Rect S1x1024x512 := Rect.unit ![0, jb.val * 128, n.val / 2 * 128] S1x128x128.size (q_inb n jb)

theorem s_inb (n : Fin 8) : ∀ a, (![n.val, 0, 0] : Fin 3 → ℕ) a + S1x128x384.size a ≤ S8x128x384.size a := by
  revert n; decide

/-- The store of one head's scores. -/
noncomputable def scorePiece (jb n : Fin 8) : View.Piece (Elt Ideal) S8x128x384 .f32 :=
  ⟨Rect.unit ![n.val, 0, 0] S1x128x384.size (s_inb n),
    scoreTile (View.readAt (Elt Ideal) arg4.view (qRect n jb).toLoadRect (harg4.unread x2))
      (arg12.view.readCov (kernelRun1_A.sl.HS0_12 c i arg5 harg5 x3) (bandRect n jb).toLoadRect)⟩

/-- The stores of a block's scores, last first. -/
noncomputable def scoreStage (jb : Fin 8) : List (View.Piece (Elt Ideal) S8x128x384 .f32) :=
  [7, 6, 5, 4, 3, 2, 1, 0].map (scorePiece c i arg4 harg4 arg5 harg5 arg12 x2 x3 jb)

variable (arg : Memref sig .tc .vmem S8x128x384 .f32) (LS : List (View.Piece (Elt Ideal) S8x128x384 .f32))

theorem d_inb (i : grid1.Coords) (n : Fin 8) : ∀ a, (![n.val, k1_off4 i 1, 0] : Fin 3 → ℕ) a + S1x128x384.size a ≤ S8x128x384.size a := by
  rw [off4_zero]; exact s_inb n

/-- The load of one head's scores. -/
noncomputable abbrev scoreLoad (n : Fin 8) : Vec Ideal S1x128x384 .f32 :=
  arg.view.readCov LS (Rect.unit (s := S8x128x384) ![n.val, k1_off4 i 1, 0] S1x128x384.size (d_inb i n)).toLoadRect

theorem b_inb (i : grid1.Coords) (n jb : Fin 8) : ∀ a, (![k1_off5 i (BitVec.ofNat 32 (128 * jb.val)) 0, n.val, 0, 0] : Fin 4 → ℕ) a + S1x1x128x384.size a ≤ S3x8x128x384.size a := by
  have h := k1_off5_inb i jb 0
  intro a
  fin_cases a
  · exact h
  · have := n.isLt; change n.val + 1 ≤ 8; omega
  · exact le_rfl
  · exact le_rfl

noncomputable abbrev biasLoad (jb n : Fin 8) : Vec Ideal S1x1x128x384 .f32 :=
  View.readAt (Elt Ideal) arg8.view (Rect.unit (s := S3x8x128x384) ![k1_off5 i (BitVec.ofNat 32 (128 * jb.val)) 0, n.val, 0, 0] S1x1x128x384.size (b_inb i n jb)).toLoadRect (harg8.unread x6)

theorem sink_inb (n : Fin 8) : ∀ a, (![n.val] : Fin 1 → ℕ) a + S1.size a ≤ S8.size a := by
  revert n; decide

noncomputable abbrev sinkLoad (n : Fin 8) : Elt Ideal .f32 :=
  View.readAt (Elt Ideal) arg2.view (Rect.unit (s := S8) ![n.val] S1.size (sink_inb n)).toLoadRect (harg2.unread x0) (Shape.Idx.first (show 0 < S1.numel by decide))

noncomputable abbrev valueLoad (jb n : Fin 8) : Vec Ideal S1x384x128 .bf16 :=
  arg13.view.readCov (kernelRun1_A.sl.HS1_12 c i arg6 harg6 x4) (bandRect n jb).toLoadRect

theorem y_inb (jb : Fin 8) (m : Fin 4) : ∀ a, (![jb.val * 128, m.val * 128] : Fin 2 → ℕ) a + S128x128.size a ≤ S1024x512.size a := by
  revert jb m; decide

/-- The store of a pair of heads' attention. -/
noncomputable def pairPiece (jb : Fin 8) (m : Fin 4) : View.Piece (Elt Ideal) S1024x512 .bf16 :=
  ⟨Rect.unit ![jb.val * 128, m.val * 128] S128x128.size (y_inb jb m),
    pairTile (scoreLoad i arg LS ⟨2 * m.val, by omega⟩) (biasLoad i arg8 harg8 x6 jb ⟨2 * m.val, by omega⟩) (sinkLoad arg2 harg2 x0 ⟨2 * m.val, by omega⟩)
      (valueLoad c i arg6 harg6 arg13 x4 jb ⟨2 * m.val, by omega⟩)
      (scoreLoad i arg LS ⟨2 * m.val + 1, by omega⟩) (biasLoad i arg8 harg8 x6 jb ⟨2 * m.val + 1, by omega⟩) (sinkLoad arg2 harg2 x0 ⟨2 * m.val + 1, by omega⟩)
      (valueLoad c i arg6 harg6 arg13 x4 jb ⟨2 * m.val + 1, by omega⟩)⟩

noncomputable def pairStage (jb : Fin 8) : List (View.Piece (Elt Ideal) S1024x512 .bf16) :=
  [3, 2, 1, 0].map (pairPiece c i arg2 harg2 arg6 harg6 arg8 harg8 arg13 x0 x4 x6 arg LS jb)

theorem HS3_8_eq : kernelRun1_A.sl.HS3_8 c i arg4 harg4 arg5 harg5 arg12 x2 x3 = scoreStage c i arg4 harg4 arg5 harg5 arg12 x2 x3 0 := rfl
theorem HS3_16_eq : kernelRun1_A.sl.HS3_16 c i arg4 harg4 arg5 harg5 arg12 x2 x3 = scoreStage c i arg4 harg4 arg5 harg5 arg12 x2 x3 2 ++ scoreStage c i arg4 harg4 arg5 harg5 arg12 x2 x3 0 := rfl
theorem HS4_8_eq : kernelRun1_A.sl.HS4_8 c i arg4 harg4 arg5 harg5 arg12 x2 x3 = scoreStage c i arg4 harg4 arg5 harg5 arg12 x2 x3 1 := rfl

theorem HS3_24_eq : kernelRun1_A.sl.HS3_24 c i arg4 harg4 arg5 harg5 arg12 x2 x3
    = scoreStage c i arg4 harg4 arg5 harg5 arg12 x2 x3 4 ++ (scoreStage c i arg4 harg4 arg5 harg5 arg12 x2 x3 2 ++ scoreStage c i arg4 harg4 arg5 harg5 arg12 x2 x3 0) := rfl
theorem HS3_32_eq : kernelRun1_A.sl.HS3_32 c i arg4 harg4 arg5 harg5 arg12 x2 x3
    = scoreStage c i arg4 harg4 arg5 harg5 arg12 x2 x3 6 ++ (scoreStage c i arg4 harg4 arg5 harg5 arg12 x2 x3 4 ++ (scoreStage c i arg4 harg4 arg5 harg5 arg12 x2 x3 2 ++ scoreStage c i arg4 harg4 arg5 harg5 arg12 x2 x3 0)) := rfl
theorem HS4_16_eq : kernelRun1_A.sl.HS4_16 c i arg4 harg4 arg5 harg5 arg12 x2 x3
    = scoreStage c i arg4 harg4 arg5 harg5 arg12 x2 x3 3 ++ scoreStage c i arg4 harg4 arg5 harg5 arg12 x2 x3 1 := rfl
theorem HS4_24_eq : kernelRun1_A.sl.HS4_24 c i arg4 harg4 arg5 harg5 arg12 x2 x3
    = scoreStage c i arg4 harg4 arg5 harg5 arg12 x2 x3 5 ++ (scoreStage c i arg4 harg4 arg5 harg5 arg12 x2 x3 3 ++ scoreStage c i arg4 harg4 arg5 harg5 arg12 x2 x3 1) := rfl
theorem HS4_32_eq : kernelRun1_A.sl.HS4_32 c i arg4 harg4 arg5 harg5 arg12 x2 x3
    = scoreStage c i arg4 harg4 arg5 harg5 arg12 x2 x3 7 ++ (scoreStage c i arg4 harg4 arg5 harg5 arg12 x2 x3 5 ++ (scoreStage c i arg4 harg4 arg5 harg5 arg12 x2 x3 3 ++ scoreStage c i arg4 harg4 arg5 harg5 arg12 x2 x3 1)) := rfl

theorem HS2_8_eq : kernelRun1_A.sl.HS2_8 c i arg2 harg2 arg4 harg4 arg5 harg5 arg6 harg6 arg8 harg8 arg12 arg13 arg15 arg16 x0 x2 x3 x4 x6
    = pairStage c i arg2 harg2 arg6 harg6 arg8 harg8 arg13 x0 x4 x6 arg16 (kernelRun1_A.sl.HS4_8 c i arg4 harg4 arg5 harg5 arg12 x2 x3) 1 ++ pairStage c i arg2 harg2 arg6 harg6 arg8 harg8 arg13 x0 x4 x6 arg15 (kernelRun1_A.sl.HS3_8 c i arg4 harg4 arg5 harg5 arg12 x2 x3) 0
 := by sl_kernel_rfl
theorem HS2_16_eq : kernelRun1_A.sl.HS2_16 c i arg2 harg2 arg4 harg4 arg5 harg5 arg6 harg6 arg8 harg8 arg12 arg13 arg15 arg16 x0 x2 x3 x4 x6
    = pairStage c i arg2 harg2 arg6 harg6 arg8 harg8 arg13 x0 x4 x6 arg16 (kernelRun1_A.sl.HS4_16 c i arg4 harg4 arg5 harg5 arg12 x2 x3) 3 ++ (pairStage c i arg2 harg2 arg6 harg6 arg8 harg8 arg13 x0 x4 x6 arg15 (kernelRun1_A.sl.HS3_16 c i arg4 harg4 arg5 harg5 arg12 x2 x3) 2 ++ kernelRun1_A.sl.HS2_8 c i arg2 harg2 arg4 harg4 arg5 harg5 arg6 harg6 arg8 harg8 arg12 arg13 arg15 arg16 x0 x2 x3 x4 x6)
 := by sl_kernel_rfl
theorem HS2_24_eq : kernelRun1_A.sl.HS2_24 c i arg2 harg2 arg4 harg4 arg5 harg5 arg6 harg6 arg8 harg8 arg12 arg13 arg15 arg16 x0 x2 x3 x4 x6
    = pairStage c i arg2 harg2 arg6 harg6 arg8 harg8 arg13 x0 x4 x6 arg16 (kernelRun1_A.sl.HS4_24 c i arg4 harg4 arg5 harg5 arg12 x2 x3) 5 ++ (pairStage c i arg2 harg2 arg6 harg6 arg8 harg8 arg13 x0 x4 x6 arg15 (kernelRun1_A.sl.HS3_24 c i arg4 harg4 arg5 harg5 arg12 x2 x3) 4 ++ kernelRun1_A.sl.HS2_16 c i arg2 harg2 arg4 harg4 arg5 harg5 arg6 harg6 arg8 harg8 arg12 arg13 arg15 arg16 x0 x2 x3 x4 x6)
 := by sl_kernel_rfl
theorem HS2_32_eq : kernelRun1_A.sl.HS2_32 c i arg2 harg2 arg4 harg4 arg5 harg5 arg6 harg6 arg8 harg8 arg12 arg13 arg15 arg16 x0 x2 x3 x4 x6
    = pairStage c i arg2 harg2 arg6 harg6 arg8 harg8 arg13 x0 x4 x6 arg16 (kernelRun1_A.sl.HS4_32 c i arg4 harg4 arg5 harg5 arg12 x2 x3) 7 ++ (pairStage c i arg2 harg2 arg6 harg6 arg8 harg8 arg13 x0 x4 x6 arg15 (kernelRun1_A.sl.HS3_32 c i arg4 harg4 arg5 harg5 arg12 x2 x3) 6 ++ kernelRun1_A.sl.HS2_24 c i arg2 harg2 arg4 harg4 arg5 harg5 arg6 harg6 arg8 harg8 arg12 arg13 arg15 arg16 x0 x2 x3 x4 x6)
 := by sl_kernel_rfl

theorem o_inb (p : Fin 4) : ∀ a, (![0, p.val * 256, 0] : Fin 3 → ℕ) a + S1x256x1024.size a ≤ S1x1024x1024.size a := by
  revert p; decide
theorem c_inb (p : Fin 4) : ∀ a, (![0, p.val * 256, 0] : Fin 3 → ℕ) a + S1x256x512.size a ≤ S1x1024x512.size a := by
  revert p; decide
theorem yl_inb (p : Fin 4) : ∀ a, (![p.val * 256, 0] : Fin 2 → ℕ) a + S256x512.size a ≤ S1024x512.size a := by
  revert p; decide

/-- The store of 256 rows of the result, from the attention's stores so far. -/
noncomputable def outPiece (LY : List (View.Piece (Elt Ideal) S1024x512 .bf16)) (p : Fin 4) : View.Piece (Elt Ideal) S1x1024x1024 .f32 :=
  ⟨Rect.unit ![0, p.val * 256, 0] S1x256x1024.size (o_inb p),
    outTile (View.readAt (Elt Ideal) arg3.view (Rect.unit (s := S1x1024x1024) ![0, p.val * 256, 0] S1x256x1024.size (o_inb p)).toLoadRect (harg3.unread x1))
      (arg14.view.readCov LY (Rect.unit (s := S1024x512) ![p.val * 256, 0] S256x512.size (yl_inb p)).toLoadRect)
      (View.readAt (Elt Ideal) arg9.view (Rect.unit (s := S512x1024) ![0, 0] S512x1024.size (by decide)).toLoadRect (harg9.unread x7))
      (View.readAt (Elt Ideal) arg7.view (Rect.unit (s := S1x1024x512) ![0, p.val * 256, 0] S1x256x512.size (c_inb p)).toLoadRect (harg7.unread x5))
      (View.readAt (Elt Ideal) arg10.view (Rect.unit (s := S512x1024) ![0, 0] S512x1024.size (by decide)).toLoadRect (harg10.unread x8))⟩

theorem out_eq (arg11 : Memref sig .tc .vmem S1x1024x1024 .f32) (harg11 : arg11.IsWhole) (harg12 : arg12.IsWhole) (harg13 : arg13.IsWhole) (harg14 : arg14.IsWhole) (harg15 : arg15.IsWhole) (harg16 : arg16.IsWhole) :
    (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).1
    = [outPiece arg3 harg3 arg7 harg7 arg9 harg9 arg10 harg10 arg14 x1 x5 x7 x8 (kernelRun1_A.sl.HS2_32 c i arg2 harg2 arg4 harg4 arg5 harg5 arg6 harg6 arg8 harg8 arg12 arg13 arg15 arg16 x0 x2 x3 x4 x6) 3,
       outPiece arg3 harg3 arg7 harg7 arg9 harg9 arg10 harg10 arg14 x1 x5 x7 x8 (kernelRun1_A.sl.HS2_24 c i arg2 harg2 arg4 harg4 arg5 harg5 arg6 harg6 arg8 harg8 arg12 arg13 arg15 arg16 x0 x2 x3 x4 x6) 2,
       outPiece arg3 harg3 arg7 harg7 arg9 harg9 arg10 harg10 arg14 x1 x5 x7 x8 (kernelRun1_A.sl.HS2_16 c i arg2 harg2 arg4 harg4 arg5 harg5 arg6 harg6 arg8 harg8 arg12 arg13 arg15 arg16 x0 x2 x3 x4 x6) 1,
       outPiece arg3 harg3 arg7 harg7 arg9 harg9 arg10 harg10 arg14 x1 x5 x7 x8 (kernelRun1_A.sl.HS2_8 c i arg2 harg2 arg4 harg4 arg5 harg5 arg6 harg6 arg8 harg8 arg12 arg13 arg15 arg16 x0 x2 x3 x4 x6) 0] := rfl

end run

end Cert.Mixer

end
-- ==== Proof.Mixer.Keys.lean ====
module

public import proofs.«01_k».proof.Proof.Mixer.Model
public import Idealize.ShloMosaic.Lib.Pointwise
public import Idealize.ShloMosaic.Lib.WholeRead
public import Idealize.ShloMosaic.Lib.Pipeline.CanonAppend
public import Idealize.ShloMosaic.Lib.Pipeline.ValueKit.Geometry

/-!
# The keys and the values of the bands

At a grid point the call lays out 1280 rows of keys (the point's 1024 and the 128 on either side, those past an end of
the sequence clamped) in four planes: plane `2 h + e` holds the 64 numbers of key head `h` in the first or the last 64
lanes, and a filling elsewhere. The values are laid out alike, with ones for the filling.
-/

open Idealize.ShloMosaic
open Cert.KernelIdeal Cert.KernelIdeal.Gen

set_option maxRecDepth 16384

@[expose] public section

namespace Cert.Mixer

/-- The row of the sequence that row `ρ` of the layout comes from. -/
def srcRow (t ρ : ℕ) : ℕ :=
  if ρ < 128 then (t * 1024 - 128) + ρ else if ρ < 1152 then t * 1024 + (ρ - 128) else min (t * 1024 + 1024) 3968 + (ρ - 1152)

theorem srcRow_lt {t ρ : ℕ} (ht : t < 4) (hρ : ρ < 1280) : srcRow t ρ < 4096 := by
  unfold srcRow; split_ifs <;> omega

/-- The column of the doubled keys that lane `l` of plane `p` comes from. -/
def srcCol (p l : ℕ) : ℕ := if p = 0 ∨ p = 3 then l else 128 + l

theorem srcCol_lt {p l : ℕ} (hl : l < 128) : srcCol p l < 256 := by
  unfold srcCol; split_ifs <;> omega

/-- The layout: plane, row, lane. -/
noncomputable def layout (fill : EReal) (t : Fin 4) (x : S1x4096x256.Idx → EReal) (y : S4x1280x128.Idx) : EReal :=
  if ((y 2).val < 64 ↔ (y 0).val % 2 = 0) then
    x (ix3 0 ⟨srcRow t.val (y 1).val, srcRow_lt t.isLt (y 1).isLt⟩ ⟨srcCol (y 0).val (y 2).val, srcCol_lt (y 2).isLt⟩)
  else fill

/-- One plane, from its two candidates and the filling. -/
noncomputable def planeSel {s : Shape} (p : Fin 4) (m : IVec s 1) (a b z : FVec Ideal s .bf16) : FVec Ideal s .bf16 :=
  match p with
  | 0 => select m a z
  | 1 => select m z b
  | 2 => select m b z
  | 3 => select m z a

/-- 128 rows of a plane. -/
noncomputable def planeTile (p : Fin 4) (z : Ideal .bf16) (w : Vec Ideal S1x128x256 .bf16) : FVec Ideal S1x128x128 .bf16 :=
  shapeCast S1x128x128 (planeSel p (broadcastTo S128x128 (shapeCast S1x128 lo shapeCasts_S1x128_S1x128) broadcasts_S1x128_S128x128)
    (k1_pay4 w) (k1_pay5 w) (broadcast S128x128 z)) shapeCasts_S128x128_S1x128x128

/-- 1024 rows of a plane. -/
noncomputable def planeTileL (p : Fin 4) (z : Ideal .bf16) (w : Vec Ideal S1x1024x256 .bf16) : FVec Ideal S1x1024x128 .bf16 :=
  shapeCast S1x1024x128 (planeSel p (broadcastTo S1024x128 (shapeCast S1x128 lo shapeCasts_S1x128_S1x128) broadcasts_S1x128_S1024x128)
    (k1_pay12 w) (k1_pay13 w) (broadcast S1024x128 z)) shapeCasts_S1024x128_S1x1024x128

/-- The fillings: zero for the keys, one for the values. -/
noncomputable abbrev fillK : Ideal .bf16 := FloatOps.ofBits .bf16 0x0000#16
noncomputable abbrev fillV : Ideal .bf16 := FloatOps.ofBits .bf16 0x3F80#16

theorem lane_lt : ∀ l : Fin 128, IntOp.cmpi CmpIPredicate.slt (BitVec.ofNat 32 l.val) 64#32 = if l.val < 64 then 1#1 else 0#1 := by decide

theorem sel_lane {α : Type} (l : Fin 128) (a b : α) :
    Scalar.select (IntOp.cmpi CmpIPredicate.slt (BitVec.ofNat 32 l.val) 64#32) a b = if l.val < 64 then a else b := by
  rw [lane_lt]; split_ifs <;> rfl

theorem planeTile_at (p : Fin 4) (z : Ideal .bf16) (w : Vec Ideal S1x128x256 .bf16) (r : Fin 128) (l : Fin 128) :
    planeTile p z w (ix3 0 r l) = if l.val < 64 ↔ p.val % 2 = 0 then w (ix3 0 r ⟨srcCol p.val l.val, srcCol_lt l.isLt⟩) else z := by
  fin_cases p <;> simp only [planeTile, planeSel] <;>
    pointwise [k1_pay4, k1_pay3, k1_pay5, lo, kernelRun1_A.sl.v8, kernelRun1_A.sl.v9] <;>
    rw [sel_lane] <;> by_cases h : l.val < 64 <;> simp [h, srcCol]

theorem planeTileL_at (p : Fin 4) (z : Ideal .bf16) (w : Vec Ideal S1x1024x256 .bf16) (r : Fin 1024) (l : Fin 128) :
    planeTileL p z w (ix3 0 r l) = if l.val < 64 ↔ p.val % 2 = 0 then w (ix3 0 r ⟨srcCol p.val l.val, srcCol_lt l.isLt⟩) else z := by
  fin_cases p <;> simp only [planeTileL, planeSel] <;>
    pointwise [k1_pay12, k1_pay11, k1_pay13, lo, kernelRun1_A.sl.v8, kernelRun1_A.sl.v9] <;>
    rw [sel_lane] <;> by_cases h : l.val < 64 <;> simp [h, srcCol]

section run
variable (c : Dev nD) (i : grid1.Coords) (argK : Memref sig .tc .vmem S1x4096x256 .bf16) (hargK : argK.IsWhole) (x : Vec Ideal S1x4096x256 .bf16) (z : Ideal .bf16)

theorem off1_eq : ∀ i : grid1.Coords, k1_off1 i = ![0, (i 1).val * 1024 - 128, 0] := by decide +kernel
theorem off2_eq : ∀ i : grid1.Coords, k1_off2 i = ![0, (i 1).val * 1024, 0] := by decide +kernel
theorem off3_eq : ∀ i : grid1.Coords, k1_off3 i = ![0, min ((i 1).val * 1024 + 1024) 3968, 0] := by decide +kernel

theorem p0_inb (p : Fin 4) : ∀ a, (![p.val, 0, 0] : Fin 3 → ℕ) a + S1x128x128.size a ≤ S4x1280x128.size a := by
  revert p; decide
theorem p1_inb (p : Fin 4) : ∀ a, (![p.val, 128, 0] : Fin 3 → ℕ) a + S1x1024x128.size a ≤ S4x1280x128.size a := by
  revert p; decide
theorem p2_inb (p : Fin 4) : ∀ a, (![p.val, 1152, 0] : Fin 3 → ℕ) a + S1x128x128.size a ≤ S4x1280x128.size a := by
  revert p; decide

/-- The rows before the point's, one plane. -/
noncomputable def leftPiece (p : Fin 4) : View.Piece (Elt Ideal) S4x1280x128 .bf16 :=
  ⟨Rect.unit ![p.val, 0, 0] S1x128x128.size (p0_inb p), planeTile p z (View.readAt (Elt Ideal) argK.view (Rect.unit (s := S1x4096x256) (k1_off1 i) S1x128x256.size (k1_off1_inb i)).toLoadRect (hargK.unread x))⟩
/-- The point's own rows, one plane. -/
noncomputable def midPiece (p : Fin 4) : View.Piece (Elt Ideal) S4x1280x128 .bf16 :=
  ⟨Rect.unit ![p.val, 128, 0] S1x1024x128.size (p1_inb p), planeTileL p z (View.readAt (Elt Ideal) argK.view (Rect.unit (s := S1x4096x256) (k1_off2 i) S1x1024x256.size (k1_off2_inb i)).toLoadRect (hargK.unread x))⟩
/-- The rows after the point's, one plane. -/
noncomputable def rightPiece (p : Fin 4) : View.Piece (Elt Ideal) S4x1280x128 .bf16 :=
  ⟨Rect.unit ![p.val, 1152, 0] S1x128x128.size (p2_inb p), planeTile p z (View.readAt (Elt Ideal) argK.view (Rect.unit (s := S1x4096x256) (k1_off3 i) S1x128x256.size (k1_off3_inb i)).toLoadRect (hargK.unread x))⟩

/-- All the stores of the layout. -/
noncomputable def layoutPieces : List (View.Piece (Elt Ideal) S4x1280x128 .bf16) :=
  [3, 2, 1, 0].map (rightPiece i argK hargK x z) ++ [3, 2, 1, 0].map (midPiece i argK hargK x z) ++ [3, 2, 1, 0].map (leftPiece i argK hargK x z)

theorem HS0_eq : kernelRun1_A.sl.HS0_12 c i argK hargK x = layoutPieces i argK hargK x fillK := by sl_kernel_rfl
theorem HS1_eq : kernelRun1_A.sl.HS1_12 c i argK hargK x = layoutPieces i argK hargK x fillV := by sl_kernel_rfl

theorem layout_at {fill : EReal} {t : Fin 4} {y : S4x1280x128.Idx} {p ρ l : ℕ} (h0 : (y 0).val = p) (h1 : (y 1).val = ρ) (h2 : (y 2).val = l) (hρ : ρ < 1280) (hl : l < 128) :
    layout fill t x y = if (l < 64 ↔ p % 2 = 0) then x (ix3 0 ⟨srcRow t.val ρ, srcRow_lt t.isLt hρ⟩ ⟨srcCol p l, srcCol_lt hl⟩) else fill := by
  subst h0 h1 h2; rfl

theorem split3 {A B C : ℕ} (y : (⟨3, ![A, B, C]⟩ : Shape).Idx) : y = ix3 (y 0) (y 1) (y 2) := by
  funext k; fin_cases k <;> rfl

theorem read_at {R : ℕ} (off : Fin 3 → ℕ) (inb : ∀ a, off a + (⟨3, ![1, R, 256]⟩ : Shape).size a ≤ S1x4096x256.size a) (h0 : off 0 = 0) (h2 : off 2 = 0) (r : Fin R) (col : Fin 256) (ρ : Fin 4096) (h1 : off 1 + r.val = ρ.val) :
    View.readAt (Elt Ideal) argK.view (Rect.unit (s := S1x4096x256) off (⟨3, ![1, R, 256]⟩ : Shape).size inb).toLoadRect (hargK.unread x) (ix3 0 r col) = x (ix3 0 ρ col) := by
  rw [Memref.IsWhole.readAt_unread hargK]
  congr 1
  funext a
  apply Fin.ext
  refine (ValueKit.rect_emb_unit_val (s := S1x4096x256) off _ inb _ a).trans ?_
  fin_cases a
  · change off 0 + 0 = 0; omega
  · exact h1
  · change off 2 + col.val = col.val; omega

theorem block (p : Fin 4) (R a₀ b₀ : ℕ) (hR : a₀ + R ≤ 1280) (off : Fin 3 → ℕ) (inb : ∀ a, off a + (⟨3, ![1, R, 256]⟩ : Shape).size a ≤ S1x4096x256.size a) (hoff : off = ![0, b₀, 0])
    (inb' : ∀ a, (![p.val, a₀, 0] : Fin 3 → ℕ) a + (⟨3, ![1, R, 128]⟩ : Shape).size a ≤ S4x1280x128.size a)
    (T : Vec Ideal ⟨3, ![1, R, 256]⟩ .bf16 → FVec Ideal ⟨3, ![1, R, 128]⟩ .bf16)
    (hT : ∀ w (r : Fin R) (l : Fin 128), T w (ix3 0 r l) = if l.val < 64 ↔ p.val % 2 = 0 then w (ix3 0 r ⟨srcCol p.val l.val, srcCol_lt l.isLt⟩) else z)
    (hs : ∀ r : Fin R, b₀ + r.val = srcRow (i 1).val (a₀ + r.val)) (y : (⟨3, ![1, R, 128]⟩ : Shape).Idx) :
    T (View.readAt (Elt Ideal) argK.view (Rect.unit (s := S1x4096x256) off (⟨3, ![1, R, 256]⟩ : Shape).size inb).toLoadRect (hargK.unread x)) y
      = layout z (i 1) x ((Rect.unit (s := S4x1280x128) ![p.val, a₀, 0] (⟨3, ![1, R, 128]⟩ : Shape).size inb').emb y) := by
  obtain ⟨r, l, rfl⟩ : ∃ (r : Fin R) (l : Fin 128), y = ix3 0 r l := ⟨y 1, y 2, (split3 y).trans (by congr 1; exact Subsingleton.elim (α := Fin 1) _ _)⟩
  have hv := ValueKit.rect_emb_unit_val (s := S4x1280x128) ![p.val, a₀, 0] _ inb' (ix3 0 r l)
  have hr : a₀ + r.val < 1280 := by have := r.isLt; omega
  refine Eq.trans ?_ (layout_at x (p := p.val) (ρ := a₀ + r.val) (l := l.val) (hv 0) (hv 1) ((hv 2).trans (Nat.zero_add _)) hr l.isLt).symm
  rw [hT, read_at argK hargK x off inb (by rw [hoff]; rfl) (by rw [hoff]; rfl) r _ ⟨srcRow (i 1) (a₀ + r.val), srcRow_lt (i 1).isLt hr⟩
    (by rw [hoff]; exact hs r)]

theorem left_block (p : Fin 4) (y) : (leftPiece i argK hargK x z p).2 y = layout z (i 1) x ((leftPiece i argK hargK x z p).1.emb y) :=
  block i argK hargK x z p 128 0 ((i 1).val * 1024 - 128) (by omega) _ (k1_off1_inb i) (off1_eq i) (p0_inb p) (planeTile p z) (planeTile_at p z)
    (fun r => by have := r.isLt; unfold srcRow; split_ifs <;> omega) y
theorem mid_block (p : Fin 4) (y) : (midPiece i argK hargK x z p).2 y = layout z (i 1) x ((midPiece i argK hargK x z p).1.emb y) :=
  block i argK hargK x z p 1024 128 ((i 1).val * 1024) (by omega) _ (k1_off2_inb i) (off2_eq i) (p1_inb p) (planeTileL p z) (planeTileL_at p z)
    (fun r => by have := r.isLt; unfold srcRow; split_ifs <;> omega) y
theorem right_block (p : Fin 4) (y) : (rightPiece i argK hargK x z p).2 y = layout z (i 1) x ((rightPiece i argK hargK x z p).1.emb y) :=
  block i argK hargK x z p 128 1152 (min ((i 1).val * 1024 + 1024) 3968) (by omega) _ (k1_off3_inb i) (off3_eq i) (p2_inb p) (planeTile p z) (planeTile_at p z)
    (fun r => by have := r.isLt; unfold srcRow; split_ifs <;> omega) y

/-- What the layout's stores leave. -/
theorem layout_canon (y : S4x1280x128.Idx) : View.canon (layoutPieces i argK hargK x z) y = layout z (i 1) x y := by
  have h := View.canon_append_of_pieces (layout z (i 1) x) [] (layoutPieces i argK hargK x z) ?_ y ?_
  · rwa [List.append_nil] at h
  · intro q hq w
    simp only [layoutPieces, List.mem_append, List.mem_map] at hq
    rcases hq with (⟨p, -, rfl⟩ | ⟨p, -, rfl⟩) | ⟨p, -, rfl⟩
    · exact right_block i argK hargK x z p w
    · exact mid_block i argK hargK x z p w
    · exact left_block i argK hargK x z p w
  · have h1 : (y 1).val < 1280 := (y 1).isLt
    have h2 : (y 2).val < 128 := (y 2).isLt
    have hp : ∀ p : Fin 4, p ∈ [(3 : Fin 4), 2, 1, 0] := by decide
    by_cases ha : (y 1).val < 128
    · refine ⟨leftPiece i argK hargK x z (y 0), List.mem_append_right _ (List.mem_map_of_mem (hp _)), (Rect.mem_set_unit (inb := p0_inb (y 0))).mpr fun a => ?_⟩
      fin_cases a
      · exact ⟨le_rfl, Nat.lt_succ_self _⟩
      · exact ⟨Nat.zero_le _, by change (y 1).val < 0 + 128; omega⟩
      · exact ⟨Nat.zero_le _, by change (y 2).val < 0 + 128; omega⟩
    · by_cases hb : (y 1).val < 1152
      · refine ⟨midPiece i argK hargK x z (y 0), List.mem_append_left _ (List.mem_append_right _ (List.mem_map_of_mem (hp _))), (Rect.mem_set_unit (inb := p1_inb (y 0))).mpr fun a => ?_⟩
        fin_cases a
        · exact ⟨le_rfl, Nat.lt_succ_self _⟩
        · exact ⟨by change 128 ≤ (y 1).val; omega, by change (y 1).val < 128 + 1024; omega⟩
        · exact ⟨Nat.zero_le _, by change (y 2).val < 0 + 128; omega⟩
      · refine ⟨rightPiece i argK hargK x z (y 0), List.mem_append_left _ (List.mem_append_left _ (List.mem_map_of_mem (hp _))), (Rect.mem_set_unit (inb := p2_inb (y 0))).mpr fun a => ?_⟩
        fin_cases a
        · exact ⟨le_rfl, Nat.lt_succ_self _⟩
        · exact ⟨by change 1152 ≤ (y 1).val; omega, by change (y 1).val < 1152 + 128; omega⟩
        · exact ⟨Nat.zero_le _, by change (y 2).val < 0 + 128; omega⟩

/-- A band of the layout. -/
theorem band_at (arg : Memref sig .tc .vmem S4x1280x128 .bf16) (n jb : Fin 8) (k : Fin 384) (l : Fin 128) :
    arg.view.readCov (layoutPieces i argK hargK x z) (bandRect n jb).toLoadRect (ix3 0 k l)
      = if (l.val < 64 ↔ n.val % 2 = 0) then x (ix3 0 ⟨srcRow (i 1).val (jb.val * 128 + k.val), srcRow_lt (i 1).isLt (by omega)⟩ ⟨srcCol (plane n) l.val, srcCol_lt l.isLt⟩) else z := by
  rw [View.readCov_eq_canon']
  have hv := ValueKit.rect_emb_unit_val (s := S4x1280x128) ![plane n, jb.val * 128, 0] _ (plane_inb n jb) (ix3 0 k l)
  refine (layout_canon i argK hargK x z _).trans ?_
  refine (layout_at x (p := plane n) (ρ := jb.val * 128 + k.val) (l := l.val) (hv 0) (hv 1) ((hv 2).trans (Nat.zero_add _)) (by omega) l.isLt).trans ?_
  have : plane n % 2 = n.val % 2 := by unfold plane; omega
  simp only [this]

end run

end Cert.Mixer
-- ==== Proof.Mixer.Pair.lean ====
module

public import proofs.«01_k».proof.Proof.Mixer.Keys
public import Idealize.ShloMosaic.Lib.Pointwise

/-!
# One tile of the attention, number by number
-/

open Idealize.ShloMosaic
open Cert.KernelIdeal Cert.KernelIdeal.Gen

set_option maxRecDepth 16384

@[expose] public section

namespace Cert.Mixer

theorem ofBits_bot : Ideal.ofBits FTy.f32 4286578688#32 = (⊥ : EReal) := by simp [Ideal.ofBits, Ideal.ieee]

/-- One number of the attention from a row of scores, the values and their ones, and the sink: powers of two. -/
noncomputable def attn2 (s v o : Fin 384 → EReal) (σ : EReal) : EReal :=
  Ideal.div (∑ k, Ideal.exp2 (s k - max (Finset.univ.sup s) σ) * v k)
    (∑ k, Ideal.exp2 (s k - max (Finset.univ.sup s) σ) * o k + Ideal.exp2 (σ - max (Finset.univ.sup s) σ))

theorem pick_at (a b : FVec Ideal S128x128 .f32) (r l : Fin 128) : pick a b (ix2 r l) = if l.val < 64 then a (ix2 r l) else b (ix2 r l) := by
  pointwise [pick, lo, kernelRun1_A.sl.v8, kernelRun1_A.sl.v9]
  exact sel_lane l _ _

theorem scoreTile_at (q : Vec Ideal S1x128x128 .bf16) (k : Vec Ideal S1x384x128 .bf16) (r : Fin 128) (j : Fin 384) :
    scoreTile q k (ix3 0 r j) = ∑ l : Fin 128, (q (ix3 0 r l) * ((8⁻¹ * (Real.log 2)⁻¹ : ℝ) : EReal)) * k (ix3 0 j l) := by
  pointwise [scoreTile, k1_pay50]
  rfl

section head
variable (s : Vec Ideal S1x128x384 .f32) (b : Vec Ideal S1x1x128x384 .f32) (σ : Elt Ideal .f32) (v : Vec Ideal S1x384x128 .bf16)

noncomputable def srow (r : Fin 128) (k : Fin 384) : EReal := s (ix3 0 r k) + b (ix4 0 0 r k)

theorem biased_at (r : Fin 128) (k : Fin 384) : biased s b (ix2 r k) = srow s b r k := by
  pointwise [biased]
  rfl

theorem rowMax_at (r : Fin 128) : rowMax s b σ (ix2 r 0) = max (Finset.univ.sup (srow s b r)) (sinkLog σ) := by
  pointwise [rowMax]
  rw [show Ideal.ofBits FTy.f32 4286578688#32 = (⊥ : EReal) from ofBits_bot]
  simp only [biased_at]
  rfl

theorem weighted_at (r l : Fin 128) : weighted s b σ v (ix2 r l) = ∑ k, Ideal.exp2 (srow s b r k - max (Finset.univ.sup (srow s b r)) (sinkLog σ)) * v (ix3 0 k l) := by
  pointwise [weighted]
  simp only [biased_at, rowMax_at]
  rfl

theorem sinkWeight_at (r l : Fin 128) : sinkWeight s b σ (ix2 r l) = Ideal.exp2 (sinkLog σ - max (Finset.univ.sup (srow s b r)) (sinkLog σ)) := by
  pointwise [sinkWeight]
  rw [rowMax_at]
  rfl

end head

theorem pairTile_at (s₀ : Vec Ideal S1x128x384 .f32) (b₀ : Vec Ideal S1x1x128x384 .f32) (σ₀ : Elt Ideal .f32) (v₀ : Vec Ideal S1x384x128 .bf16)
    (s₁ : Vec Ideal S1x128x384 .f32) (b₁ : Vec Ideal S1x1x128x384 .f32) (σ₁ : Elt Ideal .f32) (v₁ : Vec Ideal S1x384x128 .bf16) (r l : Fin 128) :
    pairTile s₀ b₀ σ₀ v₀ s₁ b₁ σ₁ v₁ (ix2 r l) = if l.val < 64
      then attn2 (srow s₀ b₀ r) (fun k => v₀ (ix3 0 k l)) (fun k => v₀ (ix3 0 k ⟨(l.val + 64) % 128, Nat.mod_lt _ (by decide)⟩)) (sinkLog σ₀)
      else attn2 (srow s₁ b₁ r) (fun k => v₁ (ix3 0 k l)) (fun k => v₁ (ix3 0 k ⟨(l.val + 64) % 128, Nat.mod_lt _ (by decide)⟩)) (sinkLog σ₁) := by
  pointwise [pairTile]
  simp only [pick_at, weighted_at, sinkWeight_at]
  have e : (l.val + 128 - 64) % 128 = (l.val + 64) % 128 := by omega
  by_cases h : l.val < 64
  · have h' : ¬ (l.val + 64) % 128 < 64 := by omega
    simp only [h, e, h', if_true, if_false]; rfl
  · have h' : (l.val + 64) % 128 < 64 := by omega
    simp only [h, e, h', if_true, if_false]; rfl

theorem outTile_at (x : Vec Ideal S1x256x1024 .f32) (y : Vec Ideal S256x512 .bf16) (wa : Vec Ideal S512x1024 .bf16)
    (cc : Vec Ideal S1x256x512 .bf16) (wc : Vec Ideal S512x1024 .bf16) (r : Fin 256) (j : Fin 1024) :
    outTile x y wa cc wc (ix3 0 r j) = x (ix3 0 r j) + (∑ k : Fin 512, y (ix2 r k) * wa (ix2 k j)) + ∑ k : Fin 512, cc (ix3 0 r k) * wc (ix2 k j) := by
  pointwise [outTile]

end Cert.Mixer
-- ==== Proof.Mixer.Point.lean ====
module

public import proofs.«01_k».proof.Proof.Mixer.Pair

/-!
# The attention call at one grid point

The loads of the run read what the stores before them left, so every number of the block the call stores is a formula in
the blocks it was given.
-/

open Idealize.ShloMosaic
open Cert.KernelIdeal Cert.KernelIdeal.Gen

set_option maxRecDepth 16384

@[expose] public section

namespace Cert.Mixer

/-- The reciprocal of `8 log 2`. -/
noncomputable abbrev qScale : EReal := ((8⁻¹ * (Real.log 2)⁻¹ : ℝ) : EReal)

theorem fillK_eq : (fillK : EReal) = 0 := by simp [fillK, FloatOps.ofBits, Ideal.ofBits, Ideal.ieee]
theorem fillV_eq : (fillV : EReal) = 1 := by simp [fillV, FloatOps.ofBits, Ideal.ofBits, Ideal.ieee]; rw [show ((128 : ℝ) : EReal) * ((2 ^ 7 : ℝ)⁻¹ : ℝ) = ((128 * (2 ^ 7)⁻¹ : ℝ) : EReal) from (EReal.coe_mul _ _).symm]; norm_num

/-- A sum over 128 lanes of which only one half counts. -/
theorem half_sum (e : ℕ) (he : e < 2) (Q K : Fin 128 → EReal) :
    ∑ l : Fin 128, Q l * (if (l.val < 64 ↔ e = 0) then K l else 0) = ∑ d : Fin 64, Q ⟨e * 64 + d.val, by omega⟩ * K ⟨e * 64 + d.val, by omega⟩ := by
  refine (Fin.sum_univ_add (a := 64) (b := 64) fun l : Fin 128 => Q l * (if (l.val < 64 ↔ e = 0) then K l else 0)).trans ?_
  rcases (by omega : e = 0 ∨ e = 1) with rfl | rfl
  · refine Eq.trans (congrArg₂ _ (Finset.sum_congr rfl fun d _ => ?_) (Finset.sum_eq_zero fun d _ => ?_)) (add_zero _)
    · rw [if_pos (by have := d.isLt; rw [Fin.val_castAdd]; omega)]
      congr 2 <;> exact Fin.ext (by simp)
    · rw [if_neg (by rw [Fin.val_natAdd]; omega), mul_zero]
  · refine Eq.trans (congrArg₂ _ (Finset.sum_eq_zero fun d _ => ?_) (Finset.sum_congr rfl fun d _ => ?_)) (zero_add _)
    · rw [if_neg (by have := d.isLt; rw [Fin.val_castAdd]; omega), mul_zero]
    · rw [if_pos (by rw [Fin.val_natAdd]; omega)]
      congr 2

theorem split2 {A B : ℕ} (y : (⟨2, ![A, B]⟩ : Shape).Idx) : y = ix2 (y 0) (y 1) := by
  funext k; fin_cases k <;> rfl

section math
variable (t : Fin 4) (x0 : Vec Ideal S8 .f32) (x2 : Vec Ideal S1x1024x512 .bf16) (x3 x4 : Vec Ideal S1x4096x256 .bf16) (x6 : Vec Ideal S3x8x128x384 .f32)

/-- The score of a query against a key of its band, head `n`, block `jb`. -/
noncomputable def score (n jb : Fin 8) (r : Fin 128) (k : Fin 384) : EReal :=
  ∑ d : Fin 64, (x2 (ix3 0 ⟨jb.val * 128 + r.val, by omega⟩ ⟨n.val * 64 + d.val, by omega⟩) * qScale)
    * x3 (ix3 0 ⟨srcRow t.val (jb.val * 128 + k.val), srcRow_lt t.isLt (by omega)⟩ ⟨srcCol (plane n) (n.val % 2 * 64 + d.val), srcCol_lt (by omega)⟩)

/-- Which of the three tables a block of queries takes. -/
noncomputable def variant (t : Fin 4) (jb : Fin 8) : Fin 3 := if t.val = 0 ∧ jb.val = 0 then 1 else if t.val = 3 ∧ jb.val = 7 then 2 else 0

/-- One number of the attention. -/
noncomputable def yAt (n jb : Fin 8) (r : Fin 128) (d : Fin 64) : EReal :=
  attn2 (fun k => score t x2 x3 n jb r k + x6 (ix4 (variant t jb) n r k))
    (fun k => x4 (ix3 0 ⟨srcRow t.val (jb.val * 128 + k.val), srcRow_lt t.isLt (by omega)⟩ ⟨srcCol (plane n) (n.val % 2 * 64 + d.val), srcCol_lt (by omega)⟩))
    (fun _ => 1) (sinkLog (x0 (ix1 n)))

/-- The same by the row of the block and the column. -/
noncomputable def yRow (ρ : Fin 1024) (a : Fin 512) : EReal :=
  yAt t x0 x2 x3 x4 x6 ⟨a.val / 64, by omega⟩ ⟨ρ.val / 128, by omega⟩ ⟨ρ.val % 128, by omega⟩ ⟨a.val % 64, by omega⟩

end math

section run
variable (c : Dev nD) (i : grid1.Coords) (arg2 : Memref sig .tc .smem S8 .f32) (harg2 : arg2.IsWhole) (arg3 : Memref sig .tc .vmem S1x1024x1024 .f32) (harg3 : arg3.IsWhole)
  (arg4 : Memref sig .tc .vmem S1x1024x512 .bf16) (harg4 : arg4.IsWhole) (arg5 : Memref sig .tc .vmem S1x4096x256 .bf16) (harg5 : arg5.IsWhole)
  (arg6 : Memref sig .tc .vmem S1x4096x256 .bf16) (harg6 : arg6.IsWhole) (arg7 : Memref sig .tc .vmem S1x1024x512 .bf16) (harg7 : arg7.IsWhole)
  (arg8 : Memref sig .tc .vmem S3x8x128x384 .f32) (harg8 : arg8.IsWhole) (arg9 : Memref sig .tc .vmem S512x1024 .bf16) (harg9 : arg9.IsWhole)
  (arg10 : Memref sig .tc .vmem S512x1024 .bf16) (harg10 : arg10.IsWhole)
  (arg12 arg13 : Memref sig .tc .vmem S4x1280x128 .bf16) (arg14 : Memref sig .tc .vmem S1024x512 .bf16) (arg15 arg16 : Memref sig .tc .vmem S8x128x384 .f32)
  (x0 : Vec Ideal S8 .f32) (x1 : Vec Ideal S1x1024x1024 .f32) (x2 : Vec Ideal S1x1024x512 .bf16) (x3 x4 : Vec Ideal S1x4096x256 .bf16) (x5 : Vec Ideal S1x1024x512 .bf16)
  (x6 : Vec Ideal S3x8x128x384 .f32) (x7 x8 : Vec Ideal S512x1024 .bf16)

theorem q_at (n jb : Fin 8) (r l : Fin 128) :
    View.readAt (Elt Ideal) arg4.view (qRect n jb).toLoadRect (harg4.unread x2) (ix3 0 r l) = x2 (ix3 0 ⟨jb.val * 128 + r.val, by omega⟩ ⟨n.val / 2 * 128 + l.val, by omega⟩) := by
  rw [Memref.IsWhole.readAt_unread harg4]
  congr 1
  funext a
  apply Fin.ext
  refine (ValueKit.rect_emb_unit_val (s := S1x1024x512) _ _ (q_inb n jb) _ a).trans ?_
  fin_cases a
  · rfl
  · rfl
  · rfl

theorem scorePiece_at (jb n : Fin 8) (r : Fin 128) (k : Fin 384) :
    (scorePiece c i arg4 harg4 arg5 harg5 arg12 x2 x3 jb n).2 (ix3 0 r k) = score (i 1) x2 x3 n jb r k := by
  refine (scoreTile_at _ _ r k).trans ?_
  rw [HS0_eq]
  have h : ∀ l : Fin 128, (View.readAt (Elt Ideal) arg4.view (qRect n jb).toLoadRect (harg4.unread x2) (ix3 0 r l) * qScale)
      * arg12.view.readCov (layoutPieces i arg5 harg5 x3 fillK) (bandRect n jb).toLoadRect (ix3 0 k l)
      = (x2 (ix3 0 ⟨jb.val * 128 + r.val, by omega⟩ ⟨n.val / 2 * 128 + l.val, by omega⟩) * qScale) * (if (l.val < 64 ↔ n.val % 2 = 0) then x3 (ix3 0 ⟨srcRow (i 1).val (jb.val * 128 + k.val), srcRow_lt (i 1).isLt (by omega)⟩ ⟨srcCol (plane n) l.val, srcCol_lt l.isLt⟩) else 0) := fun l => by
    rw [q_at, band_at, fillK_eq]
  refine (Finset.sum_congr rfl fun l _ => h l).trans ?_
  refine (half_sum (n.val % 2) (Nat.mod_lt _ (by decide)) (fun l => x2 (ix3 0 ⟨jb.val * 128 + r.val, by omega⟩ ⟨n.val / 2 * 128 + l.val, by omega⟩) * qScale)
    (fun l => x3 (ix3 0 ⟨srcRow (i 1).val (jb.val * 128 + k.val), srcRow_lt (i 1).isLt (by omega)⟩ ⟨srcCol (plane n) l.val, srcCol_lt l.isLt⟩))).trans ?_
  refine Finset.sum_congr rfl fun d _ => ?_
  have e : (⟨n.val / 2 * 128 + (n.val % 2 * 64 + d.val), by omega⟩ : Fin 512) = ⟨n.val * 64 + d.val, by omega⟩ := Fin.ext (by change n.val / 2 * 128 + (n.val % 2 * 64 + d.val) = n.val * 64 + d.val; omega)
  exact congrArg (fun z => x2 (ix3 0 ⟨jb.val * 128 + r.val, by omega⟩ z) * qScale * _) e

/-- The numbers of a stage's stores. -/
theorem scoreStage_at (jb : Fin 8) (T) (n : Fin 8) (r : Fin 128) (k : Fin 384) :
    View.canon (scoreStage c i arg4 harg4 arg5 harg5 arg12 x2 x3 jb ++ T) (ix3 n r k) = score (i 1) x2 x3 n jb r k := by
  refine View.canon_append_of_pieces (S := S8x128x384) (fun y => score (i 1) x2 x3 (y 0) jb (y 1) (y 2)) T (scoreStage c i arg4 harg4 arg5 harg5 arg12 x2 x3 jb) ?_ (ix3 n r k) ?_
  · intro q hq w
    simp only [scoreStage, List.mem_map] at hq
    obtain ⟨p, -, rfl⟩ := hq
    obtain ⟨r, k, rfl⟩ : ∃ (r : Fin 128) (k : Fin 384), w = ix3 0 r k := ⟨w 1, w 2, (split3 w).trans (by congr 1; exact Subsingleton.elim (α := Fin 1) _ _)⟩
    refine (scorePiece_at c i arg4 harg4 arg5 harg5 arg12 x2 x3 jb p r k).trans ?_
    have hv := ValueKit.rect_emb_unit_val (s := S8x128x384) ![p.val, 0, 0] _ (s_inb p) (ix3 0 r k)
    have h0 : (Rect.unit (s := S8x128x384) ![p.val, 0, 0] S1x128x384.size (s_inb p)).emb (ix3 0 r k) = ix3 p r k := by
      funext a; apply Fin.ext; refine (hv a).trans ?_
      fin_cases a
      · rfl
      · exact Nat.zero_add _
      · exact Nat.zero_add _
    change _ = score (i 1) x2 x3 ((Rect.unit (s := S8x128x384) ![p.val, 0, 0] S1x128x384.size (s_inb p)).emb (ix3 0 r k) 0) jb _ _
    rw [h0]
    exact congrArg (fun y : S8x128x384.Idx => score (i 1) x2 x3 (y 0) jb (y 1) (y 2)) h0.symm
  · have hp : ∀ p : Fin 8, p ∈ [(7 : Fin 8), 6, 5, 4, 3, 2, 1, 0] := by decide
    refine ⟨scorePiece c i arg4 harg4 arg5 harg5 arg12 x2 x3 jb n, List.mem_map_of_mem (hp _), (Rect.mem_set_unit (inb := s_inb n)).mpr fun a => ?_⟩
    fin_cases a
    · exact ⟨le_rfl, Nat.lt_succ_self _⟩
    · exact ⟨Nat.zero_le _, by have := r.isLt; change r.val < 0 + 128; omega⟩
    · exact ⟨Nat.zero_le _, by have := k.isLt; change k.val < 0 + 384; omega⟩

variable (arg : Memref sig .tc .vmem S8x128x384 .f32)

theorem scoreLoad_at (jb : Fin 8) (T) (n : Fin 8) (r : Fin 128) (k : Fin 384) :
    scoreLoad i arg (scoreStage c i arg4 harg4 arg5 harg5 arg12 x2 x3 jb ++ T) n (ix3 0 r k) = score (i 1) x2 x3 n jb r k := by
  rw [scoreLoad, View.readCov_eq_canon']
  refine Eq.trans (congrArg _ ?_) (scoreStage_at c i arg4 harg4 arg5 harg5 arg12 x2 x3 jb T n r k)
  funext a; apply Fin.ext
  refine (ValueKit.rect_emb_unit_val (s := S8x128x384) _ _ (d_inb i n) _ a).trans ?_
  fin_cases a
  · rfl
  · change k1_off4 i 1 + r.val = r.val; rw [off4_zero, Nat.zero_add]
  · exact Nat.zero_add _

theorem biasLoad_at (jb n : Fin 8) (r : Fin 128) (k : Fin 384) : biasLoad i arg8 harg8 x6 jb n (ix4 0 0 r k) = x6 (ix4 (variant (i 1) jb) n r k) := by
  rw [biasLoad, Memref.IsWhole.readAt_unread harg8]
  congr 1
  funext a; apply Fin.ext
  refine (ValueKit.rect_emb_unit_val (s := S3x8x128x384) _ _ (b_inb i n jb) _ a).trans ?_
  fin_cases a
  · change k1_off5 i (BitVec.ofNat 32 (128 * jb.val)) 0 + 0 = (variant (i 1) jb).val
    rw [off5_eq]; unfold variant; split_ifs <;> rfl
  · rfl
  · exact Nat.zero_add _
  · exact Nat.zero_add _

theorem sinkLoad_at (n : Fin 8) : sinkLoad arg2 harg2 x0 n = x0 (ix1 n) := by
  rw [sinkLoad, Memref.IsWhole.readAt_unread harg2]
  congr 1
  funext a; apply Fin.ext
  refine (ValueKit.rect_emb_unit_val (s := S8) _ _ (sink_inb n) _ a).trans ?_
  fin_cases a
  rfl

theorem valueLoad_at (jb n : Fin 8) (k : Fin 384) (l : Fin 128) : valueLoad c i arg6 harg6 arg13 x4 jb n (ix3 0 k l)
    = if (l.val < 64 ↔ n.val % 2 = 0) then x4 (ix3 0 ⟨srcRow (i 1).val (jb.val * 128 + k.val), srcRow_lt (i 1).isLt (by omega)⟩ ⟨srcCol (plane n) l.val, srcCol_lt l.isLt⟩) else 1 := by
  rw [valueLoad, HS1_eq, band_at, fillV_eq]

theorem pairPiece_at (jb : Fin 8) (T) (m : Fin 4) (r l : Fin 128) :
    (pairPiece c i arg2 harg2 arg6 harg6 arg8 harg8 arg13 x0 x4 x6 arg (scoreStage c i arg4 harg4 arg5 harg5 arg12 x2 x3 jb ++ T) jb m).2 (ix2 r l)
      = yAt (i 1) x0 x2 x3 x4 x6 ⟨2 * m.val + l.val / 64, by omega⟩ jb r ⟨l.val % 64, by omega⟩ := by
  refine (pairTile_at _ _ _ _ _ _ _ _ r l).trans ?_
  by_cases h : l.val < 64
  · rw [if_pos h]
    obtain ⟨n, hn⟩ : ∃ n : Fin 8, n.val = 2 * m.val := ⟨⟨2 * m.val, by omega⟩, rfl⟩
    rw [show (⟨2 * m.val + l.val / 64, by omega⟩ : Fin 8) = n from Fin.ext (by change 2 * m.val + l.val / 64 = n.val; omega), show (⟨2 * m.val, by omega⟩ : Fin 8) = n from Fin.ext hn.symm]
    unfold yAt
    rw [sinkLoad_at]
    congr 1
    · funext k; unfold srow; rw [scoreLoad_at, biasLoad_at]
    · funext k; rw [valueLoad_at, if_pos (by omega)]
      congr 3; change srcCol (plane n) l.val = srcCol (plane n) (n.val % 2 * 64 + l.val % 64); congr 1; omega
    · funext k; rw [valueLoad_at, if_neg (by change ¬ ((l.val + 64) % 128 < 64 ↔ _); omega)]
  · rw [if_neg h]
    obtain ⟨n, hn⟩ : ∃ n : Fin 8, n.val = 2 * m.val + 1 := ⟨⟨2 * m.val + 1, by omega⟩, rfl⟩
    rw [show (⟨2 * m.val + l.val / 64, by omega⟩ : Fin 8) = n from Fin.ext (by change 2 * m.val + l.val / 64 = n.val; omega), show (⟨2 * m.val + 1, by omega⟩ : Fin 8) = n from Fin.ext hn.symm]
    unfold yAt
    rw [sinkLoad_at]
    congr 1
    · funext k; unfold srow; rw [scoreLoad_at, biasLoad_at]
    · funext k; rw [valueLoad_at, if_pos (by omega)]
      congr 3; change srcCol (plane n) l.val = srcCol (plane n) (n.val % 2 * 64 + l.val % 64); congr 1; omega
    · funext k; rw [valueLoad_at, if_neg (by change ¬ ((l.val + 64) % 128 < 64 ↔ _); omega)]

theorem yRow_of (t : Fin 4) {ρ : Fin 1024} {a : Fin 512} {n jb : Fin 8} {r : Fin 128} {d : Fin 64} (hρ : ρ.val = jb.val * 128 + r.val) (ha : a.val = n.val * 64 + d.val) :
    yRow t x0 x2 x3 x4 x6 ρ a = yAt t x0 x2 x3 x4 x6 n jb r d := by
  unfold yRow
  congr 1 <;> apply Fin.ext
  · change a.val / 64 = n.val; omega
  · change ρ.val / 128 = jb.val; omega
  · change ρ.val % 128 = r.val; omega
  · change a.val % 64 = d.val; omega

theorem pairStage_mem (jb : Fin 8) (T) : ∀ q ∈ pairStage c i arg2 harg2 arg6 harg6 arg8 harg8 arg13 x0 x4 x6 arg (scoreStage c i arg4 harg4 arg5 harg5 arg12 x2 x3 jb ++ T) jb,
    ∀ w : q.1.shape.Idx, q.2 w = yRow (i 1) x0 x2 x3 x4 x6 (q.1.emb w 0) (q.1.emb w 1) := by
  intro q hq w
  simp only [pairStage, List.mem_map] at hq
  obtain ⟨m, -, rfl⟩ := hq
  obtain ⟨r, l, rfl⟩ : ∃ (r l : Fin 128), w = ix2 r l := ⟨w 0, w 1, split2 w⟩
  refine (pairPiece_at c i arg2 harg2 arg4 harg4 arg5 harg5 arg6 harg6 arg8 harg8 arg12 arg13 x0 x2 x3 x4 x6 arg jb T m r l).trans ?_
  have hv := ValueKit.rect_emb_unit_val (s := S1024x512) ![jb.val * 128, m.val * 128] _ (y_inb jb m) (ix2 r l)
  refine (yRow_of x0 x2 x3 x4 x6 (i 1) (hv 0) ((hv 1).trans ?_)).symm
  change m.val * 128 + l.val = (2 * m.val + l.val / 64) * 64 + l.val % 64
  omega

theorem pairStage_cover (jb : Fin 8) (LS) (ρ : Fin 1024) (a : Fin 512) (h : ρ.val / 128 = jb.val) :
    ∃ q ∈ pairStage c i arg2 harg2 arg6 harg6 arg8 harg8 arg13 x0 x4 x6 arg LS jb, (ix2 ρ a : S1024x512.Idx) ∈ q.1.set := by
  have hp : ∀ p : Fin 4, p ∈ [(3 : Fin 4), 2, 1, 0] := by decide
  refine ⟨_, List.mem_map_of_mem (hp ⟨a.val / 128, by omega⟩), (Rect.mem_set_unit (inb := y_inb jb ⟨a.val / 128, by omega⟩)).mpr fun x => ?_⟩
  fin_cases x
  · change jb.val * 128 ≤ ρ.val ∧ ρ.val < jb.val * 128 + 128; omega
  · change a.val / 128 * 128 ≤ a.val ∧ a.val < a.val / 128 * 128 + 128; omega

/-- The attention's rows of two stages, whatever was stored before. -/
theorem pairs_at (j₁ j₀ : Fin 8) (a₁ a₀ : Memref sig .tc .vmem S8x128x384 .f32) (T₁ T₀) (T) (ρ : Fin 1024) (a : Fin 512) (h : ρ.val / 128 = j₁.val ∨ ρ.val / 128 = j₀.val) :
    View.canon (pairStage c i arg2 harg2 arg6 harg6 arg8 harg8 arg13 x0 x4 x6 a₁ (scoreStage c i arg4 harg4 arg5 harg5 arg12 x2 x3 j₁ ++ T₁) j₁
      ++ (pairStage c i arg2 harg2 arg6 harg6 arg8 harg8 arg13 x0 x4 x6 a₀ (scoreStage c i arg4 harg4 arg5 harg5 arg12 x2 x3 j₀ ++ T₀) j₀ ++ T)) (ix2 ρ a)
      = yRow (i 1) x0 x2 x3 x4 x6 ρ a := by
  rw [← List.append_assoc]
  refine View.canon_append_of_pieces (S := S1024x512) (fun y => yRow (i 1) x0 x2 x3 x4 x6 (y 0) (y 1)) T _ ?_ (ix2 ρ a) ?_
  · intro q hq w
    rcases List.mem_append.mp hq with hq | hq
    · exact pairStage_mem c i arg2 harg2 arg4 harg4 arg5 harg5 arg6 harg6 arg8 harg8 arg12 arg13 x0 x2 x3 x4 x6 a₁ j₁ T₁ q hq w
    · exact pairStage_mem c i arg2 harg2 arg4 harg4 arg5 harg5 arg6 harg6 arg8 harg8 arg12 arg13 x0 x2 x3 x4 x6 a₀ j₀ T₀ q hq w
  · rcases h with h | h
    · obtain ⟨q, hq, hy⟩ := pairStage_cover c i arg2 harg2 arg6 harg6 arg8 harg8 arg13 x0 x4 x6 a₁ j₁ (scoreStage c i arg4 harg4 arg5 harg5 arg12 x2 x3 j₁ ++ T₁) ρ a h
      exact ⟨q, List.mem_append_left _ hq, hy⟩
    · obtain ⟨q, hq, hy⟩ := pairStage_cover c i arg2 harg2 arg6 harg6 arg8 harg8 arg13 x0 x4 x6 a₀ j₀ (scoreStage c i arg4 harg4 arg5 harg5 arg12 x2 x3 j₀ ++ T₀) ρ a h
      exact ⟨q, List.mem_append_right _ hq, hy⟩

/-- One number of the block the call stores. -/
noncomputable def outAt (t : Fin 4) (ρ j : Fin 1024) : EReal :=
  x1 (ix3 0 ρ j) + (∑ a : Fin 512, yRow t x0 x2 x3 x4 x6 ρ a * x7 (ix2 a j)) + ∑ a : Fin 512, x5 (ix3 0 ρ a) * x8 (ix2 a j)

theorem outPiece_at (p : Fin 4) (LY) (hLY : ∀ (ρ : Fin 1024) (a : Fin 512), ρ.val / 256 = p.val → View.canon LY (ix2 ρ a) = yRow (i 1) x0 x2 x3 x4 x6 ρ a)
    (w : (outPiece arg3 harg3 arg7 harg7 arg9 harg9 arg10 harg10 arg14 x1 x5 x7 x8 LY p).1.shape.Idx) :
    (outPiece arg3 harg3 arg7 harg7 arg9 harg9 arg10 harg10 arg14 x1 x5 x7 x8 LY p).2 w
      = outAt x0 x1 x2 x3 x4 x5 x6 x7 x8 (i 1) ((outPiece arg3 harg3 arg7 harg7 arg9 harg9 arg10 harg10 arg14 x1 x5 x7 x8 LY p).1.emb w 1) ((outPiece arg3 harg3 arg7 harg7 arg9 harg9 arg10 harg10 arg14 x1 x5 x7 x8 LY p).1.emb w 2) := by
  obtain ⟨r, j, rfl⟩ : ∃ (r : Fin 256) (j : Fin 1024), w = ix3 0 r j := ⟨w 1, w 2, (split3 w).trans (by congr 1; exact Subsingleton.elim (α := Fin 1) _ _)⟩
  refine (outTile_at _ _ _ _ _ r j).trans ?_
  have hρ : p.val * 256 + r.val < 1024 := by omega
  have hv := ValueKit.rect_emb_unit_val (s := S1x1024x1024) ![0, p.val * 256, 0] _ (o_inb p) (ix3 0 r j)
  rw [show (outPiece arg3 harg3 arg7 harg7 arg9 harg9 arg10 harg10 arg14 x1 x5 x7 x8 LY p).1.emb (ix3 0 r j) 1 = (⟨p.val * 256 + r.val, hρ⟩ : Fin 1024) from Fin.ext (hv 1),
    show (outPiece arg3 harg3 arg7 harg7 arg9 harg9 arg10 harg10 arg14 x1 x5 x7 x8 LY p).1.emb (ix3 0 r j) 2 = j from Fin.ext ((hv 2).trans (Nat.zero_add _))]
  have hx : View.readAt (Elt Ideal) arg3.view (Rect.unit (s := S1x1024x1024) ![0, p.val * 256, 0] S1x256x1024.size (o_inb p)).toLoadRect (harg3.unread x1) (ix3 0 r j) = x1 (ix3 0 ⟨p.val * 256 + r.val, hρ⟩ j) := by
    rw [Memref.IsWhole.readAt_unread harg3]
    congr 1
    funext a; apply Fin.ext
    refine (hv a).trans ?_
    fin_cases a
    · rfl
    · rfl
    · exact Nat.zero_add _
  have hc : ∀ a : Fin 512, View.readAt (Elt Ideal) arg7.view (Rect.unit (s := S1x1024x512) ![0, p.val * 256, 0] S1x256x512.size (c_inb p)).toLoadRect (harg7.unread x5) (ix3 0 r a) = x5 (ix3 0 ⟨p.val * 256 + r.val, hρ⟩ a) := fun a => by
    rw [Memref.IsWhole.readAt_unread harg7]
    congr 1
    funext b; apply Fin.ext
    refine (ValueKit.rect_emb_unit_val (s := S1x1024x512) _ _ (c_inb p) _ b).trans ?_
    fin_cases b
    · rfl
    · rfl
    · exact Nat.zero_add _
  have hy : ∀ a : Fin 512, arg14.view.readCov LY (Rect.unit (s := S1024x512) ![p.val * 256, 0] S256x512.size (yl_inb p)).toLoadRect (ix2 r a) = yRow (i 1) x0 x2 x3 x4 x6 ⟨p.val * 256 + r.val, hρ⟩ a := fun a => by
    rw [View.readCov_eq_canon']
    refine Eq.trans (congrArg _ ?_) (hLY ⟨p.val * 256 + r.val, hρ⟩ a (by change (p.val * 256 + r.val) / 256 = p.val; omega))
    funext b; apply Fin.ext
    refine (ValueKit.rect_emb_unit_val (s := S1024x512) _ _ (yl_inb p) _ b).trans ?_
    fin_cases b
    · rfl
    · exact Nat.zero_add _
  have hw : ∀ (arg : Memref sig .tc .vmem S512x1024 .bf16) (harg : arg.IsWhole) (X : Vec Ideal S512x1024 .bf16) (a : Fin 512), View.readAt (Elt Ideal) arg.view (Rect.unit (s := S512x1024) ![0, 0] S512x1024.size (by decide)).toLoadRect (harg.unread X) (ix2 a j) = X (ix2 a j) := fun arg harg X a => by
    rw [Memref.IsWhole.readAt_unread harg]
    congr 1
    funext b; apply Fin.ext
    refine (ValueKit.rect_emb_unit_val (s := S512x1024) _ _ (by decide) _ b).trans ?_
    fin_cases b
    · exact Nat.zero_add _
    · exact Nat.zero_add _
  unfold outAt
  refine congrArg₂ _ (congrArg₂ _ hx (Finset.sum_congr rfl fun a _ => congrArg₂ _ (hy a) (hw arg9 harg9 x7 a))) (Finset.sum_congr rfl fun a _ => congrArg₂ _ (hc a) (hw arg10 harg10 x8 a))

/-- Every number of the block the call stores. -/
theorem run_canon (arg11 : Memref sig .tc .vmem S1x1024x1024 .f32) (harg11 : arg11.IsWhole) (harg12 : arg12.IsWhole) (harg13 : arg13.IsWhole) (harg14 : arg14.IsWhole) (harg15 : arg15.IsWhole) (harg16 : arg16.IsWhole) (ρ j : Fin 1024) :
    View.canon (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).1 (ix3 0 ρ j)
      = outAt x0 x1 x2 x3 x4 x5 x6 x7 x8 (i 1) ρ j := by
  rw [out_eq]
  have h := View.canon_append_of_pieces (S := S1x1024x1024) (fun y => outAt x0 x1 x2 x3 x4 x5 x6 x7 x8 (i 1) (y 1) (y 2)) []
    [outPiece arg3 harg3 arg7 harg7 arg9 harg9 arg10 harg10 arg14 x1 x5 x7 x8 (kernelRun1_A.sl.HS2_32 c i arg2 harg2 arg4 harg4 arg5 harg5 arg6 harg6 arg8 harg8 arg12 arg13 arg15 arg16 x0 x2 x3 x4 x6) 3,
       outPiece arg3 harg3 arg7 harg7 arg9 harg9 arg10 harg10 arg14 x1 x5 x7 x8 (kernelRun1_A.sl.HS2_24 c i arg2 harg2 arg4 harg4 arg5 harg5 arg6 harg6 arg8 harg8 arg12 arg13 arg15 arg16 x0 x2 x3 x4 x6) 2,
       outPiece arg3 harg3 arg7 harg7 arg9 harg9 arg10 harg10 arg14 x1 x5 x7 x8 (kernelRun1_A.sl.HS2_16 c i arg2 harg2 arg4 harg4 arg5 harg5 arg6 harg6 arg8 harg8 arg12 arg13 arg15 arg16 x0 x2 x3 x4 x6) 1,
       outPiece arg3 harg3 arg7 harg7 arg9 harg9 arg10 harg10 arg14 x1 x5 x7 x8 (kernelRun1_A.sl.HS2_8 c i arg2 harg2 arg4 harg4 arg5 harg5 arg6 harg6 arg8 harg8 arg12 arg13 arg15 arg16 x0 x2 x3 x4 x6) 0] ?_ (ix3 0 ρ j) ?_
  · rwa [List.append_nil] at h
  · intro q hq w
    simp only [List.mem_cons, List.not_mem_nil, or_false] at hq
    rcases hq with rfl | rfl | rfl | rfl <;> refine outPiece_at i arg3 harg3 arg7 harg7 arg9 harg9 arg10 harg10 arg14 x0 x1 x2 x3 x4 x5 x6 x7 x8 _ _ (fun ρ a hρ => ?_) w
    · rw [HS2_32_eq, HS4_32_eq, HS3_32_eq]
      exact pairs_at c i arg2 harg2 arg4 harg4 arg5 harg5 arg6 harg6 arg8 harg8 arg12 arg13 x0 x2 x3 x4 x6 7 6 arg16 arg15 _ _ _ ρ a (by change ρ.val / 256 = 3 at hρ; change ρ.val / 128 = 7 ∨ ρ.val / 128 = 6; omega)
    · rw [HS2_24_eq, HS4_24_eq, HS3_24_eq]
      exact pairs_at c i arg2 harg2 arg4 harg4 arg5 harg5 arg6 harg6 arg8 harg8 arg12 arg13 x0 x2 x3 x4 x6 5 4 arg16 arg15 _ _ _ ρ a (by change ρ.val / 256 = 2 at hρ; change ρ.val / 128 = 5 ∨ ρ.val / 128 = 4; omega)
    · rw [HS2_16_eq, HS4_16_eq, HS3_16_eq]
      exact pairs_at c i arg2 harg2 arg4 harg4 arg5 harg5 arg6 harg6 arg8 harg8 arg12 arg13 x0 x2 x3 x4 x6 3 2 arg16 arg15 _ _ _ ρ a (by change ρ.val / 256 = 1 at hρ; change ρ.val / 128 = 3 ∨ ρ.val / 128 = 2; omega)
    · rw [HS2_8_eq, HS4_8_eq, HS3_8_eq]
      have h := pairs_at c i arg2 harg2 arg4 harg4 arg5 harg5 arg6 harg6 arg8 harg8 arg12 arg13 x0 x2 x3 x4 x6 1 0 arg16 arg15 [] [] [] ρ a (by change ρ.val / 256 = 0 at hρ; change ρ.val / 128 = 1 ∨ ρ.val / 128 = 0; omega)
      rwa [List.append_nil, List.append_nil, List.append_nil] at h
  · have hj : j.val < 1024 := j.isLt
    have key : ∀ (p : Fin 4) (LY), ρ.val / 256 = p.val → (ix3 0 ρ j : S1x1024x1024.Idx) ∈ (outPiece arg3 harg3 arg7 harg7 arg9 harg9 arg10 harg10 arg14 x1 x5 x7 x8 LY p).1.set := fun p LY hp =>
      (Rect.mem_set_unit (inb := o_inb p)).mpr fun a => by
        fin_cases a
        · exact ⟨le_rfl, Nat.lt_succ_self _⟩
        · change p.val * 256 ≤ ρ.val ∧ ρ.val < p.val * 256 + 256; omega
        · exact ⟨Nat.zero_le _, by change j.val < 0 + 1024; omega⟩
    rcases (by omega : ρ.val / 256 = 3 ∨ ρ.val / 256 = 2 ∨ ρ.val / 256 = 1 ∨ ρ.val / 256 = 0) with h | h | h | h
    · exact ⟨_, by simp only [List.mem_cons, true_or], key 3 (kernelRun1_A.sl.HS2_32 c i arg2 harg2 arg4 harg4 arg5 harg5 arg6 harg6 arg8 harg8 arg12 arg13 arg15 arg16 x0 x2 x3 x4 x6) h⟩
    · exact ⟨_, by simp only [List.mem_cons, true_or, or_true], key 2 (kernelRun1_A.sl.HS2_24 c i arg2 harg2 arg4 harg4 arg5 harg5 arg6 harg6 arg8 harg8 arg12 arg13 arg15 arg16 x0 x2 x3 x4 x6) h⟩
    · exact ⟨_, by simp only [List.mem_cons, true_or, or_true], key 1 (kernelRun1_A.sl.HS2_16 c i arg2 harg2 arg4 harg4 arg5 harg5 arg6 harg6 arg8 harg8 arg12 arg13 arg15 arg16 x0 x2 x3 x4 x6) h⟩
    · exact ⟨_, by simp only [List.mem_cons, true_or, or_true], key 0 (kernelRun1_A.sl.HS2_8 c i arg2 harg2 arg4 harg4 arg5 harg5 arg6 harg6 arg8 harg8 arg12 arg13 arg15 arg16 x0 x2 x3 x4 x6) h⟩

end run

end Cert.Mixer
-- ==== Proof.Mixer.Table.lean ====
module

public import proofs.«01_k».proof.Proof.Mixer.Pair

/-!
# The bias tables at one grid point

For each head the first call picks, out of 32 learned biases, the one of a query's and a key's distance, in powers of
two, and writes the mask's number where the pair is not to be seen.
-/

open Idealize.ShloMosaic
open Cert.KernelIdeal Cert.KernelIdeal.Gen

set_option maxRecDepth 16384

@[expose] public section

namespace Cert.Mixer

section run
variable (c : Dev nD) (i : grid0.Coords) (arg1 : Memref sig .tc .smem S32x8 .f32) (harg1 : arg1.IsWhole) (arg2 : Memref sig .tc .vmem S1x128x384 .i32) (harg2 : arg2.IsWhole)
  (arg3 : Memref sig .tc .vmem S1x128x384 .i32) (harg3 : arg3.IsWhole) (arg4 : Memref sig .tc .vmem S1x8x128x384 .f32) (harg4 : arg4.IsWhole)
  (x0 : Vec Ideal S32x8 .f32) (x1 : Vec Ideal S1x128x384 .i32) (x2 : Vec Ideal S1x128x384 .i32)

theorem rel_inb (b : Fin 32) (n : Fin 8) : ∀ a, (![b.val, n.val] : Fin 2 → ℕ) a + S1x1.size a ≤ S32x8.size a := by
  revert b n; decide

noncomputable abbrev relLoad (b : Fin 32) (n : Fin 8) : Elt Ideal .f32 :=
  View.readAt (Elt Ideal) arg1.view (Rect.unit (s := S32x8) ![b.val, n.val] S1x1.size (rel_inb b n)).toLoadRect (harg1.unread x0) (Shape.Idx.first (show 0 < S1x1.numel by decide))

noncomputable abbrev intLoad (arg : Memref sig .tc .vmem S1x128x384 .i32) (harg : arg.IsWhole) (X : Vec Ideal S1x128x384 .i32) : Vec Ideal S1x128x384 .i32 :=
  View.readAt (Elt Ideal) arg.view (Rect.unit (s := S1x128x384) ![0, 0, 0] S1x128x384.size (by decide)).toLoadRect (harg.unread X)

/-- The 32 buckets. -/
def buckets : List (Fin 32) :=
  [0, 1, 2, 3, 4, 5, 6, 7, 8, 9, 10, 11, 12, 13, 14, 15, 16, 17, 18, 19, 20, 21, 22, 23, 24, 25, 26, 27, 28, 29, 30, 31]

/-- The bias of each pair: the last bucket that is the pair's. -/
noncomputable def chain (n : Fin 8) : FVec Ideal S128x384 .f32 :=
  buckets.foldl (fun acc b => select (cmpi .eq (shapeCast S128x384 (intLoad arg2 harg2 x1) shapeCasts_S1x128x384_S128x384) (broadcast S128x384 (BitVec.ofNat 32 b.val)))
    (broadcast S128x384 (relLoad arg1 harg1 x0 b n)) acc) (broadcast S128x384 (FloatOps.ofBits .f32 0x00000000#32))

/-- One head's table. -/
noncomputable def tableTile (n : Fin 8) : FVec Ideal S1x1x128x384 .f32 :=
  shapeCast S1x1x128x384 (select (cmpi .ne (shapeCast S128x384 (intLoad arg3 harg3 x2) shapeCasts_S1x128x384_S128x384) (broadcast S128x384 0#32))
    (mulf (chain arg1 harg1 arg2 harg2 x0 x1 n) (broadcast S128x384 (Named.named κ "log2e" 0x3FB8AA3B#32))) (broadcast S128x384 (Named.named κ "mask" 0xF149F2CA#32))) shapeCasts_S128x384_S1x1x128x384

theorem t_inb (n : Fin 8) : ∀ a, (![0, n.val, 0, 0] : Fin 4 → ℕ) a + S1x1x128x384.size a ≤ S1x8x128x384.size a := by
  revert n; decide

noncomputable def tablePiece (n : Fin 8) : View.Piece (Elt Ideal) S1x8x128x384 .f32 :=
  ⟨Rect.unit ![0, n.val, 0, 0] S1x1x128x384.size (t_inb n), tableTile arg1 harg1 arg2 harg2 arg3 harg3 x0 x1 x2 n⟩

theorem tables_eq : (kernelRun0_A c i arg1 harg1 arg2 harg2 arg3 harg3 arg4 harg4 x0 x1 x2).1
    = [7, 6, 5, 4, 3, 2, 1, 0].map (tablePiece arg1 harg1 arg2 harg2 arg3 harg3 x0 x1 x2) := by
  sl_kernel_rfl

theorem foldl_pick {α : Type} (f : Fin 32 → α) (w : Fin 32) : ∀ (L : List (Fin 32)) (z : α), (w ∈ L ∨ z = f w) →
    L.foldl (fun acc b => if w = b then f b else acc) z = f w
  | [], z, h => by simpa using h
  | b :: L, z, h => by
    rw [List.foldl_cons]
    refine foldl_pick f w L _ ?_
    by_cases e : w = b
    · right; rw [if_pos e, e]
    · rw [if_neg e]
      rcases h with h | h
      · rcases List.mem_cons.mp h with h | h
        · exact absurd h e
        · exact .inl h
      · exact .inr h

theorem foldl_at {α β : Type} (g : Fin 32 → (α → β) → α → β) (y : α) (h : Fin 32 → β → β) (hg : ∀ b acc, g b acc y = h b (acc y)) :
    ∀ (L : List (Fin 32)) (z : α → β), L.foldl (fun acc b => g b acc) z y = L.foldl (fun acc b => h b acc) (z y)
  | [], _ => rfl
  | b :: L, z => by rw [List.foldl_cons, List.foldl_cons, foldl_at g y h hg L, hg]

theorem relLoad_at (b : Fin 32) (n : Fin 8) : relLoad arg1 harg1 x0 b n = x0 (ix2 b n) := by
  rw [relLoad, Memref.IsWhole.readAt_unread harg1]
  congr 1
  funext a; apply Fin.ext
  refine (ValueKit.rect_emb_unit_val (s := S32x8) _ _ (rel_inb b n) _ a).trans ?_
  fin_cases a <;> rfl

theorem intLoad_at (arg : Memref sig .tc .vmem S1x128x384 .i32) (harg : arg.IsWhole) (X : Vec Ideal S1x128x384 .i32) (y) : intLoad arg harg X y = X y := by
  rw [intLoad, Memref.IsWhole.readAt_unread harg]
  congr 1
  funext a; apply Fin.ext
  refine (ValueKit.rect_emb_unit_val (s := S1x128x384) _ _ (by decide) _ a).trans ?_
  fin_cases a <;> exact Nat.zero_add _

theorem cmpi_bucket : ∀ w b : Fin 32, IntOp.cmpi CmpIPredicate.eq (BitVec.ofNat 32 w.val) (BitVec.ofNat 32 b.val) = if w = b then 1#1 else 0#1 := by decide +kernel

theorem mem_buckets : ∀ w : Fin 32, w ∈ buckets := by decide

theorem sel_ne {α : Type} (w : BitVec 32) (a b : α) : Scalar.select (IntOp.cmpi CmpIPredicate.ne w 0#32) a b = if w = 0#32 then b else a := by
  by_cases h : w = 0#32
  · subst h; rfl
  · rw [if_neg h]
    have : IntOp.cmpi CmpIPredicate.ne w 0#32 = 1#1 := by change BitVec.ofBool (w != 0#32) = 1#1; rw [bne_iff_ne.mpr h]; rfl
    rw [this]; rfl

theorem chain_at (n : Fin 8) (r : Fin 128) (k : Fin 384) (w : Fin 32) (hw : x1 (ix3 0 r k) = BitVec.ofNat 32 w.val) :
    chain arg1 harg1 arg2 harg2 x0 x1 n (ix2 r k) = x0 (ix2 w n) := by
  unfold chain
  rw [foldl_at _ (ix2 r k) (fun b acc => if w = b then x0 (ix2 b n) else acc)]
  · exact foldl_pick (fun b => x0 (ix2 b n)) w buckets _ (.inl (mem_buckets w))
  · intro b acc
    pointwise []
    rw [intLoad_at, relLoad_at, hw, cmpi_bucket]
    split_ifs <;> rfl

theorem tableTile_at (n : Fin 8) (r : Fin 128) (k : Fin 384) (w : Fin 32) (hw : x1 (ix3 0 r k) = BitVec.ofNat 32 w.val) :
    tableTile arg1 harg1 arg2 harg2 arg3 harg3 x0 x1 x2 n (ix4 0 0 r k) = if x2 (ix3 0 r k) = 0#32 then ⊥ else x0 (ix2 w n) * (((Real.log 2)⁻¹ : ℝ) : EReal) := by
  pointwise [tableTile]
  rw [intLoad_at, chain_at arg1 harg1 arg2 harg2 x0 x1 n r k w hw]
  exact sel_ne _ _ _

theorem tables_canon (n : Fin 8) (r : Fin 128) (k : Fin 384) (w : Fin 32) (hw : x1 (ix3 0 r k) = BitVec.ofNat 32 w.val) :
    View.canon (kernelRun0_A c i arg1 harg1 arg2 harg2 arg3 harg3 arg4 harg4 x0 x1 x2).1 (ix4 0 n r k)
      = if x2 (ix3 0 r k) = 0#32 then ⊥ else x0 (ix2 w n) * (((Real.log 2)⁻¹ : ℝ) : EReal) := by
  rw [tables_eq]
  have h := View.canon_append_of_pieces (S := S1x8x128x384) (fun y => tableTile arg1 harg1 arg2 harg2 arg3 harg3 x0 x1 x2 (y 1) (ix4 0 0 (y 2) (y 3))) []
    ([7, 6, 5, 4, 3, 2, 1, 0].map (tablePiece arg1 harg1 arg2 harg2 arg3 harg3 x0 x1 x2)) ?_ (ix4 0 n r k) ?_
  · rw [List.append_nil] at h
    exact h.trans (tableTile_at arg1 harg1 arg2 harg2 arg3 harg3 x0 x1 x2 n r k w hw)
  · intro q hq y
    obtain ⟨p, -, rfl⟩ := List.mem_map.mp hq
    have hv := ValueKit.rect_emb_unit_val (s := S1x8x128x384) _ _ (t_inb p) y
    have h1 : (tablePiece arg1 harg1 arg2 harg2 arg3 harg3 x0 x1 x2 p).1.emb y 1 = p := Fin.ext ((hv 1).trans (by have : (y 1).val < 1 := (y 1).isLt; change p.val + (y 1).val = p.val; omega))
    have h2 : ∀ a, (tablePiece arg1 harg1 arg2 harg2 arg3 harg3 x0 x1 x2 p).1.emb y a = (tablePiece arg1 harg1 arg2 harg2 arg3 harg3 x0 x1 x2 p).1.emb y a := fun _ => rfl
    simp only [h1]
    refine congrArg (tableTile arg1 harg1 arg2 harg2 arg3 harg3 x0 x1 x2 p) ?_
    funext a; apply Fin.ext
    fin_cases a
    · exact (Nat.lt_one_iff.mp (y 0).isLt)
    · exact (Nat.lt_one_iff.mp (y 1).isLt)
    · exact ((hv 2).trans (Nat.zero_add _)).symm
    · exact ((hv 3).trans (Nat.zero_add _)).symm
  · have hp : ∀ p : Fin 8, p ∈ [(7 : Fin 8), 6, 5, 4, 3, 2, 1, 0] := by decide
    refine ⟨_, List.mem_map_of_mem (hp n), (Rect.mem_set_unit (inb := t_inb n)).mpr fun a => ?_⟩
    fin_cases a
    · exact ⟨le_rfl, Nat.lt_succ_self _⟩
    · exact ⟨le_rfl, Nat.lt_succ_self _⟩
    · exact ⟨Nat.zero_le _, by have := r.isLt; change r.val < 0 + 128; omega⟩
    · exact ⟨Nat.zero_le _, by have := k.isLt; change k.val < 0 + 384; omega⟩

end run

end Cert.Mixer
-- ==== Proof.Mixer.Region.lean ====
module

public import proofs.«01_k».proof.Proof.Mixer.Point
public import proofs.«01_k».proof.Proof.Mixer.Table

/-!
# The two calls' results, as whole arrays
-/

open Idealize.ShloMosaic Idealize.ShloMosaic.TcCoe
open Cert.KernelIdeal Cert.KernelIdeal.Gen

set_option maxRecDepth 16384

@[expose] public section

namespace Cert.Mixer

variable (V : (c : Dev nD) → (b : Ref sig .tc) → Buf (Elt Ideal) ((c : Thread nD τ).loc b)) (c : Dev nD)

/-- 1024 rows of one sequence. -/
noncomputable def slab {W : ℕ} (X : (⟨3, ![4, 4096, W]⟩ : Shape).Idx → EReal) (b t : Fin 4) (z : (⟨3, ![1, 1024, W]⟩ : Shape).Idx) : EReal :=
  X (ix3 b ⟨t.val * 1024 + (z 1).val, by have : (z 1).val < 1024 := (z 1).isLt; omega⟩ (z 2))

/-- One sequence. -/
noncomputable def seqOf {W : ℕ} (X : (⟨3, ![4, 4096, W]⟩ : Shape).Idx → EReal) (b : Fin 4) (z : (⟨3, ![1, 4096, W]⟩ : Shape).Idx) : EReal :=
  X (ix3 b (z 1) (z 2))

theorem first3 {A B : ℕ} (y : (⟨3, ![1, A, B]⟩ : Shape).Idx) : ∃ (r : Fin A) (k : Fin B), y = ix3 0 r k := by
  refine ⟨y 1, y 2, ?_⟩
  funext a; fin_cases a
  · exact Subsingleton.elim (α := Fin 1) _ _
  · rfl
  · rfl

theorem first4 {A B C : ℕ} (y : (⟨4, ![1, A, B, C]⟩ : Shape).Idx) : ∃ (n : Fin A) (r : Fin B) (k : Fin C), y = ix4 0 n r k := by
  refine ⟨y 1, y 2, y 3, ?_⟩
  funext a; fin_cases a
  · exact Subsingleton.elim (α := Fin 1) _ _
  · rfl
  · rfl
  · rfl

/-- The block indices of the mixer's windows. -/
theorem idx1 : ∀ t : Fin cfg1.N, (win1_0.index t 0 = 0
    ∧ win1_1.index t 0 = (grid1.coords t 0).val ∧ win1_1.index t 1 = (grid1.coords t 1).val ∧ win1_1.index t 2 = 0
    ∧ win1_2.index t 0 = (grid1.coords t 0).val ∧ win1_2.index t 1 = (grid1.coords t 1).val ∧ win1_2.index t 2 = 0
    ∧ win1_3.index t 0 = (grid1.coords t 0).val ∧ win1_3.index t 1 = 0 ∧ win1_3.index t 2 = 0
    ∧ win1_4.index t 0 = (grid1.coords t 0).val ∧ win1_4.index t 1 = 0 ∧ win1_4.index t 2 = 0)
    ∧ (win1_5.index t 0 = (grid1.coords t 0).val ∧ win1_5.index t 1 = (grid1.coords t 1).val ∧ win1_5.index t 2 = 0
    ∧ win1_6.index t 0 = 0 ∧ win1_6.index t 1 = 0 ∧ win1_6.index t 2 = 0 ∧ win1_6.index t 3 = 0
    ∧ win1_7.index t 0 = 0 ∧ win1_7.index t 1 = 0 ∧ win1_8.index t 0 = 0 ∧ win1_8.index t 1 = 0
    ∧ win1_9.index t 0 = (grid1.coords t 0).val ∧ win1_9.index t 1 = (grid1.coords t 1).val ∧ win1_9.index t 2 = 0) := by
  decide +kernel

theorem iblk1_0 (t : Fin cfg1.N) : iblk1 V c 0 t = (V c main_arg6 : S8.Idx → EReal) := by
  funext y; blk_ext [iblk1, idx1 t]

theorem iblk1_1 (t : Fin cfg1.N) : iblk1 V c 1 t = slab (V c main_arg0 : S4x4096x1024.Idx → EReal) (grid1.coords t 0) (grid1.coords t 1) := by
  funext y; unfold slab; blk_ext [iblk1, idx1 t]

theorem iblk1_2 (t : Fin cfg1.N) : iblk1 V c 2 t = slab (V c main_v6 : S4x4096x512.Idx → EReal) (grid1.coords t 0) (grid1.coords t 1) := by
  funext y; unfold slab; blk_ext [iblk1, idx1 t]

theorem iblk1_3 (t : Fin cfg1.N) : iblk1 V c 3 t = seqOf (V c main_v2 : S4x4096x256.Idx → EReal) (grid1.coords t 0) := by
  funext y; unfold seqOf; blk_ext [iblk1, idx1 t]

theorem iblk1_4 (t : Fin cfg1.N) : iblk1 V c 4 t = seqOf (V c main_v5 : S4x4096x256.Idx → EReal) (grid1.coords t 0) := by
  funext y; unfold seqOf; blk_ext [iblk1, idx1 t]

theorem iblk1_5 (t : Fin cfg1.N) : iblk1 V c 5 t = slab (V c main_v7 : S4x4096x512.Idx → EReal) (grid1.coords t 0) (grid1.coords t 1) := by
  funext y; unfold slab; blk_ext [iblk1, idx1 t]

theorem iblk1_6 (t : Fin cfg1.N) : iblk1 V c 6 t = (V c main_v59 : S3x8x128x384.Idx → EReal) := by
  funext y; blk_ext [iblk1, idx1 t]

theorem iblk1_7 (t : Fin cfg1.N) : iblk1 V c 7 t = (V c main_v61 : S512x1024.Idx → EReal) := by
  funext y; blk_ext [iblk1, idx1 t]

theorem iblk1_8 (t : Fin cfg1.N) : iblk1 V c 8 t = (V c main_v63 : S512x1024.Idx → EReal) := by
  funext y; blk_ext [iblk1, idx1 t]

/-- The mixer's result at a batch, a tile, a row and a column. -/
noncomputable def mixAt (X0 : S8.Idx → EReal) (X1 : S4x4096x1024.Idx → EReal) (X2 : S4x4096x512.Idx → EReal) (X3 X4 : S4x4096x256.Idx → EReal)
    (X5 : S4x4096x512.Idx → EReal) (X6 : S3x8x128x384.Idx → EReal) (X7 X8 : S512x1024.Idx → EReal) (b t : Fin 4) (r j : Fin 1024) : EReal :=
  outAt X0 (slab X1 b t) (slab X2 b t) (seqOf X3 b) (seqOf X4 b) (slab X5 b t) X6 X7 X8 t r j

theorem out_point (t : Fin cfg1.N) (r j : Fin 1024) :
    outsAt1 V c t (ix3 0 r j) = mixAt (V c main_arg6) (V c main_arg0) (V c main_v6) (V c main_v2) (V c main_v5) (V c main_v7) (V c main_v59) (V c main_v61) (V c main_v63)
      (grid1.coords t 0) (grid1.coords t 1) r j := by
  unfold outsAt1 out1_A_9 mixAt
  refine (View.read_writes_junk_apply_eq_canon _ _ _).trans ?_
  refine (run_canon ..).trans ?_
  rw [iblk1_0, iblk1_1, iblk1_2, iblk1_3, iblk1_4, iblk1_5, iblk1_6, iblk1_7, iblk1_8]

/-- The mixer's result, over the arrays it is called on. -/
noncomputable def mixArr (X0 : S8.Idx → EReal) (X1 : S4x4096x1024.Idx → EReal) (X2 : S4x4096x512.Idx → EReal) (X3 X4 : S4x4096x256.Idx → EReal)
    (X5 : S4x4096x512.Idx → EReal) (X6 : S3x8x128x384.Idx → EReal) (X7 X8 : S512x1024.Idx → EReal) (y : S4x4096x1024.Idx) : EReal :=
  mixAt X0 X1 X2 X3 X4 X5 X6 X7 X8 (y 0) ⟨(y 1).val / 1024, by have : (y 1).val < 4096 := (y 1).isLt; omega⟩
    ⟨(y 1).val % 1024, Nat.mod_lt _ (by norm_num)⟩ (y 2)

theorem mixArr_at (X0 : S8.Idx → EReal) (X1 : S4x4096x1024.Idx → EReal) (X2 : S4x4096x512.Idx → EReal) (X3 X4 : S4x4096x256.Idx → EReal)
    (X5 : S4x4096x512.Idx → EReal) (X6 : S3x8x128x384.Idx → EReal) (X7 X8 : S512x1024.Idx → EReal) (b t : Fin 4) (r j : Fin 1024) (y : S4x4096x1024.Idx)
    (hy : (y 0).val = b.val ∧ (y 1).val = t.val * 1024 + r.val ∧ (y 2).val = j.val) :
    mixArr X0 X1 X2 X3 X4 X5 X6 X7 X8 y = mixAt X0 X1 X2 X3 X4 X5 X6 X7 X8 b t r j := by
  obtain ⟨h0, h1, h2⟩ := hy
  have hr := r.isLt
  unfold mixArr
  congr 1
  · exact Fin.ext h0
  · exact Fin.ext (by show (y 1).val / 1024 = t.val; omega)
  · exact Fin.ext (by show (y 1).val % 1024 = r.val; omega)
  · exact Fin.ext h2

theorem out_arr : (dat1 V c).arrAt 9 cfg1.N = mixArr (V c main_arg6) (V c main_arg0) (V c main_v6) (V c main_v2) (V c main_v5) (V c main_v7) (V c main_v59) (V c main_v61) (V c main_v63) := by
  refine (dat1 V c).arrAt_eq_of_covers 9 _ (by decide +kernel) fun t hf y => ?_
  blk_simp
  rw [after1_9]
  obtain ⟨r, j, rfl⟩ := first3 (A := 1024) (B := 1024) y
  refine (out_point V c t r j).trans (mixArr_at _ _ _ _ _ _ _ _ _ _ _ _ _ _ ⟨?_, ?_, ?_⟩).symm
  all_goals first | (blk_simp [idx1 t]; done) | (blk_simp [idx1 t]; omega)

/-- The block indices of the table call's windows. -/
theorem idx0 : ∀ t : Fin cfg0.N, win0_0.index t 0 = 0 ∧ win0_0.index t 1 = 0
    ∧ win0_1.index t 0 = t.val ∧ win0_1.index t 1 = 0 ∧ win0_1.index t 2 = 0
    ∧ win0_2.index t 0 = t.val ∧ win0_2.index t 1 = 0 ∧ win0_2.index t 2 = 0
    ∧ win0_3.index t 0 = t.val ∧ win0_3.index t 1 = 0 ∧ win0_3.index t 2 = 0 ∧ win0_3.index t 3 = 0 := by
  decide +kernel

/-- One of the three tables' planes. -/
def planeOf {E : Type} (X : S3x128x384.Idx → E) (v : Fin 3) (z : S1x128x384.Idx) : E := X (ix3 v (z 1) (z 2))

theorem iblk0_0 (t : Fin cfg0.N) : iblk0 V c 0 t = (V c main_arg5 : S32x8.Idx → EReal) := by
  funext y; blk_ext [iblk0, idx0 t]

theorem iblk0_1 (t : Fin cfg0.N) : iblk0 V c 1 t = planeOf (V c main_v52 : S3x128x384.Idx → BitVec 32) t := by
  funext y; unfold planeOf; blk_ext [iblk0, idx0 t]

theorem iblk0_2 (t : Fin cfg0.N) : iblk0 V c 2 t = planeOf (V c main_v58 : S3x128x384.Idx → BitVec 32) t := by
  funext y; unfold planeOf; blk_ext [iblk0, idx0 t]

/-- The tables over the bias, the buckets and the permitted places. -/
noncomputable def tableArr (X0 : S32x8.Idx → EReal) (B : S3x128x384.Idx → Fin 32) (X2 : S3x128x384.Idx → BitVec 32) (y : S3x8x128x384.Idx) : EReal :=
  if X2 (ix3 (y 0) (y 2) (y 3)) = 0#32 then ⊥ else X0 (ix2 (B (ix3 (y 0) (y 2) (y 3))) (y 1)) * (((Real.log 2)⁻¹ : ℝ) : EReal)

theorem table_arr (B : S3x128x384.Idx → Fin 32) (hB : ∀ z, (V c main_v52 : S3x128x384.Idx → BitVec 32) z = BitVec.ofNat 32 (B z).val) :
    (dat0 V c).arrAt 3 cfg0.N = tableArr (V c main_arg5) B (V c main_v58) := by
  refine (dat0 V c).arrAt_eq_of_covers 3 _ (by decide +kernel) fun t hf y => ?_
  blk_simp
  rw [after0_3]
  obtain ⟨n, r, k, rfl⟩ := first4 (A := 8) (B := 128) (C := 384) y
  have e : ((win0_3.blk t).view.emb (ix4 0 n r k : S1x8x128x384.Idx)) = (ix4 t n r k : S3x8x128x384.Idx) := by blk_ext [idx0 t]
  refine Eq.trans ?_ (congrArg (tableArr (V c main_arg5) B (V c main_v58)) e).symm
  unfold outsAt0 out0_A_3
  refine (View.read_writes_junk_apply_eq_canon _ _ _).trans ?_
  refine (tables_canon (w := B (ix3 t r k)) (hw := ?_) ..).trans ?_
  · rw [iblk0_1]; exact hB _
  · rw [iblk0_0, iblk0_2]; rfl

end Cert.Mixer
-- ==== Proof.Mixer.Bucket.lean ====
module

public import Idealize.ShloMosaic.Lib.Pointwise

/-!
# Distances and their buckets

The distance of a key from its query runs over -255 … 255; `far e` is the word of the distance e - 255.
-/

open Idealize.ShloMosaic Idealize.ShloMosaic.TcCoe

@[expose] public section

namespace Cert.Mixer

/-- The word of a distance. -/
def far (e : Fin 512) : BitVec 32 := BitVec.ofNat 32 (e.val + 4294967041)

/-- The distance of key `k` of a band from query `r` of its block, shifted by 255. -/
def gap (r : Fin 128) (k : Fin 384) : Fin 512 := ⟨k.val + 127 - r.val, by omega⟩

theorem far_key (r : Fin 128) (k : Fin 384) :
    IntOp.subi (IntOp.subi (BitVec.ofNat 32 k.val) (BitVec.ofNat 32 r.val)) 128#32 = far (gap r k) := by
  have hr := r.isLt; have hk := k.isLt
  apply BitVec.eq_of_toNat_eq
  simp only [IntOp.subi, far, gap, BitVec.toNat_sub, BitVec.toNat_ofNat]
  omega

theorem far_ref (r : Fin 128) (k : Fin 384) :
    IntOp.subi (IntOp.subi (BitVec.ofNat 32 k.val) 128#32) (BitVec.ofNat 32 r.val) = far (gap r k) := by
  have hr := r.isLt; have hk := k.isLt
  apply BitVec.eq_of_toNat_eq
  simp only [IntOp.subi, far, gap, BitVec.toNat_sub, BitVec.toNat_ofNat]
  omega

/-- The bucket of a distance beyond the first eight, as computed. -/
noncomputable def logBucket (a : BitVec 32) : BitVec 32 :=
  FloatOps.fptosi (F := Ideal) (φ := .f32) 32
    (Ideal.div (Ideal.log (Ideal.div (FloatOps.sitofp (F := Ideal) .f32 (IntOp.maxsi a 1#32)) (Ideal.ofBits .f32 1090519040#32))) (Ideal.ofBits .f32 1076982296#32)
      * Ideal.ofBits .f32 1090519040#32)

/-- The bucket of a distance, as computed. -/
noncomputable def bucketOf (d : BitVec 32) : BitVec 32 :=
  IntOp.addi (IntOp.muli (BitVec.setWidth 32 (IntOp.cmpi .sgt d 0#32)) 16#32)
    (Scalar.select (IntOp.cmpi .slt (IntOp.absi d) 8#32) (IntOp.absi d) (IntOp.minsi (IntOp.addi 8#32 (logBucket (IntOp.absi d))) 15#32))

theorem far_in_band : ∀ e : Fin 512, IntOp.cmpi .sle (IntOp.absi (far e)) 128#32 = if 127 ≤ e.val ∧ e.val ≤ 383 then 1#1 else 0#1 := by
  decide +kernel

theorem far_sign : ∀ e : Fin 512, IntOp.muli (BitVec.setWidth 32 (IntOp.cmpi .sgt (far e) 0#32)) 16#32 = BitVec.ofNat 32 (if 255 < e.val then 16 else 0) := by
  decide +kernel

theorem far_near : ∀ e : Fin 512, (IntOp.cmpi .slt (IntOp.absi (far e)) 8#32 = 1#1 ∧ IntOp.absi (far e) = BitVec.ofNat 32 ((e.val - 255) + (255 - e.val)) ∧ (e.val - 255) + (255 - e.val) < 8)
    ∨ (IntOp.cmpi .slt (IntOp.absi (far e)) 8#32 = 0#1 ∧ (IntOp.maxsi (IntOp.absi (far e)) 1#32).toInt = ((e.val - 255) + (255 - e.val) : ℕ) ∧ 8 ≤ (e.val - 255) + (255 - e.val)) := by
  decide +kernel

theorem min_bucket : ∀ j : Fin 512, ∃ w : Fin 16, IntOp.minsi (IntOp.addi 8#32 (BitVec.ofNat 32 j.val)) 15#32 = BitVec.ofNat 32 w.val := by
  decide +kernel

/-- A positive normal word's value. -/
theorem word_value (b : BitVec 32) (x f : ℕ) (h0 : (b.extractLsb' 31 1 == 1#1) = false) (hx : (b.extractLsb' 23 8).toNat = x) (hx0 : x ≠ 0) (hx1 : x ≠ 255)
    (hf : (b.extractLsb' 0 23).toNat = f) :
    Ideal.ofBits .f32 b = (((2 ^ 23 + f : ℕ) * (2 : ℝ) ^ ((x : ℤ) - 150) : ℝ) : EReal) := by
  show Ideal.ieee 8 23 b = _
  unfold Ideal.ieee
  simp only [show (8 + 23 : ℕ) = 31 from rfl, h0, hx, hf]
  rw [if_neg (by norm_num; exact hx1), if_neg hx0]
  norm_num
  rw [show (x : ℤ) - 127 - 23 = (x : ℤ) - 150 by ring]

theorem eight : Ideal.ofBits .f32 1090519040#32 = ((8 : ℝ) : EReal) := by
  rw [word_value _ 130 0 (by decide) (by decide) (by decide) (by decide) (by decide)]
  norm_num

/-- The logarithm's divisor is a real number of at least one. -/
theorem log16 : ∃ x : ℝ, 1 ≤ x ∧ Ideal.ofBits .f32 1076982296#32 = (x : EReal) := by
  refine ⟨_, ?_, word_value _ 128 3240472 (by decide) (by decide) (by decide) (by decide) (by decide)⟩
  norm_num

/-- Beyond the first eight, the computed bucket is a small natural number. -/
theorem log_bucket (n : ℕ) (h8 : 8 ≤ n) (hn : n < 512) (a : BitVec 32) (ha : (IntOp.maxsi a 1#32).toInt = n) :
    ∃ j : Fin 512, logBucket a = BitVec.ofNat 32 j.val := by
  obtain ⟨x, hx, ex⟩ := log16
  have hn' : (8 : ℝ) ≤ n := by exact_mod_cast h8
  have hn2 : (n : ℝ) < 512 := by exact_mod_cast hn
  have hl0 : 0 ≤ Real.log ((n : ℝ) * (1 / 8)) := Real.log_nonneg (by linarith)
  have hl1 : Real.log ((n : ℝ) * (1 / 8)) ≤ 63 := (Real.log_le_sub_one_of_pos (by linarith)).trans (by linarith)
  have hx0 : x ≠ 0 := by linarith
  have hq0 : 0 ≤ Real.log ((n : ℝ) * (1 / 8)) * (1 / x) := mul_nonneg hl0 (by positivity)
  have hq1 : Real.log ((n : ℝ) * (1 / 8)) * (1 / x) ≤ 63 := by
    have : 1 / x ≤ 1 := by rw [div_le_one (by linarith)]; exact hx
    nlinarith
  have hv : logBucket a = Ideal.fptosi 32 (((Real.log ((n : ℝ) * (1 / 8)) * (1 / x)) * 8 : ℝ) : EReal) := by
    unfold logBucket
    rw [eight, ex]
    have e1 : FloatOps.sitofp (F := Ideal) .f32 (IntOp.maxsi a 1#32) = (((n : ℝ)) : EReal) := by
      show (((IntOp.maxsi a 1#32).toInt : ℝ) : EReal) = _
      rw [ha]; norm_cast
    rw [e1, Ideal.div_coe (y := x) hx0, Ideal.div_coe (y := 8) (by norm_num), ← EReal.coe_mul (n : ℝ)]
    have e2 : Ideal.log (((n : ℝ) * (1 / 8) : ℝ) : EReal) = (Real.log ((n : ℝ) * (1 / 8)) : ℝ) := if_neg (by linarith)
    rw [e2, ← EReal.coe_mul, ← EReal.coe_mul]
    rfl
  have hf0 : 0 ≤ ⌊Real.log ((n : ℝ) * (1 / 8)) * (1 / x) * 8⌋ := Int.floor_nonneg.mpr (by linarith)
  have hf1 : ⌊Real.log ((n : ℝ) * (1 / 8)) * (1 / x) * 8⌋ ≤ 504 := by
    have : (⌊Real.log ((n : ℝ) * (1 / 8)) * (1 / x) * 8⌋ : ℝ) ≤ 504 := (Int.floor_le _).trans (by linarith)
    exact_mod_cast this
  have hr : 0 ≤ Real.log ((n : ℝ) * (1 / 8)) * (1 / x) * 8 := by linarith
  rw [hv]
  generalize Real.log ((n : ℝ) * (1 / 8)) * (1 / x) * 8 = y at hf0 hf1 hr
  obtain ⟨j, hj⟩ := Int.eq_ofNat_of_zero_le hf0
  have hj' : j ≤ 504 := by omega
  refine ⟨⟨j, by omega⟩, ?_⟩
  unfold Ideal.fptosi
  rw [Ideal.toIntClamped_coe, if_pos hr, hj]
  have e3 : max (-((2 ^ (32 - 1) : ℕ) : ℤ)) (min (((2 ^ (32 - 1) : ℕ) : ℤ) - 1) (j : ℤ)) = (j : ℤ) := by
    norm_num; omega
  exact congrArg (BitVec.ofInt 32) e3

theorem bucket_small (e : Fin 512) : ∃ w : Fin 32, bucketOf (far e) = BitVec.ofNat 32 w.val := by
  unfold bucketOf
  rw [far_sign]
  have he := e.isLt
  rcases far_near e with ⟨h1, h2, h3⟩ | ⟨h1, h2, h3⟩
  · rw [h1, h2]
    refine ⟨⟨(if 255 < e.val then 16 else 0) + ((e.val - 255) + (255 - e.val)), by split <;> omega⟩, ?_⟩
    exact (BitVec.ofNat_add ..).symm
  · rw [h1]
    obtain ⟨j, hj⟩ := log_bucket _ h3 (by omega) _ h2
    obtain ⟨w, hw⟩ := min_bucket j
    refine ⟨⟨(if 255 < e.val then 16 else 0) + w.val, by have := w.isLt; split <;> omega⟩, ?_⟩
    rw [hj]
    exact (congrArg (IntOp.addi _) hw).trans (BitVec.ofNat_add ..).symm

end Cert.Mixer
-- ==== Proof.Mixer.Host.lean ====
module

public import proofs.«01_k».proof.Proof.Gen.KernelIdeal.Frame
public import Idealize.ShloMosaic.Lib.Pointwise
public import proofs.«01_k».proof.Proof.Mixer.Bucket

/-!
# What the host prepares for the two calls
-/

open Idealize.ShloMosaic Idealize.ShloMosaic.TcCoe
open Cert.KernelIdeal Cert.KernelIdeal.Gen

set_option maxRecDepth 16384

@[expose] public section

namespace Cert.Mixer

variable (m : (ℓ : Loc nD τ sig) → Buf (Elt Ideal) ℓ) (ρ : Dev nD → PrngReg) (c : Dev nD)

/-- The distance of a key from its query, in each of the three tables. -/
noncomputable def hRel2 : IVec S128x384 32 :=
  subi (subi (broadcastInDim S128x384 ![0, 1] bcast_S1x384_S128x384_0_1 (broadcastInDim S1x384 ![1] bcast_S384_S1x384_1 (iotaInDim S384 32 0)))
      (broadcastInDim S128x384 ![0, 1] bcast_S128x1_S128x384_0_1 (broadcastInDim S128x1 ![0] bcast_S128_S128x1_0 (iotaInDim S128 32 0))))
    (broadcastInDim S128x384 ![] bcast_S_S128x384 (constantI S_ 32 128#32))
noncomputable def hRel : IVec S3x128x384 32 := broadcastInDim S3x128x384 ![1, 2] bcast_S128x384_S3x128x384_1_2 hRel2

noncomputable def hConst (n : BitVec 32) : IVec S3x128x384 32 := broadcastInDim S3x128x384 ![] bcast_S_S3x128x384 (constantI S_ 32 n)
noncomputable def hConstF (n : BitVec 32) : FVec Ideal S3x128x384 .f32 := broadcastInDim S3x128x384 ![] bcast_S_S3x128x384 (constant S_ .f32 n)

/-- The bucket of a distance. -/
noncomputable def hBucket : IVec S3x128x384 32 :=
  addi (muli (extui 32 (cmpi .sgt hRel (hConst 0#32)) natLt_1_32) (hConst 16#32))
    (select (cmpi .slt (absi hRel) (hConst 8#32)) (absi hRel)
      (minsi (addi (hConst 8#32) (fptosi 32 (mulf (Host.divf (Host.log (Host.divf (sitofp .f32 (maxsi (absi hRel) (hConst 1#32))) (hConstF 0x41000000#32))) (hConstF 0x40317218#32)) (hConstF 0x41000000#32)))) (hConst 15#32)))

theorem bucket_eq : W6 (F := Ideal) m ρ c main_v52 = hBucket := by sl_kernel_rfl

theorem bucket_at (v : Fin 3) (r : Fin 128) (k : Fin 384) : hBucket (ix3 v r k) = bucketOf (far (gap r k)) := by
  rw [← far_key]
  pointwise [hBucket, hConst, hConstF, hRel, hRel2]
  rfl

/-- Which keys of a band lie in the sequence, for the three kinds of block. -/
noncomputable def hInside : IVec S3x1x384 1 :=
  let kj : IVec S1x384 32 := broadcastInDim S1x384 ![1] bcast_S384_S1x384_1 (iotaInDim S384 32 0)
  let c (n : BitVec 32) : IVec S1x384 32 := broadcastInDim S1x384 ![] bcast_S_S1x384 (constantI S_ 32 n)
  let up (x : IVec S1x384 1) : IVec S1x1x384 1 := broadcastInDim S1x1x384 ![1, 2] bcast_S1x384_S1x1x384_1_2 x
  concatenate S3x1x384 0 [⟨S1x1x384, up (cmpi .sge kj (c 0#32))⟩, ⟨S1x1x384, up (cmpi .sge kj (c 128#32))⟩, ⟨S1x1x384, up (cmpi .slt kj (c 256#32))⟩]
    concatenates_S1x1x384_S1x1x384_S1x1x384_S3x1x384_d0

/-- The permitted places of the three tables, as flags. -/
noncomputable def hValid : IVec S3x128x384 32 :=
  extui 32 (andi (cmpi .sle (absi hRel) (hConst 128#32)) (broadcastInDim S3x128x384 ![0, 1, 2] bcast_S3x1x384_S3x128x384_0_1_2 hInside)) natLt_1_32

theorem valid_eq : W6 (F := Ideal) m ρ c main_v58 = hValid := by sl_kernel_rfl

theorem inside_words : ∀ k : Fin 384, IntOp.cmpi .sge (BitVec.ofNat 32 k.val) 0#32 = 1#1
    ∧ IntOp.cmpi .sge (BitVec.ofNat 32 k.val) 128#32 = (if 128 ≤ k.val then 1#1 else 0#1)
    ∧ IntOp.cmpi .slt (BitVec.ofNat 32 k.val) 256#32 = (if k.val < 256 then 1#1 else 0#1) := by
  decide +kernel

/-- A place of table `v` is permitted. -/
def Open (v : Fin 3) (r : Fin 128) (k : Fin 384) : Prop :=
  (127 ≤ (gap r k).val ∧ (gap r k).val ≤ 383) ∧ (v.val = 1 → 128 ≤ k.val) ∧ (v.val = 2 → k.val < 256)

theorem inside_at (v : Fin 3) (k : Fin 384) : hInside (ix3 v 0 k) = if (v.val = 1 → 128 ≤ k.val) ∧ (v.val = 2 → k.val < 256) then 1#1 else 0#1 := by
  obtain ⟨h0, h1, h2⟩ := inside_words k
  pointwise [hInside]
  rw [h0, h1, h2]
  have hv := v.isLt
  have hk := k.isLt
  split_ifs <;> first | rfl | omega

theorem valid_at (v : Fin 3) (r : Fin 128) (k : Fin 384) : hValid (ix3 v r k) = 0#32 ↔ ¬ Open v r k := by
  have e : hValid (ix3 v r k) = BitVec.setWidth 32 (IntOp.andi (IntOp.cmpi .sle (IntOp.absi (far (gap r k))) 128#32) (hInside (ix3 v 0 k))) := by
    rw [← far_key]
    unfold hValid
    generalize hInside = I
    pointwise [hConst, hRel, hRel2]
  rw [e, far_in_band, inside_at]
  unfold Open
  split_ifs <;> simp_all <;> decide

/-- The keys, or values, beside themselves with the halves swapped. -/
noncomputable def hPair (a : FVec Ideal S4x4096x128 .f32) : FVec Ideal S4x4096x256 .bf16 :=
  truncf .bf16 (concatenate S4x4096x256 2 [⟨S4x4096x128, a⟩, ⟨S4x4096x128, concatenate S4x4096x128 2 [⟨S4x4096x64, extractStridedSlice S4x4096x64 ![0, 0, 64] a slices_S4x4096x128_S4x4096x64_0_0_64⟩, ⟨S4x4096x64, extractStridedSlice S4x4096x64 ![0, 0, 0] a slices_S4x4096x128_S4x4096x64_0_0_0⟩] concatenates_S4x4096x64_S4x4096x64_S4x4096x128_d2⟩] concatenates_S4x4096x128_S4x4096x128_S4x4096x256_d2) bitsLt_bf16_f32

noncomputable def hHalf (a : FVec Ideal S4x4096x512 .f32) : FVec Ideal S4x4096x512 .bf16 := truncf .bf16 a bitsLt_bf16_f32
noncomputable def hTop (a : FVec Ideal S1024x1024 .f32) : FVec Ideal S512x1024 .bf16 := truncf .bf16 (extractStridedSlice S512x1024 ![0, 0] a slices_S1024x1024_S512x1024_0_0) bitsLt_bf16_f32
noncomputable def hBottom (a : FVec Ideal S1024x1024 .f32) : FVec Ideal S512x1024 .bf16 := truncf .bf16 (extractStridedSlice S512x1024 ![512, 0] a slices_S1024x1024_S512x1024_512_0) bitsLt_bf16_f32

theorem q_eq : W6 (F := Ideal) m ρ c main_v6 = hHalf (m ((c : Thread nD τ).loc main_arg1)) := by sl_kernel_rfl
theorem c_eq : W6 (F := Ideal) m ρ c main_v7 = hHalf (m ((c : Thread nD τ).loc main_arg4)) := by sl_kernel_rfl
theorem k_eq : W6 (F := Ideal) m ρ c main_v2 = hPair (m ((c : Thread nD τ).loc main_arg2)) := by sl_kernel_rfl
theorem v_eq : W6 (F := Ideal) m ρ c main_v5 = hPair (m ((c : Thread nD τ).loc main_arg3)) := by sl_kernel_rfl
theorem top_eq : W8 (F := Ideal) m ρ c main_v61 = hTop (W7 m ρ c main_arg7) := by sl_kernel_rfl
theorem bottom_eq : W8 (F := Ideal) m ρ c main_v63 = hBottom (W7 m ρ c main_arg7) := by sl_kernel_rfl

theorem half_at (a : S4x4096x512.Idx → EReal) (i) : hHalf a i = a i := rfl
theorem top_at (a : S1024x1024.Idx → EReal) (i : Fin 512) (j : Fin 1024) : hTop a (ix2 i j) = a (ix2 ⟨i.val, by omega⟩ j) := by
  pointwise [hTop]
theorem bottom_at (a : S1024x1024.Idx → EReal) (i : Fin 512) (j : Fin 1024) : hBottom a (ix2 i j) = a (ix2 ⟨512 + i.val, by omega⟩ j) := by
  pointwise [hBottom]
theorem pair_at (a : S4x4096x128.Idx → EReal) (b : Fin 4) (s : Fin 4096) (l : Fin 256) : hPair a (ix3 b s l)
    = a (ix3 b s ⟨if l.val < 128 then l.val else if l.val < 192 then l.val - 64 else l.val - 192, by have := l.isLt; split_ifs <;> omega⟩) := by
  pointwise [hPair]
  have hl := l.isLt
  by_cases h1 : l.val < 128
  · rw [dif_pos h1]
    exact congrArg (fun z => a (ix3 b s z)) (Fin.ext (if_pos h1).symm)
  · rw [dif_neg h1]
    by_cases h2 : l.val - 128 < 64
    · rw [dif_pos h2]
      refine congrArg (fun z => a (ix3 b s z)) (Fin.ext (Eq.trans ?_ ((if_neg h1).trans (if_pos (by omega))).symm))
      show 64 + (l.val - 128) = l.val - 64
      omega
    · rw [dif_neg h2]
      refine congrArg (fun z => a (ix3 b s z)) (Fin.ext (Eq.trans ?_ ((if_neg h1).trans (if_neg (by omega))).symm))
      show l.val - 128 - 64 = l.val - 192
      omega

end Cert.Mixer
-- ==== Proof.Mixer.RefRow.lean ====
module

public import proofs.«01_k».proof.Proof.Gen.ReferenceIdeal.Read
public import Idealize.ShloMosaic.Lib.Pointwise

/-!
# The reference's softmax of one row
-/

open Idealize.ShloMosaic Idealize.ShloMosaic.TcCoe
open Cert.ReferenceIdeal Cert.ReferenceIdeal.Gen Cert.ReferenceIdeal.Read

set_option maxRecDepth 16384

@[expose] public section

namespace Cert.Mixer

theorem fold_last (y : S4x32x2x4x128x384.Idx → EReal) (b : Fin 4) (u : Fin 32) (h : Fin 2) (g : Fin 4) (r : Fin 128) :
    Finset.fold max ⊥ y {i | reducesTo_S4x32x2x4x128x384_S4x32x2x4x128_d5.drop i = ix5 b u h g r} = Finset.univ.sup fun k : Fin 384 => y (ix6 b u h g r k) := by
  have hs : Finset.fold max ⊥ y {i | reducesTo_S4x32x2x4x128x384_S4x32x2x4x128_d5.drop i = ix5 b u h g r}
      = Finset.sup {i | reducesTo_S4x32x2x4x128x384_S4x32x2x4x128_d5.drop i = ix5 b u h g r} y := rfl
  rw [hs]
  refine le_antisymm (Finset.sup_le fun i hi => ?_) (Finset.sup_le fun k _ => ?_)
  · have hd := (Finset.mem_filter.mp hi).2
    have e : i = ix6 b u h g r (i 5) := by
      funext a
      have q0 := congrArg Fin.val (congrFun hd 0)
      have q1 := congrArg Fin.val (congrFun hd 1)
      have q2 := congrArg Fin.val (congrFun hd 2)
      have q3 := congrArg Fin.val (congrFun hd 3)
      have q4 := congrArg Fin.val (congrFun hd 4)
      apply Fin.ext
      fin_cases a
      · exact q0
      · exact q1
      · exact q2
      · exact q3
      · exact q4
      · rfl
    rw [e]
    exact Finset.le_sup (f := fun k : Fin 384 => y (ix6 b u h g r k)) (Finset.mem_univ (i 5))
  · refine Finset.le_sup (f := y) (Finset.mem_filter.mpr ⟨Finset.mem_univ _, ?_⟩)
    funext a; fin_cases a <;> rfl

theorem sink_index (h : Fin 2) (g : Fin 4) : ((h.val * 4 + g.val) * 1 + 0) * 1 + 0 = h.val * 4 + g.val := by omega

theorem v92_at (b : Fin 4) (u : Fin 32) (h : Fin 2) (g : Fin 4) (r : Fin 128) (x1 x2 x5) :
    val_main_v92 (F := Ideal) x1 x2 x5 (ix5 b u h g r) = Finset.univ.sup fun k => val_main_v90 (F := Ideal) x1 x2 x5 (ix6 b u h g r k) := by
  unfold val_main_v92
  generalize val_main_v90 (F := Ideal) x1 x2 x5 = y
  have key : ∀ (y : S4x32x2x4x128x384.Idx → EReal), Host.reduce max y (fun _ => ⊥) reducesTo_S4x32x2x4x128x384_S4x32x2x4x128_d5 h_S_ (ix5 b u h g r) = Finset.univ.sup fun k : Fin 384 => y (ix6 b u h g r k) := by
    intro y
    pointwise
    exact fold_last y b u h g r
  refine Eq.trans ?_ (key y)
  congr 1

theorem v99_at (b : Fin 4) (u : Fin 32) (h : Fin 2) (g : Fin 4) (r : Fin 128) (k : Fin 384) (x1 x2 x5 x6) :
    val_main_v99 (F := Ideal) x1 x2 x5 x6 (ix6 b u h g r k)
      = Ideal.exp (val_main_v90 (F := Ideal) x1 x2 x5 (ix6 b u h g r k)
          - max (val_main_v92 (F := Ideal) x1 x2 x5 (ix5 b u h g r)) (x6 (ix1 ⟨h.val * 4 + g.val, by omega⟩))) := by
  rw [val_main_v99_apply, val_main_v98_apply, val_main_v97_apply, val_main_v96_apply, val_main_v93_apply, val_main_v95_apply, val_main_v94_apply, val_main_v91_apply]
  have e1 : idx_main_v93 (idx_main_v97 (ix6 b u h g r k : S4x32x2x4x128x384.Idx)) = (ix5 b u h g r : S4x32x2x4x128.Idx) := by funext a; fin_cases a <;> rfl
  have e2 : idx_main_v91 (idx_main_v94 (idx_main_v95 (idx_main_v97 (ix6 b u h g r k : S4x32x2x4x128x384.Idx)))) = (ix1 ⟨h.val * 4 + g.val, by omega⟩ : S8.Idx) := by
    funext a; fin_cases a
    exact Fin.ext (sink_index h g)
  rw [e1, e2]
  generalize val_main_v90 (F := Ideal) x1 x2 x5 (ix6 b u h g r k) = A
  generalize val_main_v92 (F := Ideal) x1 x2 x5 (ix5 b u h g r) = B
  rfl

theorem v100_at (b : Fin 4) (u : Fin 32) (h : Fin 2) (g : Fin 4) (r : Fin 128) (x1 x2 x5 x6) :
    val_main_v100 (F := Ideal) x1 x2 x5 x6 (ix5 b u h g r) = ∑ k, val_main_v99 (F := Ideal) x1 x2 x5 x6 (ix6 b u h g r k) := by
  rw [val_main_v100_apply, show val_main_cst_20 (F := Ideal) (Shape.Idx.first h_S_) = 0 from Ideal.ofBits_zero_f32, zero_add]
  refine Finset.sum_congr rfl fun k _ => congrArg _ ?_
  funext a; fin_cases a <;> rfl

theorem v108_at (b : Fin 4) (u : Fin 32) (h : Fin 2) (g : Fin 4) (r : Fin 128) (k : Fin 384) (x1 x2 x5 x6) :
    val_main_v108 (F := Ideal) x1 x2 x5 x6 (ix6 b u h g r k)
      = Ideal.div (val_main_v99 (F := Ideal) x1 x2 x5 x6 (ix6 b u h g r k))
        (val_main_v100 (F := Ideal) x1 x2 x5 x6 (ix5 b u h g r)
          + Ideal.exp (x6 (ix1 ⟨h.val * 4 + g.val, by omega⟩) - max (val_main_v92 (F := Ideal) x1 x2 x5 (ix5 b u h g r)) (x6 (ix1 ⟨h.val * 4 + g.val, by omega⟩)))) := by
  rw [val_main_v108_apply, val_main_v107_apply, val_main_v106_apply, val_main_v105_apply, val_main_v104_apply, val_main_v103_apply, val_main_v102_apply, val_main_v101_apply,
    val_main_v96_apply, val_main_v93_apply, val_main_v95_apply, val_main_v94_apply, val_main_v91_apply]
  have e0 : idx_main_v101 (idx_main_v107 (ix6 b u h g r k : S4x32x2x4x128x384.Idx)) = (ix5 b u h g r : S4x32x2x4x128.Idx) := by funext a; fin_cases a <;> rfl
  have e1 : idx_main_v93 (idx_main_v107 (ix6 b u h g r k : S4x32x2x4x128x384.Idx)) = (ix5 b u h g r : S4x32x2x4x128.Idx) := by funext a; fin_cases a <;> rfl
  have e3 : idx_main_v91 (idx_main_v102 (idx_main_v103 (idx_main_v107 (ix6 b u h g r k : S4x32x2x4x128x384.Idx)))) = (ix1 ⟨h.val * 4 + g.val, by omega⟩ : S8.Idx) := by
    funext a; fin_cases a
    exact Fin.ext (sink_index h g)
  rw [e0, e1, e3]
  generalize val_main_v99 (F := Ideal) x1 x2 x5 x6 (ix6 b u h g r k) = A
  generalize val_main_v92 (F := Ideal) x1 x2 x5 (ix5 b u h g r) = B
  generalize val_main_v100 (F := Ideal) x1 x2 x5 x6 (ix5 b u h g r) = C
  rfl

/-- The weight of a key in a row, over the row's scores. -/
theorem weight_at (b : Fin 4) (u : Fin 32) (h : Fin 2) (g : Fin 4) (r : Fin 128) (k : Fin 384) (x1 x2 x5 x6) (s : Fin 384 → EReal)
    (hs : ∀ k, val_main_v90 (F := Ideal) x1 x2 x5 (ix6 b u h g r k) = s k) (σ : EReal) (hσ : x6 (ix1 ⟨h.val * 4 + g.val, by omega⟩) = σ) :
    val_main_v108 (F := Ideal) x1 x2 x5 x6 (ix6 b u h g r k)
      = Ideal.div (Ideal.exp (s k - max (Finset.univ.sup s) σ)) (∑ j, Ideal.exp (s j - max (Finset.univ.sup s) σ) + Ideal.exp (σ - max (Finset.univ.sup s) σ)) := by
  rw [v108_at, v100_at, v99_at, v92_at]
  simp only [v99_at, v92_at, hs, hσ]

end Cert.Mixer
-- ==== Proof.Mixer.RefAt.lean ====
module

public import proofs.«01_k».proof.Proof.Mixer.RefRow
public import proofs.«01_k».proof.Proof.Mixer.Bucket

/-!
# The reference's result at an index
-/

open Idealize.ShloMosaic Idealize.ShloMosaic.TcCoe
open Cert.ReferenceIdeal Cert.ReferenceIdeal.Gen Cert.ReferenceIdeal.Read

set_option maxRecDepth 16384

@[expose] public section

namespace Cert.Mixer

theorem v8_at (r : Fin 128) (k : Fin 384) : val_main_v8 (F := Ideal) (ix2 r k) = far (gap r k) := by
  rw [← far_ref]
  pointwise [val_main_v8, val_main_v7, val_main_v6, val_main_v5, val_main_v4, val_main_v3, val_main_v2, val_main_v1, val_main_v0]
  rfl

theorem v33_at (r : Fin 128) (k : Fin 384) : val_main_v33 (F := Ideal) (ix2 r k) = bucketOf (far (gap r k)) := by
  rw [← v8_at]
  pointwise [val_main_v33, val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13, val_main_v12,
    val_main_v11, val_main_v10, val_main_v9]
  rfl

theorem v39_at (r : Fin 128) (k : Fin 384) : val_main_v39 (F := Ideal) (ix3 r k 0)
    = Scalar.select (IntOp.cmpi .slt (val_main_v33 (F := Ideal) (ix2 r k)) 0#32) (IntOp.addi (val_main_v33 (F := Ideal) (ix2 r k)) 32#32) (val_main_v33 (F := Ideal) (ix2 r k)) := by
  pointwise [val_main_v39, val_main_v38, val_main_v37, val_main_v36, val_main_v35, val_main_v34]
  rfl

/-- The bucket of a key of a band, for a query of its block. -/
noncomputable def bucket (r : Fin 128) (k : Fin 384) : Fin 32 := (bucket_small (gap r k)).choose

theorem bucket_word (r : Fin 128) (k : Fin 384) : bucketOf (far (gap r k)) = BitVec.ofNat 32 (bucket r k).val := (bucket_small (gap r k)).choose_spec

theorem bucket_wrap : ∀ w : Fin 32, (Scalar.select (IntOp.cmpi .slt (BitVec.ofNat 32 w.val) 0#32) (IntOp.addi (BitVec.ofNat 32 w.val) 32#32) (BitVec.ofNat 32 w.val)).toInt.toNat = w.val := by
  decide +kernel

/-- A row of the bias is taken by its bucket. -/
theorem gather_at (x : S32x8.Idx → EReal) (idx : IVec S128x384x1 32) (r : Fin 128) (k : Fin 384) (n : Fin 8) (w : Fin 32) (hw : (idx (ix3 r k 0)).toInt.toNat = w.val) :
    Host.gather gather_S32x8_S128x384x1_S128x384x8_2_0_n_n_0_2_18 x idx (ix3 r k n) = x (ix2 w n) := by
  unfold Host.gather
  congr 1
  funext a
  refine Fin.ext ?_
  show (gather_S32x8_S128x384x1_S128x384x8_2_0_n_n_0_2_18).start (ix3 r k n) idx a + (gather_S32x8_S128x384x1_S128x384x8_2_0_n_n_0_2_18).batchCoord (ix3 r k n) a
      + (gather_S32x8_S128x384x1_S128x384x8_2_0_n_n_0_2_18).offCoord (ix3 r k n) a = _
  have hb : (gather_S32x8_S128x384x1_S128x384x8_2_0_n_n_0_2_18).batchCoord (ix3 r k n) a = 0 := GatherDims.batchCoord_eq_zero _ _ _ List.not_mem_nil
  rw [hb]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x8_S128x384x1_S128x384x8_2_0_n_n_0_2_18).startIndexMap from List.mem_singleton.mpr rfl)]
    have hsi : (gather_S32x8_S128x384x1_S128x384x8_2_0_n_n_0_2_18).siIdx (ix3 r k n) ⟨List.idxOf (0 : Fin 2) (gather_S32x8_S128x384x1_S128x384x8_2_0_n_n_0_2_18).startIndexMap,
        List.idxOf_lt_length_iff.2 (List.mem_singleton.mpr rfl)⟩ = (ix3 r k 0 : S128x384x1.Idx) := by
      funext b; refine Fin.ext ?_
      match b with
      | ⟨0, _⟩ => rfl
      | ⟨1, _⟩ => rfl
      | ⟨2, _⟩ => rfl
    rw [hsi, hw]
    exact min_eq_left (by have := w.isLt; show w.val ≤ 32 - 1; omega)
  · unfold GatherDims.start
    rw [dif_neg (show (1 : Fin 2) ∉ (gather_S32x8_S128x384x1_S128x384x8_2_0_n_n_0_2_18).startIndexMap from by decide)]
    simp only [Nat.zero_add]
    rfl

theorem v40_at (x5 : S32x8.Idx → EReal) (r : Fin 128) (k : Fin 384) (n : Fin 8) : val_main_v40 (F := Ideal) x5 (ix3 r k n) = x5 (ix2 (bucket r k) n) := by
  unfold val_main_v40
  refine gather_at x5 _ r k n _ ?_
  rw [v39_at, v33_at, bucket_word]
  exact bucket_wrap _

/-- Key `k` of the band of block `u` is one query `r` of the block attends to. -/
def Seen (u : Fin 32) (r : Fin 128) (k : Fin 384) : Prop :=
  (127 ≤ (gap r k).val ∧ (gap r k).val ≤ 383) ∧ 128 ≤ u.val * 128 + k.val ∧ u.val * 128 + k.val < 4224

instance (u r k) : Decidable (Seen u r k) := by unfold Seen; infer_instance

theorem in_sequence : ∀ e : Fin 4480, IntOp.andi (IntOp.cmpi .sge (IntOp.subi (BitVec.ofNat 32 e.val) 128#32) 0#32) (IntOp.cmpi .slt (IntOp.subi (BitVec.ofNat 32 e.val) 128#32) 4096#32)
    = if 128 ≤ e.val ∧ e.val < 4224 then 1#1 else 0#1 := by
  decide +kernel

theorem and_flags (p q : Prop) [Decidable p] [Decidable q] : IntOp.andi (if p then 1#1 else 0#1) (if q then 1#1 else 0#1) = if p ∧ q then 1#1 else 0#1 := by
  by_cases hp : p <;> by_cases hq : q <;> simp [hp, hq] <;> rfl

theorem mask_at (b : Fin 4) (u : Fin 32) (h : Fin 2) (g : Fin 4) (r : Fin 128) (k : Fin 384) :
    val_main_call3_v1 (F := Ideal) (ix6 b u h g r k) = if Seen u r k then 1#1 else 0#1 := by
  have e : u.val * 128 + k.val < 4480 := by have := u.isLt; have := k.isLt; omega
  have hk := in_sequence ⟨u.val * 128 + k.val, e⟩
  have hw : IntOp.addi (IntOp.muli (BitVec.ofNat 32 u.val) 128#32) (BitVec.ofNat 32 k.val) = BitVec.ofNat 32 (u.val * 128 + k.val) := by
    rw [BitVec.ofNat_add, BitVec.ofNat_mul]; rfl
  rw [← hw] at hk
  unfold Seen
  rw [← and_flags]
  refine Eq.trans ?_ (congrArg₂ IntOp.andi (far_in_band (gap r k)) hk)
  rw [← v8_at]
  pointwise [val_main_call3_v1, val_main_call3_v0, val_main_v89, val_main_v81, val_main_v80, val_main_v79, val_main_v78, val_main_v77, val_main_v76, val_main_v75, val_main_v74,
    val_main_v73, val_main_v72, val_main_v71, val_main_v70, val_main_v69, val_main_v68, val_main_v67, val_main_v66, val_main_v65, val_main_v64, val_main_v63, val_main_v62,
    val_main_v61, val_main_v45, val_main_v44, val_main_v43]
  rfl

/-- The row key `k` of the band of block `u` lies at. -/
def keyRow (u : Fin 32) (k : Fin 384) : Fin 4096 := ⟨min (u.val * 128 + k.val - 128) 4095, by omega⟩

theorem v60_at (x3 : S4x4096x128.Idx → EReal) (b : Fin 4) (u : Fin 32) (h : Fin 2) (d : Fin 64) (k : Fin 384) (hs : 128 ≤ u.val * 128 + k.val ∧ u.val * 128 + k.val < 4224) :
    val_main_v60 (F := Ideal) x3 (ix5 b u k h d) = x3 (ix3 b (keyRow u k) ⟨h.val * 64 + d.val, by omega⟩) := by
  pointwise [val_main_v60, val_main_v59, val_main_v58, val_main_v57, val_main_v56, val_main_v55, val_main_v54]
  have hk := k.isLt
  unfold keyRow
  split_ifs <;> first | omega | (congr 2; exact Fin.ext (by simp only []; omega))

theorem v53_at (x2 : S4x4096x128.Idx → EReal) (b : Fin 4) (u : Fin 32) (h : Fin 2) (d : Fin 64) (k : Fin 384) (hs : 128 ≤ u.val * 128 + k.val ∧ u.val * 128 + k.val < 4224) :
    val_main_v53 (F := Ideal) x2 (ix5 b u k h d) = x2 (ix3 b (keyRow u k) ⟨h.val * 64 + d.val, by omega⟩) := by
  pointwise [val_main_v53, val_main_v52, val_main_v51, val_main_v50, val_main_v49, val_main_v48, val_main_v47]
  have hk := k.isLt
  unfold keyRow
  split_ifs <;> first | omega | (congr 2; exact Fin.ext (by simp only []; omega))

theorem v90_split (b : Fin 4) (u : Fin 32) (h : Fin 2) (g : Fin 4) (r : Fin 128) (k : Fin 384) (x1 x2 x5) :
    val_main_v90 (F := Ideal) x1 x2 x5 (ix6 b u h g r k)
      = if Seen u r k then (∑ d : Fin 64, val_main_v53 (F := Ideal) x2 (ix5 b u k h d) * x1 (ix3 b ⟨u.val * 128 + r.val, by omega⟩ ⟨h.val * 256 + g.val * 64 + d.val, by omega⟩))
          * Ideal.ofBits .f32 0x3E000000#32 + val_main_v40 (F := Ideal) x5 (ix3 r k ⟨h.val * 4 + g.val, by omega⟩) else ⊥ := by
  have hm := mask_at b u h g r k
  rw [val_main_v90_apply, hm]
  have hbot : val_main_call3_v2 (F := Ideal) (ix6 b u h g r k) = ⊥ := by
    rw [val_main_call3_v2_apply, val_main_call3_v0_apply, val_main_cst_18_apply]
    exact (by simp [Ideal.ofBits, Ideal.ieee] : Ideal.ofBits FTy.f32 4286578688#32 = ⊥)
  have hv : val_main_v88 (F := Ideal) x1 x2 x5 (ix6 b u h g r k) = (∑ d : Fin 64, val_main_v53 (F := Ideal) x2 (ix5 b u k h d) * x1 (ix3 b ⟨u.val * 128 + r.val, by omega⟩ ⟨h.val * 256 + g.val * 64 + d.val, by omega⟩))
          * Ideal.ofBits .f32 0x3E000000#32 + val_main_v40 (F := Ideal) x5 (ix3 r k ⟨h.val * 4 + g.val, by omega⟩) := by
    unfold val_main_v88 val_main_v87 val_main_v86 val_main_v85 val_main_v84 val_main_v83 val_main_v82 val_main_v42 val_main_v41 val_main_v46
    generalize val_main_v53 (F := Ideal) x2 = K
    generalize val_main_v40 (F := Ideal) x5 = T
    pointwise
    rfl
  rw [hbot, hv]
  by_cases hs : Seen u r k
  · rw [if_pos hs, if_pos hs]; rfl
  · rw [if_neg hs, if_neg hs]; rfl

/-- The reference's score of a key, for a query of its block. -/
noncomputable def refScore (x1 : S4x4096x512.Idx → EReal) (x2 : S4x4096x128.Idx → EReal) (x5 : S32x8.Idx → EReal) (b : Fin 4) (u : Fin 32) (n : Fin 8) (r : Fin 128) (k : Fin 384) : EReal :=
  if Seen u r k then (∑ d : Fin 64, x2 (ix3 b (keyRow u k) ⟨n.val / 4 * 64 + d.val, by omega⟩) * x1 (ix3 b ⟨u.val * 128 + r.val, by omega⟩ ⟨n.val * 64 + d.val, by omega⟩))
    * Ideal.ofBits .f32 0x3E000000#32 + x5 (ix2 (bucket r k) n) else ⊥

theorem v90_at (b : Fin 4) (u : Fin 32) (n : Fin 8) (r : Fin 128) (k : Fin 384) (x1 : S4x4096x512.Idx → EReal) (x2 : S4x4096x128.Idx → EReal) (x5 : S32x8.Idx → EReal) :
    val_main_v90 (F := Ideal) x1 x2 x5 (ix6 b u ⟨n.val / 4, by omega⟩ ⟨n.val % 4, by omega⟩ r k) = refScore x1 x2 x5 b u n r k := by
  rw [v90_split]
  unfold refScore
  by_cases hs : Seen u r k
  · rw [if_pos hs, if_pos hs, v40_at]
    refine congrArg₂ (· + ·) (congrArg (· * _) (Finset.sum_congr rfl fun d _ => ?_)) (congrArg x5 (congrArg (ix2 _) (Fin.ext (by show n.val / 4 * 4 + n.val % 4 = n.val; omega))))
    rw [v53_at x2 b u _ d k hs.2]
    congr 3
    exact Fin.ext (by show n.val / 4 * 256 + n.val % 4 * 64 + d.val = n.val * 64 + d.val; omega)
  · rw [if_neg hs, if_neg hs]

/-- The reference's attention at a block, head, query and lane. -/
noncomputable def refAttn (x1 : S4x4096x512.Idx → EReal) (x2 x3 : S4x4096x128.Idx → EReal) (x5 : S32x8.Idx → EReal) (x6 : S8.Idx → EReal) (b : Fin 4) (u : Fin 32) (n : Fin 8) (r : Fin 128) (d : Fin 64) : EReal :=
  ∑ k, Ideal.div (Ideal.exp (refScore x1 x2 x5 b u n r k - max (Finset.univ.sup (refScore x1 x2 x5 b u n r)) (x6 (ix1 n))))
      (∑ j, Ideal.exp (refScore x1 x2 x5 b u n r j - max (Finset.univ.sup (refScore x1 x2 x5 b u n r)) (x6 (ix1 n))) + Ideal.exp (x6 (ix1 n) - max (Finset.univ.sup (refScore x1 x2 x5 b u n r)) (x6 (ix1 n))))
    * val_main_v60 (F := Ideal) x3 (ix5 b u k ⟨n.val / 4, by omega⟩ d)

theorem ref_weight (b : Fin 4) (u : Fin 32) (n : Fin 8) (r : Fin 128) (k : Fin 384) (x1 : S4x4096x512.Idx → EReal) (x2 : S4x4096x128.Idx → EReal) (x5 : S32x8.Idx → EReal) (x6 : S8.Idx → EReal) :
    val_main_v108 (F := Ideal) x1 x2 x5 x6 (ix6 b u ⟨n.val / 4, by omega⟩ ⟨n.val % 4, by omega⟩ r k)
      = Ideal.div (Ideal.exp (refScore x1 x2 x5 b u n r k - max (Finset.univ.sup (refScore x1 x2 x5 b u n r)) (x6 (ix1 n))))
      (∑ j, Ideal.exp (refScore x1 x2 x5 b u n r j - max (Finset.univ.sup (refScore x1 x2 x5 b u n r)) (x6 (ix1 n))) + Ideal.exp (x6 (ix1 n) - max (Finset.univ.sup (refScore x1 x2 x5 b u n r)) (x6 (ix1 n)))) :=
  weight_at b u _ _ r k x1 x2 x5 x6 _ (fun k => v90_at b u n r k x1 x2 x5) _ (congrArg x6 (congrArg ix1 (Fin.ext (by show n.val / 4 * 4 + n.val % 4 = n.val; omega))))

theorem ref_at (x0 : S4x4096x1024.Idx → EReal) (x1 : S4x4096x512.Idx → EReal) (x2 x3 : S4x4096x128.Idx → EReal) (x4 : S4x4096x512.Idx → EReal) (x5 : S32x8.Idx → EReal) (x6 : S8.Idx → EReal)
    (x7 : S1024x1024.Idx → EReal) (b : Fin 4) (u : Fin 32) (r : Fin 128) (j : Fin 1024) :
    val_main_v114 (F := Ideal) x0 x1 x2 x3 x4 x5 x6 x7 (ix3 b ⟨u.val * 128 + r.val, by omega⟩ j)
      = x0 (ix3 b ⟨u.val * 128 + r.val, by omega⟩ j)
        + ((∑ a : Fin 512, refAttn x1 x2 x3 x5 x6 b u ⟨a.val / 64, by omega⟩ r ⟨a.val % 64, by omega⟩ * x7 (ix2 ⟨a.val, by omega⟩ j))
          + ∑ a : Fin 512, x4 (ix3 b ⟨u.val * 128 + r.val, by omega⟩ a) * x7 (ix2 ⟨512 + a.val, by omega⟩ j)) := by
  unfold refAttn
  simp only [← ref_weight]
  unfold val_main_v114 val_main_v113 val_main_v112 val_main_v111 val_main_v110 val_main_v109
  generalize val_main_v108 (F := Ideal) x1 x2 x5 x6 = P
  generalize val_main_v60 (F := Ideal) x3 = Vb
  pointwise
  refine congrArg (_ + ·) (congrArg (· + _) (Finset.sum_congr rfl fun a _ => congrArg (· * _) (Finset.sum_congr rfl fun k _ => ?_)))
  have e : (⟨a.val / 256, by omega⟩ : Fin 2) = ⟨a.val / 64 / 4, by omega⟩ := Fin.ext (by show a.val / 256 = a.val / 64 / 4; omega)
  rw [e]
  exact mul_comm _ _

end Cert.Mixer
-- ==== Proof.Mixer.Softmax.lean ====
module

public import Idealize.ShloMosaic.Lib.Pointwise

/-!
# One row of the attention

Both programs take, for one query and one head, the scores of a band of keys, subtract the largest of them and the sink,
exponentiate, and average the values with these weights. The kernel works with powers of two and divides once, at the
end; the reference works with powers of `e` and divides each weight. This module says the two numbers are the same.
-/

open Idealize.ShloMosaic

@[expose] public section

namespace Cert.Mixer

/-- The logarithm of `e` to the base two. -/
noncomputable def L : ℝ := (Real.log 2)⁻¹

theorem L_pos : 0 < L := inv_pos.mpr (Real.log_pos one_lt_two)

/-- A masked score is `⊥` in both scales; another is a number in one and the number times `L` in the other. -/
def Scaled (t t' : EReal) : Prop := (t = ⊥ ∧ t' = ⊥) ∨ ∃ r : ℝ, t = (r : EReal) ∧ t' = ((r * L : ℝ) : EReal)

theorem Scaled.max {a a' b b' : EReal} (ha : Scaled a a') (hb : Scaled b b') : Scaled (max a b) (max a' b') := by
  rcases ha with ⟨rfl, rfl⟩ | ⟨r, rfl, rfl⟩
  · simpa using hb
  · rcases hb with ⟨rfl, rfl⟩ | ⟨s, rfl, rfl⟩
    · right; exact ⟨r, by simp, by simp⟩
    · right
      refine ⟨Max.max r s, (EReal.coe_strictMono.monotone.map_max (a := r) (b := s)).symm, ?_⟩
      rw [max_mul_of_nonneg _ _ L_pos.le]
      exact (EReal.coe_strictMono.monotone.map_max).symm

variable {ι : Type} [Fintype ι]

theorem Scaled.sup (s : Finset ι) {t t' : ι → EReal} (h : ∀ k, Scaled (t k) (t' k)) : Scaled (s.sup t) (s.sup t') := by
  classical
  induction s using Finset.induction_on with
  | empty => left; simp
  | insert a s _ ih => rw [Finset.sup_insert, Finset.sup_insert]; exact (h a).max ih

/-- The largest score and the sink together: a number, since the sink is one. -/
theorem max_sink {t t' : ι → EReal} (h : ∀ k, Scaled (t k) (t' k)) (σ : ℝ) :
    ∃ r : ℝ, max (Finset.univ.sup t) (σ : EReal) = r ∧ max (Finset.univ.sup t') ((σ * L : ℝ) : EReal) = ((r * L : ℝ) : EReal) := by
  rcases (Scaled.sup Finset.univ h).max (.inr ⟨σ, rfl, rfl⟩) with ⟨h₁, -⟩ | h'
  · exact absurd (le_antisymm h₁.le bot_le ▸ le_max_right (Finset.univ.sup t) (σ : EReal)) (by simp)
  · exact h'

theorem two_rpow (r : ℝ) : Real.rpow 2 (r * L) = Real.exp r := by
  change (2 : ℝ) ^ (r * L) = _
  rw [Real.rpow_def_of_pos two_pos, L]
  congr 1
  have : Real.log 2 ≠ 0 := (Real.log_pos one_lt_two).ne'
  field_simp

/-- The weight of a key: the same number in both scales, nonnegative, and zero at a masked key. -/
theorem weight {t t' : EReal} (h : Scaled t t') (r : ℝ) :
    ∃ p : ℝ, 0 ≤ p ∧ Ideal.exp (t - (r : EReal)) = p ∧ Ideal.exp2 (t' - ((r * L : ℝ) : EReal)) = p ∧ (t = ⊥ → p = 0) := by
  rcases h with ⟨rfl, rfl⟩ | ⟨s, rfl, rfl⟩
  · refine ⟨0, le_rfl, ?_, ?_, fun _ => rfl⟩
    · rw [EReal.bot_sub]; rfl
    · rw [EReal.bot_sub]; rfl
  · refine ⟨Real.exp (s - r), (Real.exp_pos _).le, ?_, ?_, fun h => absurd h (by simp)⟩
    · rw [← EReal.coe_sub]; rfl
    · rw [← EReal.coe_sub, ← sub_mul, ← two_rpow]; rfl

theorem coe_sum (f : ι → ℝ) : ((∑ k, f k : ℝ) : EReal) = ∑ k, (f k : EReal) := by
  classical
  induction (Finset.univ : Finset ι) using Finset.induction_on with
  | empty => simp
  | insert a s h ih => rw [Finset.sum_insert h, Finset.sum_insert h, EReal.coe_add, ih]

theorem sum_mul_coe (f : ι → EReal) (c : ℝ) (hc : 0 ≤ c) : (∑ k, f k) * (c : EReal) = ∑ k, (c : EReal) * f k := by
  classical
  induction (Finset.univ : Finset ι) using Finset.induction_on with
  | empty => simp
  | insert a s h ih =>
    rw [Finset.sum_insert h, Finset.sum_insert h, mul_comm, EReal.left_distrib_of_nonneg_of_ne_top (by exact_mod_cast hc) (EReal.coe_ne_top _),
      mul_comm _ (∑ k ∈ s, f k), ih]

theorem div_coe_pos (x : EReal) {d : ℝ} (hd : 0 < d) : Ideal.div x (d : EReal) = x * ((d⁻¹ : ℝ) : EReal) := by
  have : (d : EReal) ≠ 0 := by exact_mod_cast hd.ne'
  rw [Ideal.div, if_neg this, EReal.coe_inv]

/-- ONE ROW: weights as powers of two, divided once, against weights as powers of `e`, each divided. -/
theorem row {t t' v v' : ι → EReal} (h : ∀ k, Scaled (t k) (t' k)) (σ : ℝ) (hv : ∀ k, t k ≠ ⊥ → v' k = v k) :
    Ideal.div (∑ k, Ideal.exp2 (t' k - max (Finset.univ.sup t') ((σ * L : ℝ) : EReal)) * v' k)
      (∑ k, Ideal.exp2 (t' k - max (Finset.univ.sup t') ((σ * L : ℝ) : EReal)) * 1
        + Ideal.exp2 (((σ * L : ℝ) : EReal) - max (Finset.univ.sup t') ((σ * L : ℝ) : EReal)))
    = ∑ k, Ideal.div (Ideal.exp (t k - max (Finset.univ.sup t) (σ : EReal)))
        (∑ j, Ideal.exp (t j - max (Finset.univ.sup t) (σ : EReal)) + Ideal.exp ((σ : EReal) - max (Finset.univ.sup t) (σ : EReal))) * v k := by
  obtain ⟨r, hr, hr'⟩ := max_sink h σ
  simp only [hr, hr']
  choose p hp0 hp hp' hpz using fun k => weight (h k) r
  have hs : Scaled (σ : EReal) ((σ * L : ℝ) : EReal) := .inr ⟨σ, rfl, rfl⟩
  have hs1 : Ideal.exp ((σ : EReal) - (r : EReal)) = (Real.exp (σ - r) : ℝ) := by rw [← EReal.coe_sub]; rfl
  have hs2 : Ideal.exp2 (((σ * L : ℝ) : EReal) - ((r * L : ℝ) : EReal)) = (Real.exp (σ - r) : ℝ) := by
    rw [← EReal.coe_sub, ← sub_mul, ← two_rpow]; rfl
  simp only [hp, hp', hs1, hs2, mul_one, ← coe_sum, ← EReal.coe_add]
  have hd : 0 < (∑ k, p k) + Real.exp (σ - r) := add_pos_of_nonneg_of_pos (Finset.sum_nonneg fun k _ => hp0 k) (Real.exp_pos _)
  simp only [div_coe_pos _ hd]
  rw [sum_mul_coe _ _ (inv_nonneg.mpr hd.le)]
  refine Finset.sum_congr rfl fun k _ => ?_
  by_cases hk : t k = ⊥
  · rw [hpz k hk]; simp
  · rw [hv k hk, ← mul_assoc, mul_comm ((_ : ℝ) : EReal) (p k : EReal)]

end Cert.Mixer
-- ==== Proof.Mixer.Math.lean ====
module

public import proofs.«01_k».proof.Proof.Mixer.Region
public import proofs.«01_k».proof.Proof.Mixer.Host
public import proofs.«01_k».proof.Proof.Mixer.RefAt
public import proofs.«01_k».proof.Proof.Mixer.Softmax

/-!
# The kernel's attention is the reference's
-/

open Idealize.ShloMosaic Idealize.ShloMosaic.TcCoe
open Cert.KernelIdeal Cert.KernelIdeal.Gen

set_option maxRecDepth 16384

@[expose] public section

namespace Cert.Mixer

/-- The scores over real queries, keys and biases: the kernel's are the reference's times the logarithm's scale. -/
theorem score_scaled (q k : Fin 64 → ℝ) (β : ℝ) :
    Scaled ((∑ d, (k d : EReal) * (q d : EReal)) * Ideal.ofBits .f32 0x3E000000#32 + (β : EReal))
      (∑ d, ((q d : EReal) * qScale) * (k d : EReal) + (β : EReal) * (((Real.log 2)⁻¹ : ℝ) : EReal)) := by
  refine Or.inr ⟨(∑ d, k d * q d) * 8⁻¹ + β, ?_, ?_⟩
  · rw [word_value _ 124 0 (by decide) (by decide) (by decide) (by decide) (by decide)]
    have e : (((2 ^ 23 + 0 : ℕ) : ℝ) * (2 : ℝ) ^ (((124 : ℕ) : ℤ) - 150)) = 8⁻¹ := by norm_num
    rw [e]
    simp only [← EReal.coe_mul, ← EReal.coe_add, ← coe_sum]
  · unfold qScale L
    simp only [← EReal.coe_mul, ← EReal.coe_add, ← coe_sum]
    congr 1
    rw [add_mul, Finset.sum_mul, Finset.sum_mul]
    congr 1
    refine Finset.sum_congr rfl fun d _ => ?_
    ring

section
variable (t : Fin 4) (jb : Fin 8)

/-- The block of queries, counted over the sequence. -/
def blockOf : Fin 32 := ⟨t.val * 8 + jb.val, by omega⟩

theorem seen_open (r : Fin 128) (k : Fin 384) : Seen (blockOf t jb) r k ↔ Open (variant t jb) r k := by
  have ht := t.isLt; have hj := jb.isLt; have hk := k.isLt
  unfold Seen Open
  have hv : ((variant t jb).val = 1 ↔ t.val = 0 ∧ jb.val = 0) ∧ ((variant t jb).val = 2 ↔ t.val = 3 ∧ jb.val = 7) := by
    unfold variant
    split_ifs with h1 h2 <;> constructor <;> constructor <;> intro h <;> first | exact absurd h (by decide) | exact h1 | exact h2 | rfl | omega
  rw [hv.1, hv.2]
  refine and_congr Iff.rfl ?_
  show 128 ≤ (t.val * 8 + jb.val) * 128 + k.val ∧ (t.val * 8 + jb.val) * 128 + k.val < 4224 ↔ _
  omega

theorem row_seen (k : Fin 384) (h : 128 ≤ (blockOf t jb).val * 128 + k.val ∧ (blockOf t jb).val * 128 + k.val < 4224) :
    srcRow t.val (jb.val * 128 + k.val) = (keyRow (blockOf t jb) k).val := by
  have ht := t.isLt; have hj := jb.isLt; have hk := k.isLt
  change 128 ≤ (t.val * 8 + jb.val) * 128 + k.val ∧ (t.val * 8 + jb.val) * 128 + k.val < 4224 at h
  show _ = min ((t.val * 8 + jb.val) * 128 + k.val - 128) 4095
  unfold srcRow
  split_ifs <;> omega

theorem col_plane : ∀ (n : Fin 8) (d : Fin 64),
    (if srcCol (plane n) (n.val % 2 * 64 + d.val) < 128 then srcCol (plane n) (n.val % 2 * 64 + d.val)
      else if srcCol (plane n) (n.val % 2 * 64 + d.val) < 192 then srcCol (plane n) (n.val % 2 * 64 + d.val) - 64 else srcCol (plane n) (n.val % 2 * 64 + d.val) - 192)
      = n.val / 4 * 64 + d.val := by
  decide +kernel

/-- A key or value the kernel reads at a seen place is the one the reference reads. -/
theorem pair_seen (a : S4x4096x128.Idx → EReal) (b : Fin 4) (n : Fin 8) (d : Fin 64) (k : Fin 384)
    (h : 128 ≤ (blockOf t jb).val * 128 + k.val ∧ (blockOf t jb).val * 128 + k.val < 4224) :
    seqOf (hPair a) b (ix3 0 ⟨srcRow t.val (jb.val * 128 + k.val), srcRow_lt t.isLt (by omega)⟩ ⟨srcCol (plane n) (n.val % 2 * 64 + d.val), srcCol_lt (by omega)⟩)
      = a (ix3 b (keyRow (blockOf t jb) k) ⟨n.val / 4 * 64 + d.val, by omega⟩) := by
  unfold seqOf
  refine (pair_at a b _ _).trans (congrArg a (congrArg₂ (ix3 b) (Fin.ext (row_seen t jb k h)) (Fin.ext (col_plane n d))))

variable (q : S4x4096x512.Idx → EReal) (k2 v2 : S4x4096x128.Idx → EReal) (rel : S32x8.Idx → EReal) (sink : S8.Idx → EReal)
  (hq : ∀ i, ∃ x : ℝ, q i = x) (hk : ∀ i, ∃ x : ℝ, k2 i = x) (hrel : ∀ i, ∃ x : ℝ, rel i = x) (hsink : ∀ i, ∃ x : ℝ, sink i = x)

/-- The buckets of the three tables. -/
noncomputable def tableBucket (z : S3x128x384.Idx) : Fin 32 := bucket (z 1) (z 2)

include hq hk hrel in
theorem scores (b : Fin 4) (n : Fin 8) (r : Fin 128) (k : Fin 384) :
    Scaled (refScore q k2 rel b (blockOf t jb) n r k)
      (score t (slab (hHalf q) b t) (seqOf (hPair k2) b) n jb r k + tableArr rel tableBucket hValid (ix4 (variant t jb) n r k)) := by
  by_cases hs : Seen (blockOf t jb) r k
  · have hv : ¬ hValid (ix3 (variant t jb) r k) = 0#32 := fun h => (valid_at _ r k).mp h ((seen_open t jb r k).mp hs)
    have ht : tableArr rel tableBucket hValid (ix4 (variant t jb) n r k) = rel (ix2 (bucket r k) n) * (((Real.log 2)⁻¹ : ℝ) : EReal) := by
      unfold tableArr
      exact if_neg hv
    have hr : refScore q k2 rel b (blockOf t jb) n r k = (∑ d : Fin 64, k2 (ix3 b (keyRow (blockOf t jb) k) ⟨n.val / 4 * 64 + d.val, by omega⟩)
          * q (ix3 b ⟨(blockOf t jb).val * 128 + r.val, by omega⟩ ⟨n.val * 64 + d.val, by omega⟩)) * Ideal.ofBits .f32 0x3E000000#32 + rel (ix2 (bucket r k) n) := by
      unfold refScore
      exact if_pos hs
    have hsc : score t (slab (hHalf q) b t) (seqOf (hPair k2) b) n jb r k = ∑ d : Fin 64, (q (ix3 b ⟨(blockOf t jb).val * 128 + r.val, by omega⟩ ⟨n.val * 64 + d.val, by omega⟩) * qScale)
          * k2 (ix3 b (keyRow (blockOf t jb) k) ⟨n.val / 4 * 64 + d.val, by omega⟩) := by
      unfold score
      refine Finset.sum_congr rfl fun d _ => congrArg₂ (· * ·) (congrArg (· * qScale) ?_) (pair_seen t jb k2 b n d k hs.2)
      unfold slab
      refine (half_at q _).trans (congrArg q (congrArg₂ (ix3 b) (Fin.ext ?_) rfl))
      show t.val * 1024 + (jb.val * 128 + r.val) = (t.val * 8 + jb.val) * 128 + r.val
      omega
    rw [hr, hsc, ht]
    choose qr hqr using hq
    choose kr hkr using hk
    choose br hbr using hrel
    simp only [hqr, hkr, hbr]
    exact score_scaled (fun d => qr (ix3 b ⟨(blockOf t jb).val * 128 + r.val, by omega⟩ ⟨n.val * 64 + d.val, by omega⟩)) (fun d => kr (ix3 b (keyRow (blockOf t jb) k) ⟨n.val / 4 * 64 + d.val, by omega⟩)) _
  · have hv : hValid (ix3 (variant t jb) r k) = 0#32 := (valid_at _ r k).mpr fun h => hs ((seen_open t jb r k).mpr h)
    refine Or.inl ⟨?_, ?_⟩
    · unfold refScore
      exact if_neg hs
    · have ht : tableArr rel tableBucket hValid (ix4 (variant t jb) n r k) = ⊥ := by
        unfold tableArr
        exact if_pos hv
      rw [ht, EReal.add_bot]

include hq hk hrel hsink in
theorem attention (b : Fin 4) (n : Fin 8) (r : Fin 128) (d : Fin 64) :
    yAt t sink (slab (hHalf q) b t) (seqOf (hPair k2) b) (seqOf (hPair v2) b) (tableArr rel tableBucket hValid) n jb r d
      = refAttn q k2 v2 rel sink b (blockOf t jb) n r d := by
  obtain ⟨σ, hσ⟩ := hsink (ix1 n)
  unfold yAt attn2 refAttn
  have hl : sinkLog (sink (ix1 n)) = ((σ * L : ℝ) : EReal) := by
    rw [hσ, EReal.coe_mul]; rfl
  rw [hl, hσ]
  refine row (scores t jb q k2 rel hq hk hrel b n r) σ fun k hne => ?_
  have hs : Seen (blockOf t jb) r k := by
    by_contra hs
    exact hne (by unfold refScore; exact if_neg hs)
  rw [pair_seen t jb v2 b n d k hs.2, v60_at v2 b _ _ d k hs.2]

end

end Cert.Mixer
-- ==== Proof.Mixer.Whole.lean ====
module

public import proofs.«01_k».proof.Proof.Mixer.Math

/-!
# The result array is the reference's
-/

open Idealize.ShloMosaic Idealize.ShloMosaic.TcCoe
open Cert.KernelIdeal Cert.KernelIdeal.Gen
open Cert.ReferenceIdeal.Read (val_main_v114)

set_option maxRecDepth 16384

@[expose] public section

namespace Cert.Mixer

section
variable (x : S4x4096x1024.Idx → EReal) (q : S4x4096x512.Idx → EReal) (k2 v2 : S4x4096x128.Idx → EReal) (cv : S4x4096x512.Idx → EReal)
  (rel : S32x8.Idx → EReal) (sink : S8.Idx → EReal) (w : S1024x1024.Idx → EReal)
  (hq : ∀ i, ∃ x : ℝ, q i = x) (hk : ∀ i, ∃ x : ℝ, k2 i = x) (hrel : ∀ i, ∃ x : ℝ, rel i = x) (hsink : ∀ i, ∃ x : ℝ, sink i = x)

/-- The block of a row, over the sequence: which tile it lies in, and which of the tile's blocks. -/
theorem block_row (u : Fin 32) : ∃ (t : Fin 4) (jb : Fin 8), u = blockOf t jb :=
  ⟨⟨u.val / 8, by omega⟩, ⟨u.val % 8, by omega⟩, Fin.ext (by show u.val = u.val / 8 * 8 + u.val % 8; omega)⟩

include hq hk hrel hsink in
theorem mix_ref (b : Fin 4) (t : Fin 4) (jb : Fin 8) (r : Fin 128) (j : Fin 1024) :
    mixAt sink x (hHalf q) (hPair k2) (hPair v2) (hHalf cv) (tableArr rel tableBucket hValid) (hTop w) (hBottom w) b t ⟨jb.val * 128 + r.val, by omega⟩ j
      = val_main_v114 (F := Ideal) x q k2 v2 cv rel sink w (ix3 b ⟨(blockOf t jb).val * 128 + r.val, by omega⟩ j) := by
  rw [ref_at]
  unfold mixAt outAt
  rw [add_assoc]
  have hrow : t.val * 1024 + (jb.val * 128 + r.val) = (blockOf t jb).val * 128 + r.val := by
    show _ = (t.val * 8 + jb.val) * 128 + r.val
    omega
  refine congrArg₂ (· + ·) ?_ (congrArg₂ (· + ·) ?_ ?_)
  · exact congrArg x (congrArg₂ (ix3 b) (Fin.ext hrow) rfl)
  · refine Finset.sum_congr rfl fun a _ => congrArg₂ (· * ·) ?_ (top_at w a j)
    have e := attention t jb q k2 v2 rel sink hq hk hrel hsink b ⟨a.val / 64, by omega⟩ r ⟨a.val % 64, by omega⟩
    rw [← e]
    have h1 : (jb.val * 128 + r.val) / 128 = jb.val := by omega
    have h2 : (jb.val * 128 + r.val) % 128 = r.val := by omega
    unfold yRow
    congr 1
    · exact Fin.ext h1
    · exact Fin.ext h2
  · refine Finset.sum_congr rfl fun a _ => congrArg₂ (· * ·) ?_ (bottom_at w a j)
    exact (half_at cv _).trans (congrArg cv (congrArg₂ (ix3 b) (Fin.ext hrow) rfl))

include hq hk hrel hsink in
theorem mix_eq :
    mixArr sink x (hHalf q) (hPair k2) (hPair v2) (hHalf cv) (tableArr rel tableBucket hValid) (hTop w) (hBottom w)
      = val_main_v114 (F := Ideal) x q k2 v2 cv rel sink w := by
  funext y
  obtain ⟨t, jb, hu⟩ := block_row ⟨(y 1).val / 128, by have := (y 1).isLt; show (y 1).val / 128 < 32; change (y 1).val < 4096 at this; omega⟩
  have hu' : (y 1).val / 128 = t.val * 8 + jb.val := congrArg Fin.val hu
  have hr : (y 1).val % 128 < 128 := Nat.mod_lt _ (by decide)
  have hrow : (y 1).val = (t.val * 8 + jb.val) * 128 + (y 1).val % 128 := by omega
  refine (mixArr_at sink x (hHalf q) (hPair k2) (hPair v2) (hHalf cv) (tableArr rel tableBucket hValid) (hTop w) (hBottom w) (y 0) t
    ⟨jb.val * 128 + (y 1).val % 128, by omega⟩ (y 2) y ⟨rfl, ?_, rfl⟩).trans ((mix_ref x q k2 v2 cv rel sink w hq hk hrel hsink (y 0) t jb ⟨(y 1).val % 128, hr⟩ (y 2)).trans ?_)
  · show (y 1).val = t.val * 1024 + (jb.val * 128 + (y 1).val % 128)
    omega
  · refine congrArg _ ?_
    funext a
    fin_cases a
    · rfl
    · exact Fin.ext hrow.symm
    · rfl

end

section
variable (m : (ℓ : Loc nD τ sig) → Buf (Elt Ideal) ℓ) (ρ : Dev nD → PrngReg) (c : Dev nD)

theorem table_eq : W8 (F := Ideal) m ρ c main_v59 = tableArr (m ((c : Thread nD τ).loc main_arg5)) tableBucket hValid := by
  refine (W8_of m ρ c main_v59 (by decide)).trans ((W7_arr m ρ c 3).trans ?_)
  refine (table_arr (V6 m ρ) c tableBucket fun z => ?_).trans ?_
  · refine (congrFun (bucket_eq m ρ c) z).trans ?_
    have hz : z = ix3 (z 0) (z 1) (z 2) := by funext a; fin_cases a <;> rfl
    refine (congrArg hBucket hz).trans ((bucket_at (z 0) (z 1) (z 2)).trans (bucket_word (z 1) (z 2)))
  · exact congrArg₂ (fun X M => tableArr X tableBucket M) (W6_args m ρ c main_arg5 (by decide)) (valid_eq m ρ c)

/-- A host array the first region does not write, at the second region's start. -/
theorem kept (r : Ref sig .tc) (h : r ∉ hostOps1_W) (h' : ∀ w, Pipeline.arrRef spec0 w = r → (cfg0.win w).isOut = false) :
    W8 (F := Ideal) m ρ c r = W6 m ρ c r := (W8_of m ρ c r h).trans (W7_of m ρ c r h')

theorem result_eq (hq : ∀ i, ∃ x : ℝ, m ((c : Thread nD τ).loc main_arg1) i = (x : EReal)) (hk : ∀ i, ∃ x : ℝ, m ((c : Thread nD τ).loc main_arg2) i = (x : EReal))
    (hrel : ∀ i, ∃ x : ℝ, m ((c : Thread nD τ).loc main_arg5) i = (x : EReal)) (hsink : ∀ i, ∃ x : ℝ, m ((c : Thread nD τ).loc main_arg6) i = (x : EReal)) :
    W9 (F := Ideal) m ρ c main_v64 = val_main_v114 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 9).trans ((out_arr (V8 m ρ) c).trans ?_)
  have e0 : V8 (F := Ideal) m ρ c main_arg0 = m ((c : Thread nD τ).loc main_arg0) := W8_args m ρ c main_arg0 (by decide)
  have e6 : V8 (F := Ideal) m ρ c main_arg6 = m ((c : Thread nD τ).loc main_arg6) := W8_args m ρ c main_arg6 (by decide)
  have eq : V8 (F := Ideal) m ρ c main_v6 = _ := (kept m ρ c main_v6 (by decide) (by decide)).trans (q_eq m ρ c)
  have ek : V8 (F := Ideal) m ρ c main_v2 = _ := (kept m ρ c main_v2 (by decide) (by decide)).trans (k_eq m ρ c)
  have ev : V8 (F := Ideal) m ρ c main_v5 = _ := (kept m ρ c main_v5 (by decide) (by decide)).trans (v_eq m ρ c)
  have ec : V8 (F := Ideal) m ρ c main_v7 = _ := (kept m ρ c main_v7 (by decide) (by decide)).trans (c_eq m ρ c)
  have et : V8 (F := Ideal) m ρ c main_v59 = _ := table_eq m ρ c
  have eT : V8 (F := Ideal) m ρ c main_v61 = _ := (top_eq m ρ c).trans (congrArg hTop (W7_args m ρ c main_arg7 (by decide)))
  have eB : V8 (F := Ideal) m ρ c main_v63 = _ := (bottom_eq m ρ c).trans (congrArg hBottom (W7_args m ρ c main_arg7 (by decide)))
  rw [e0, e6, eq, ek, ev, ec, et, eT, eB]
  exact mix_eq _ _ _ _ _ _ _ _ hq hk hrel hsink

end

end Cert.Mixer
-- ==== Proof.Mixer.Run.lean ====
module

public import proofs.«01_k».proof.Proof.Gen.KernelIdeal.Frame
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-!
# One run of the kernel's program, with the value of its result
-/

@[expose] public section

set_option maxRecDepth 16384

namespace Cert.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program ends with its result at the last boundary's contents and its arguments as they were. -/
theorem run : θ_run (defs (F := Ideal)) (onTc (τ := τ) (main (F := Ideal))) ⟨m, fun _ => 0, ρ⟩ (fun r => ∀ c : Dev nD,
      r.2.mem ((c.tc : Thread nD τ).loc main_v64) = W9 m ρ c main_v64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c =>
      ⟨(h c _ (mem_uc main_v64 (by decide))),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.Mixer
-- ==== Proof.Mixer.Finite.lean ====
module

public import proofs.«01_k».proof.Proof.Gen.Pre_finite
public import Idealize.ShloMosaic.Lib.KernelVsHost

/-!
# A finite array's elements are real numbers
-/

open Idealize.ShloMosaic

@[expose] public section

namespace Cert.Mixer

/-- What is below infinity in absolute value is a real number. -/
theorem real_of_lt (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

open Cert.Pre_finite in
/-- The precondition, element by element. -/
theorem reals (x : S4x4096x1024.Idx → EReal) (q : S4x4096x512.Idx → EReal) (k v : S4x4096x128.Idx → EReal) (cv : S4x4096x512.Idx → EReal) (rel : S32x8.Idx → EReal)
    (sink : S8.Idx → EReal) (w : S1024x1024.Idx → EReal) :
    ((fn (F := Ideal) x q k v cv rel sink w).1 = (fun _ => 1#1) → ∀ i, ∃ r : ℝ, q i = r)
    ∧ ((fn (F := Ideal) x q k v cv rel sink w).2.1 = (fun _ => 1#1) → ∀ i, ∃ r : ℝ, k i = r)
    ∧ ((fn (F := Ideal) x q k v cv rel sink w).2.2.1 = (fun _ => 1#1) → ∀ i, ∃ r : ℝ, rel i = r)
    ∧ ((fn (F := Ideal) x q k v cv rel sink w).2.2.2 = (fun _ => 1#1) → ∀ i, ∃ r : ℝ, sink i = r) :=
  ⟨fun h i => real_of_lt _ (congrFun h i), fun h i => real_of_lt _ (congrFun h i), fun h i => real_of_lt _ (congrFun h i), fun h i => real_of_lt _ (congrFun h i)⟩

end Cert.Mixer
-- ==== Proof.Ffn.Body.lean ====
module

public import proofs.«01_k».proof.Proof.Gen.Kernel2Ideal.Frame
public import proofs.«01_k».proof.Proof.Gen.Kernel2Ideal.Loops
public import Idealize.ShloMosaic.Lib.Pipeline.FrameBody
public import Idealize.ShloMosaic.Lib.Pipeline.Frame
public import Idealize.ShloMosaic.Lib.Ring

/-!
# One run of the feed-forward call's body

The body at a grid point, from any contents of its scratch buffers.
-/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat BodyObligation)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- What the body stores into its result's block, last first, by the contents it finds in what it writes, with the run that stores it. -/
def ffnRun (c : Dev nD) (i : grid0.Coords) (arg2 : Memref sig .tc .vmem S1x1024x1024 .f32) (harg2 : arg2.IsWhole) (arg3 : Memref sig .tc .vmem S1x8x1024 .f32) (harg3 : arg3.IsWhole)
    (arg4 : Memref sig .tc .vmem S1x8x1024 .f32) (harg4 : arg4.IsWhole) (arg5 : Memref sig .tc .vmem S1x1024 .f32) (harg5 : arg5.IsWhole)
    (arg6 : Memref sig .tc .vmem S2x11x1024x256 .bf16) (harg6 : arg6.IsWhole) (arg7 : Memref sig .tc .vmem S2x11x3x256 .f32) (harg7 : arg7.IsWhole)
    (arg8 : Memref sig .tc .vmem S2x11x1x256 .f32) (harg8 : arg8.IsWhole) (arg9 : Memref sig .tc .vmem S11x256x1024 .bf16) (harg9 : arg9.IsWhole)
    (arg10 : Memref sig .tc .vmem S1x1024 .f32) (harg10 : arg10.IsWhole) (arg11 : Memref sig .tc .vmem S1x1024x1024 .f32) (harg11 : arg11.IsWhole)
    (arg12 : Memref sig .tc .vmem S1040x1024 .bf16) (harg12 : arg12.IsWhole) (arg13 : Memref sig .tc .vmem S2x1040x128 .f32) (harg13 : arg13.IsWhole)
    (arg14 : Memref sig .tc .vmem S2x1040x128 .f32) (harg14 : arg14.IsWhole) (arg15 : Memref sig .tc .vmem S2x1040x128 .f32) (harg15 : arg15.IsWhole)
    (arg16 : Memref sig .tc .vmem S2x1040x128 .f32) (harg16 : arg16.IsWhole)
    (x0 : Vec F S1x1024x1024 .f32) (x1 x2 : Vec F S1x8x1024 .f32) (x3 : Vec F S1x1024 .f32) (x4 : Vec F S2x11x1024x256 .bf16) (x5 : Vec F S2x11x3x256 .f32)
    (x6 : Vec F S2x11x1x256 .f32) (x7 : Vec F S11x256x1024 .bf16) (x8 : Vec F S1x1024 .f32)
    (f9 : BufTy.Contents (Elt F) arg11.view.ty) (f12 : BufTy.Contents (Elt F) arg12.view.ty) (f13 : BufTy.Contents (Elt F) arg13.view.ty)
    (f14 : BufTy.Contents (Elt F) arg14.view.ty) (f15 : BufTy.Contents (Elt F) arg15.view.ty) (f16 : BufTy.Contents (Elt F) arg16.view.ty) :
    { L9 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7 ∗ owns (c : Thread nD τ) arg10 fullShare x8
            ∗ (arg11.view.loc (c : Thread nD τ) ↦[arg11.view.set]{fullShare} f9) ∗ (arg12.view.loc (c : Thread nD τ) ↦[arg12.view.set]{fullShare} f12)
            ∗ (arg13.view.loc (c : Thread nD τ) ↦[arg13.view.set]{fullShare} f13) ∗ (arg14.view.loc (c : Thread nD τ) ↦[arg14.view.set]{fullShare} f14)
            ∗ (arg15.view.loc (c : Thread nD τ) ↦[arg15.view.set]{fullShare} f15) ∗ (arg16.view.loc (c : Thread nD τ) ↦[arg16.view.set]{fullShare} f16)
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4 ∗ owns (c : Thread nD τ) arg7 fullShare x5
              ∗ owns (c : Thread nD τ) arg8 fullShare x6 ∗ owns (c : Thread nD τ) arg9 fullShare x7 ∗ owns (c : Thread nD τ) arg10 fullShare x8
              ∗ (∃ f, arg11.view.loc (c : Thread nD τ) ↦[arg11.view.set]{fullShare} arg11.view.writes (Elt F) f L9)
              ∗ (∃ d, arg12.view.loc (c : Thread nD τ) ↦[arg12.view.set]{fullShare} d) ∗ (∃ d, arg13.view.loc (c : Thread nD τ) ↦[arg13.view.set]{fullShare} d)
              ∗ (∃ d, arg14.view.loc (c : Thread nD τ) ↦[arg14.view.set]{fullShare} d) ∗ (∃ d, arg15.view.loc (c : Thread nD τ) ↦[arg15.view.set]{fullShare} d)
              ∗ (∃ d, arg16.view.loc (c : Thread nD τ) ↦[arg16.view.set]{fullShare} d)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    rw [cc0_ffn_eq_skeleton]
    unfold cc0_ffn_skel
    simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, H9, HS0, HS1, HS2, HS3, HS4, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    iexists _; iexact HS4

/-! ## What the run stores does not hang on the contents it finds -/

section Free

variable (c : Dev nD) (i : grid0.Coords) (arg2 : Memref sig .tc .vmem S1x1024x1024 .f32) (harg2 : arg2.IsWhole) (arg3 : Memref sig .tc .vmem S1x8x1024 .f32) (harg3 : arg3.IsWhole)
    (arg4 : Memref sig .tc .vmem S1x8x1024 .f32) (harg4 : arg4.IsWhole) (arg5 : Memref sig .tc .vmem S1x1024 .f32) (harg5 : arg5.IsWhole)
    (arg6 : Memref sig .tc .vmem S2x11x1024x256 .bf16) (harg6 : arg6.IsWhole) (arg7 : Memref sig .tc .vmem S2x11x3x256 .f32) (harg7 : arg7.IsWhole)
    (arg8 : Memref sig .tc .vmem S2x11x1x256 .f32) (harg8 : arg8.IsWhole) (arg9 : Memref sig .tc .vmem S11x256x1024 .bf16) (harg9 : arg9.IsWhole)
    (arg10 : Memref sig .tc .vmem S1x1024 .f32) (harg10 : arg10.IsWhole) (arg11 : Memref sig .tc .vmem S1x1024x1024 .f32) (harg11 : arg11.IsWhole)
    (arg12 : Memref sig .tc .vmem S1040x1024 .bf16) (harg12 : arg12.IsWhole) (arg13 : Memref sig .tc .vmem S2x1040x128 .f32) (harg13 : arg13.IsWhole)
    (arg14 : Memref sig .tc .vmem S2x1040x128 .f32) (harg14 : arg14.IsWhole) (arg15 : Memref sig .tc .vmem S2x1040x128 .f32) (harg15 : arg15.IsWhole)
    (arg16 : Memref sig .tc .vmem S2x1040x128 .f32) (harg16 : arg16.IsWhole)
  (v67 : Vec F S1040x1024 .bf16) (v70 : FVec F S1040x256 .f32) (X6 : BufTy.Contents (Elt F) arg6.view.ty) (X7 : BufTy.Contents (Elt F) arg7.view.ty) (X8 : BufTy.Contents (Elt F) arg8.view.ty) (X9 : BufTy.Contents (Elt F) arg9.view.ty) (X12 : BufTy.Contents (Elt F) arg12.view.ty)

theorem trip_free (k : Fin k0_t1_loop.trips) (f11 : BufTy.Contents (Elt F) arg11.view.ty) (f13 : BufTy.Contents (Elt F) arg13.view.ty) (f14 : BufTy.Contents (Elt F) arg14.view.ty)
    (f15 f15' : BufTy.Contents (Elt F) arg15.view.ty) (f16 f16' : BufTy.Contents (Elt F) arg16.view.ty) :
    tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 k f11 f13 f14 f15 f16 = tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 k f11 f13 f14 f15' f16' := by
  unfold tripL_k0_t1 trip_k0_t1; rfl

theorem trips_free (G11 : BufTy.Contents (Elt F) arg11.view.ty) (G13 : BufTy.Contents (Elt F) arg13.view.ty) (G14 : BufTy.Contents (Elt F) arg14.view.ty)
    (f15 f15' : BufTy.Contents (Elt F) arg15.view.ty) (f16 f16' : BufTy.Contents (Elt F) arg16.view.ty) (k : ℕ) :
    pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 f15 f16 k = pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 f15' f16' k := by
  induction k with
  | zero => rw [pb_k0_t1.eq_1, pb_k0_t1.eq_1]
  | succ k ih =>
    rw [pb_k0_t1.eq_2, pb_k0_t1.eq_2, ih]
    unfold pb_k0_t1Step
    split
    · rw [trip_free (f15' := arg15.view.writes (Elt F) f15' _) (f16' := arg16.view.writes (Elt F) f16' _)]
    · rfl

end Free

section Out

variable (c : Dev nD) (i : grid0.Coords) (arg2 : Memref sig .tc .vmem S1x1024x1024 .f32) (harg2 : arg2.IsWhole) (arg3 : Memref sig .tc .vmem S1x8x1024 .f32) (harg3 : arg3.IsWhole)
    (arg4 : Memref sig .tc .vmem S1x8x1024 .f32) (harg4 : arg4.IsWhole) (arg5 : Memref sig .tc .vmem S1x1024 .f32) (harg5 : arg5.IsWhole)
    (arg6 : Memref sig .tc .vmem S2x11x1024x256 .bf16) (harg6 : arg6.IsWhole) (arg7 : Memref sig .tc .vmem S2x11x3x256 .f32) (harg7 : arg7.IsWhole)
    (arg8 : Memref sig .tc .vmem S2x11x1x256 .f32) (harg8 : arg8.IsWhole) (arg9 : Memref sig .tc .vmem S11x256x1024 .bf16) (harg9 : arg9.IsWhole)
    (arg10 : Memref sig .tc .vmem S1x1024 .f32) (harg10 : arg10.IsWhole) (arg11 : Memref sig .tc .vmem S1x1024x1024 .f32) (harg11 : arg11.IsWhole)
    (arg12 : Memref sig .tc .vmem S1040x1024 .bf16) (harg12 : arg12.IsWhole) (arg13 : Memref sig .tc .vmem S2x1040x128 .f32) (harg13 : arg13.IsWhole)
    (arg14 : Memref sig .tc .vmem S2x1040x128 .f32) (harg14 : arg14.IsWhole) (arg15 : Memref sig .tc .vmem S2x1040x128 .f32) (harg15 : arg15.IsWhole)
    (arg16 : Memref sig .tc .vmem S2x1040x128 .f32) (harg16 : arg16.IsWhole)
  (x0 : Vec F S1x1024x1024 .f32) (x1 x2 : Vec F S1x8x1024 .f32) (x3 : Vec F S1x1024 .f32) (x4 : Vec F S2x11x1024x256 .bf16) (x5 : Vec F S2x11x3x256 .f32)
  (x6 : Vec F S2x11x1x256 .f32) (x7 : Vec F S11x256x1024 .bf16) (x8 : Vec F S1x1024 .f32)

theorem run_free (f9 f9' : BufTy.Contents (Elt F) arg11.view.ty) (f12 f12' : BufTy.Contents (Elt F) arg12.view.ty) (f13 f13' : BufTy.Contents (Elt F) arg13.view.ty)
    (f14 f14' : BufTy.Contents (Elt F) arg14.view.ty) (f15 f15' : BufTy.Contents (Elt F) arg15.view.ty) (f16 f16' : BufTy.Contents (Elt F) arg16.view.ty) :
    (ffnRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 f9 f12 f13 f14 f15 f16).1
      = (ffnRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 f9' f12' f13' f14' f15' f16').1 := by
  have h := fun v67 v70 X6 X7 X8 X9 X12 G11 G13 G14 k => trips_free c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 f15 f15' f16 f16' k
  unfold ffnRun
  delta ffnRun.sl.H9_1_1 ffnRun.sl.H9_2 ffnRun.sl.H9_3 ffnRun.sl.HS1_2_1 ffnRun.sl.HS2_2_1 ffnRun.sl.HS3_2 ffnRun.sl.HS4_2 ffnRun.sl.r_10 ffnRun.sl.r_11 ffnRun.sl.r_12 ffnRun.sl.r_13 ffnRun.sl.r_14 ffnRun.sl.r_15 ffnRun.sl.r_16 ffnRun.sl.r_17 ffnRun.sl.r_18 ffnRun.sl.r_19 ffnRun.sl.r_20 ffnRun.sl.r_21 ffnRun.sl.r_22 ffnRun.sl.r_23 ffnRun.sl.r_24 ffnRun.sl.r_25 ffnRun.sl.r_26 ffnRun.sl.r_27 ffnRun.sl.r_28 ffnRun.sl.r_29 ffnRun.sl.r_30 ffnRun.sl.r_31 ffnRun.sl.r_32 ffnRun.sl.r_33 ffnRun.sl.r_34 ffnRun.sl.r_35 ffnRun.sl.r_4 ffnRun.sl.r_5 ffnRun.sl.r_6 ffnRun.sl.r_7 ffnRun.sl.r_8 ffnRun.sl.r_9 ffnRun.sl.v119 ffnRun.sl.v126 ffnRun.sl.v132 ffnRun.sl.v143 ffnRun.sl.v150 ffnRun.sl.v156 ffnRun.sl.v177 ffnRun.sl.v184 ffnRun.sl.v190 ffnRun.sl.v201 ffnRun.sl.v208 ffnRun.sl.v214 ffnRun.sl.v231 ffnRun.sl.v268 ffnRun.sl.v275 ffnRun.sl.v281 ffnRun.sl.v292 ffnRun.sl.v299 ffnRun.sl.v305 ffnRun.sl.v326 ffnRun.sl.v333 ffnRun.sl.v339 ffnRun.sl.v350 ffnRun.sl.v357 ffnRun.sl.v363 ffnRun.sl.v380 ffnRun.sl.v394 ffnRun.sl.v401 ffnRun.sl.v407 ffnRun.sl.v418 ffnRun.sl.v425 ffnRun.sl.v431 ffnRun.sl.v452 ffnRun.sl.v459 ffnRun.sl.v465 ffnRun.sl.v476 ffnRun.sl.v483 ffnRun.sl.v489 ffnRun.sl.v506 ffnRun.sl.v515
  simp only [h]

/-- The contents the run is stated at when nothing is known of them. -/
abbrev runAt := ffnRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 arg11.view.junk arg12.view.junk arg13.view.junk arg14.view.junk arg15.view.junk arg16.view.junk

theorem run_cover (y : S1x1024x1024.Idx) : ∃ p ∈ (runAt c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).1, y ∈ p.1.set :=
  View.cover_of_tiledL (runAt c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).1 S1x1024x1024.size (by sl_kernel_rfl) y

end Out

end Cert.Ffn
-- ==== Proof.Ffn.Launch.lean ====
module

public import proofs.«01_k».proof.Proof.Ffn.Body

/-!
# The feed-forward call at every grid point, and its launch
-/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat BodyObligation)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result's staging buffer, as a view. -/
abbrev VO : View sig .tc .vmem S1x1024x1024 .f32 := (Memref.whole cc0_stg9_0 : Memref sig .tc .vmem S1x1024x1024 .f32).view

/-- The run at a grid point's buffers and blocks. -/
abbrev runPt (c : Dev nD) (t : Fin cfg0.N) := runAt c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t)

/-- What the body leaves in the result's block at a grid point. -/
def outsAt (c : Dev nD) (t : Fin cfg0.N) : Vec F S1x1024x1024 .f32 := VO.read (Elt F) (VO.writes (Elt F) VO.junk (runPt m c t).1)

abbrev scr0 : Memref sig .tc .vmem S1040x1024 .bf16 := Memref.whole cc0_scratch0
abbrev scr1 : Memref sig .tc .vmem S2x1040x128 .f32 := Memref.whole cc0_scratch1
abbrev scr2 : Memref sig .tc .vmem S2x1040x128 .f32 := Memref.whole cc0_scratch2
abbrev scr3 : Memref sig .tc .vmem S2x1040x128 .f32 := Memref.whole cc0_scratch3
abbrev scr4 : Memref sig .tc .vmem S2x1040x128 .f32 := Memref.whole cc0_scratch4

theorem disown {S : Shape} {d : EltTy} (c : Dev nD) (r : Memref sig .tc .vmem S d) (x : S.Idx → Elt F d) : (owns (c : Thread nD τ) r fullShare x : sProp 𝕄) ⊢ iprop(∃ f, r.view.loc (c : Thread nD τ) ↦[r.view.set]{fullShare} f) := by
  unfold owns; iintro ⟨%f, -, H⟩; iexists f; iexact H

theorem reown {S : Shape} {d : EltTy} (c : Dev nD) (r : Memref sig .tc .vmem S d) (f : BufTy.Contents (Elt F) r.view.ty) : (r.view.loc (c : Thread nD τ) ↦[r.view.set]{fullShare} f : sProp 𝕄) ⊢ iprop(∃ x, owns (c : Thread nD τ) r fullShare x) := by
  iintro H; iexists _; unfold owns; iexists f; isplitr
  · ipureintro; rfl
  iexact H

theorem Phi_eq (c : Dev nD) : (Pipeline.ΦA spec0 c : sProp 𝕄)
    = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The pipeline's proof data on a core. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt m c t
  Φ _ := Pipeline.ΦA spec0 c
  q w := Pipeline.shareOf spec0 w
  owed _ := 0

theorem A_eq (c : Dev nD) (w : Fin cfg0.W) : (dat m c).A w = V m c (Pipeline.arrRef spec0 w) := by
  dsimp only [dat]

theorem after_0 (c : Dev nD) (t : Fin cfg0.N) : (dat m c).after 0 t = iblk m c 0 t := by dsimp only [dat]
theorem after_1 (c : Dev nD) (t : Fin cfg0.N) : (dat m c).after 1 t = iblk m c 1 t := by dsimp only [dat]
theorem after_2 (c : Dev nD) (t : Fin cfg0.N) : (dat m c).after 2 t = iblk m c 2 t := by dsimp only [dat]
theorem after_3 (c : Dev nD) (t : Fin cfg0.N) : (dat m c).after 3 t = iblk m c 3 t := by dsimp only [dat]
theorem after_4 (c : Dev nD) (t : Fin cfg0.N) : (dat m c).after 4 t = iblk m c 4 t := by dsimp only [dat]
theorem after_5 (c : Dev nD) (t : Fin cfg0.N) : (dat m c).after 5 t = iblk m c 5 t := by dsimp only [dat]
theorem after_6 (c : Dev nD) (t : Fin cfg0.N) : (dat m c).after 6 t = iblk m c 6 t := by dsimp only [dat]
theorem after_7 (c : Dev nD) (t : Fin cfg0.N) : (dat m c).after 7 t = iblk m c 7 t := by dsimp only [dat]
theorem after_8 (c : Dev nD) (t : Fin cfg0.N) : (dat m c).after 8 t = iblk m c 8 t := by dsimp only [dat]
theorem after_9 (c : Dev nD) (t : Fin cfg0.N) : (dat m c).after 9 t = outsAt m c t := by dsimp only [dat]

theorem before_0 (c : Dev nD) (t : Fin cfg0.N) (d) : (dat m c).before 0 t d = iblk m c 0 t := before0_0_of m (dat m c) (A_eq m c 0) (after_0 m c) t d
theorem before_1 (c : Dev nD) (t : Fin cfg0.N) (d) : (dat m c).before 1 t d = iblk m c 1 t := before0_1_of m (dat m c) (A_eq m c 1) (after_1 m c) t d
theorem before_2 (c : Dev nD) (t : Fin cfg0.N) (d) : (dat m c).before 2 t d = iblk m c 2 t := before0_2_of m (dat m c) (A_eq m c 2) (after_2 m c) t d
theorem before_3 (c : Dev nD) (t : Fin cfg0.N) (d) : (dat m c).before 3 t d = iblk m c 3 t := before0_3_of m (dat m c) (A_eq m c 3) (after_3 m c) t d
theorem before_4 (c : Dev nD) (t : Fin cfg0.N) (d) : (dat m c).before 4 t d = iblk m c 4 t := before0_4_of m (dat m c) (A_eq m c 4) (after_4 m c) t d
theorem before_5 (c : Dev nD) (t : Fin cfg0.N) (d) : (dat m c).before 5 t d = iblk m c 5 t := before0_5_of m (dat m c) (A_eq m c 5) (after_5 m c) t d
theorem before_6 (c : Dev nD) (t : Fin cfg0.N) (d) : (dat m c).before 6 t d = iblk m c 6 t := before0_6_of m (dat m c) (A_eq m c 6) (after_6 m c) t d
theorem before_7 (c : Dev nD) (t : Fin cfg0.N) (d) : (dat m c).before 7 t d = iblk m c 7 t := before0_7_of m (dat m c) (A_eq m c 7) (after_7 m c) t d
theorem before_8 (c : Dev nD) (t : Fin cfg0.N) (d) : (dat m c).before 8 t d = iblk m c 8 t := before0_8_of m (dat m c) (A_eq m c 8) (after_8 m c) t d

/-- What the body is called with at a grid point, window by window, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d)))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ owns (c : Thread nD τ) (st0_9 t) fullShare ((dat m c).after 9 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dat m c).Φ t.succ = (dat m c).Φ t.castSucc from rfl,
    show (dat m c).owesAt () t.succ = (dat m c).owesAt () t.castSucc from rfl,
    after_0, after_1, after_2, after_3, after_4, after_5, after_6, after_7, after_8, after_9]
  rw [show (dat m c).Φ t.castSucc = Pipeline.ΦA spec0 c from rfl, Phi_eq]
  unfold outsAt
  iintro ⟨⟨⟨⟨%d10, HS0⟩, ⟨%d11, HS1⟩, ⟨%d12, HS2⟩, ⟨%d13, HS3⟩, ⟨%d14, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H9 := (disown c _ _) $$ H9
  icases H9 with ⟨%f9, H9⟩
  ihave HS0 := (disown c _ _) $$ HS0
  icases HS0 with ⟨%s0, HS0⟩
  ihave HS1 := (disown c _ _) $$ HS1
  icases HS1 with ⟨%s1, HS1⟩
  ihave HS2 := (disown c _ _) $$ HS2
  icases HS2 with ⟨%s2, HS2⟩
  ihave HS3 := (disown c _ _) $$ HS3
  icases HS3 with ⟨%s3, HS3⟩
  ihave HS4 := (disown c _ _) $$ HS4
  icases HS4 with ⟨%s4, HS4⟩
  iapply ((ffnRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) f9 s0 s1 s2 s3 s4).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, H9⟩, ⟨%fT0, HS0⟩, ⟨%fT1, HS1⟩, ⟨%fT2, HS2⟩, ⟨%fT3, HS3⟩, ⟨%fT4, HS4⟩⟩
  isplitl [HS0 HS1 HS2 HS3 HS4 Hg]
  · isplitl [HS0 HS1 HS2 HS3 HS4]
    · isplitl [HS0]; · iapply (reown c scr0 fT0); iexact HS0
      isplitl [HS1]; · iapply (reown c scr1 fT1); iexact HS1
      isplitl [HS2]; · iapply (reown c scr2 fT2); iexact HS2
      isplitl [HS3]; · iapply (reown c scr3 fT3); iexact HS3
      iapply (reown c scr4 fT4); iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro
  rw [run_free (f9' := View.junk _) (f12' := View.junk _) (f13' := View.junk _) (f14' := View.junk _) (f15' := View.junk _) (f16' := View.junk _)]
  exact View.read_writes_of_cover _ _ _ _ _ (run_cover c _ _ _ _ _ _ _ _ _ _ _ _ _ _ _ _ _ _ _ _ _ _ _ _ _ _ _ _ _ _ _ _ _ _ _ _ _ _ _ _)

theorem defs₀_row (t : Fin cfg0.N) : defs₀ (F := F) .tc cfg0.body (cfg0.bodyArgs t (cfg0.slots t)) = bodyAt0 t := by
  unfold defs₀; rw [Defs.onTc_tc]

/-- The body keeps its promise at every grid point. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-- The proof data of the program's one pipeline. -/
abbrev dats (p : Fin 1) (c : Dev nD) : Dat τ (Elt F) Unit ℕ (UR sig nD τ) ℕ (cfgs p) c := match p with | ⟨0, _⟩ => dat m c

/-- The program runs to its end with every array at what the pipeline leaves and every counter at zero. -/
theorem run_main : θ_run (defs (F := F)) (onTc (τ := τ) (main (F := F))) (s₀ m ρ) (fun r => Pipeline.FramePost cfgs (dats m) 0 (V m) r ∧ r.2.sem = fun _ => 0) :=
  Pipeline.θ_run_frame_shared cfgs (dats m) (0 : Fin 1) launch₀0 defs₀ Variants.none m ρ main
    (hbody := fun c => (body_obligation m c).loose) (hq := fun _ _ _ => rfl) (howed := fun _ _ => rfl) (V := V m) (hmain := hmain m Variants.none)
    (hA := A_eq m) (hΦ := fun _ _ => rfl) (Q' := fun r => Pipeline.FramePost cfgs (dats m) 0 (V m) r ∧ r.2.sem = fun _ => 0) (hQ' := fun _ h => h)

/-- The run leaves the result array as the pipeline computes it, the arguments as they were, and every counter at zero. -/
theorem run_whole : θ_run (defs (F := F)) (onTc (τ := τ) (main (F := F))) ⟨m, fun _ => 0, ρ⟩ (fun r => (∀ c : Dev nD,
      r.2.mem ((c.tc : Thread nD τ).loc main_v12) = (dat m c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1 c).1 9,
    ((h.1 c).1 2).trans (((dat m c).arrAt_in 2 rfl _).trans ((A_eq m c 2).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run_main m ρ)

/-- The frame. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => (h.1 c).2, h.2⟩) (run_whole m ρ)

end Cert.Ffn
-- ==== Proof.Ffn.Stage.lean ====
module

public import proofs.«01_k».proof.Proof.Gen.Kernel2Ideal.Skeleton
public import Idealize.ShloMosaic.Lib.Pointwise
public import Idealize.ShloMosaic.Lib.VecWindow

/-!
# One chunk of the feed-forward, number by number

A chunk is 256 of the hidden columns: its projection up, its convolution of three rows, its gate and its projection down.
-/

open Idealize.ShloMosaic
open Cert.Kernel2Ideal Cert.Kernel2Ideal.Gen

set_option maxRecDepth 16384

@[expose] public section

namespace Cert.Ffn

/-- Minus the reciprocal of `log 2`. -/
noncomputable abbrev negLog2e : EReal := ((-((Real.log 2)⁻¹) : ℝ) : EReal)

/-- The convolution of three rows on a chunk's first 128 columns, -/
noncomputable def convA (w : Vec Ideal S1x1x3x256 .f32) (b : Vec Ideal S1x1x1x256 .f32) (x7 x8 x9 : Vec Ideal S1x1024x128 .f32) : FVec Ideal S1024x128 .f32 :=
  addf (addf (addf (broadcastTo S1024x128 (extractStridedSlice S1x128 ![0, 0] (shapeCast S1x256 b shapeCasts_S1x1x1x256_S1x256) slices_S1x256_o0_0_S1x128) broadcasts_S1x128_S1024x128)
      (mulf (shapeCast S1024x128 x7 shapeCasts_S1x1024x128_S1024x128) (broadcastTo S1024x128 (extractStridedSlice S1x128 ![0, 0] (shapeCast S3x256 w shapeCasts_S1x1x3x256_S3x256) slices_S3x256_o0_0_S1x128) broadcasts_S1x128_S1024x128)))
      (mulf (shapeCast S1024x128 x8 shapeCasts_S1x1024x128_S1024x128) (broadcastTo S1024x128 (extractStridedSlice S1x128 ![1, 0] (shapeCast S3x256 w shapeCasts_S1x1x3x256_S3x256) slices_S3x256_o1_0_S1x128) broadcasts_S1x128_S1024x128)))
      (mulf (shapeCast S1024x128 x9 shapeCasts_S1x1024x128_S1024x128) (broadcastTo S1024x128 (extractStridedSlice S1x128 ![2, 0] (shapeCast S3x256 w shapeCasts_S1x1x3x256_S3x256) slices_S3x256_o2_0_S1x128) broadcasts_S1x128_S1024x128))

/-- and on its last 128. -/
noncomputable def convB (w : Vec Ideal S1x1x3x256 .f32) (b : Vec Ideal S1x1x1x256 .f32) (x7 x8 x9 : Vec Ideal S1x1024x128 .f32) : FVec Ideal S1024x128 .f32 :=
  addf (addf (addf (broadcastTo S1024x128 (extractStridedSlice S1x128 ![0, 128] (shapeCast S1x256 b shapeCasts_S1x1x1x256_S1x256) slices_S1x256_o0_128_S1x128) broadcasts_S1x128_S1024x128)
      (mulf (shapeCast S1024x128 x7 shapeCasts_S1x1024x128_S1024x128) (broadcastTo S1024x128 (extractStridedSlice S1x128 ![0, 128] (shapeCast S3x256 w shapeCasts_S1x1x3x256_S3x256) slices_S3x256_o0_128_S1x128) broadcasts_S1x128_S1024x128)))
      (mulf (shapeCast S1024x128 x8 shapeCasts_S1x1024x128_S1024x128) (broadcastTo S1024x128 (extractStridedSlice S1x128 ![1, 128] (shapeCast S3x256 w shapeCasts_S1x1x3x256_S3x256) slices_S3x256_o1_128_S1x128) broadcasts_S1x128_S1024x128)))
      (mulf (shapeCast S1024x128 x9 shapeCasts_S1x1024x128_S1024x128) (broadcastTo S1024x128 (extractStridedSlice S1x128 ![2, 128] (shapeCast S3x256 w shapeCasts_S1x1x3x256_S3x256) slices_S3x256_o2_128_S1x128) broadcasts_S1x128_S1024x128))

/-- The gate's product. -/
noncomputable def gated (g v : FVec Ideal S1024x128 .f32) : FVec Ideal S1024x128 .bf16 :=
  truncf .bf16 (mulf (mulf g (divf (broadcast S1024x128 (Scalar.ofBits .f32 0x3F800000#32))
    (addf (broadcast S1024x128 (Scalar.ofBits .f32 0x3F800000#32)) (exp2 (mulf g (broadcast S1024x128 (Named.named κ "neg_log2e" 0xBFB8AA3B#32))))))) v) bitsLt_bf16_f32

/-- The projection down, added to what the chunks before left. -/
noncomputable def downTile (o : Vec Ideal S1x1024x1024 .f32) (a₀ a₁ : FVec Ideal S1024x128 .bf16) (wd : Vec Ideal S1x256x1024 .bf16) : FVec Ideal S1x1024x1024 .f32 :=
  shapeCast S1x1024x1024 (addf (shapeCast S1024x1024 o shapeCasts_S1x1024x1024_S1024x1024)
    (matmul (φ₁ := .bf16) (φ₂ := .bf16) dot_S1024x256_S256x1024_S1024x1024_1_0_0_1_n_n none
      (concatenate S1024x256 1 [⟨S1024x128, a₀⟩, ⟨S1024x128, a₁⟩] concatenates_S1024x128_S1024x128_S1024x256_d1)
      (shapeCast S256x1024 wd shapeCasts_S1x256x1024_S256x1024 : FVec Ideal S256x1024 .bf16) (constant S1024x1024 .f32 0x00000000#32))) shapeCasts_S1024x1024_S1x1024x1024

/-- The projection up, -/
noncomputable def upTile (h : Vec Ideal S1040x1024 .bf16) (w : Vec Ideal S1x1x1024x256 .bf16) : FVec Ideal S1040x256 .f32 :=
  matmul (φ₁ := .bf16) (φ₂ := .bf16) dot_S1040x1024_S1024x256_S1040x256_1_0_0_1_n_n none h
    (shapeCast S1024x256 w shapeCasts_S1x1x1024x256_S1024x256 : FVec Ideal S1024x256 .bf16) (constant S1040x256 .f32 0x00000000#32)

/-- its first 128 columns, -/
noncomputable def upA (h : Vec Ideal S1040x1024 .bf16) (w : Vec Ideal S1x1x1024x256 .bf16) : FVec Ideal S1x1040x128 .f32 :=
  shapeCast S1x1040x128 (extractStridedSlice S1040x128 ![0, 0] (upTile h w) slices_S1040x256_o0_0_S1040x128) shapeCasts_S1040x128_S1x1040x128

/-- and its last 128. -/
noncomputable def upB (h : Vec Ideal S1040x1024 .bf16) (w : Vec Ideal S1x1x1024x256 .bf16) : FVec Ideal S1x1040x128 .f32 :=
  shapeCast S1x1040x128 (extractStridedSlice S1040x128 ![0, 128] (upTile h w) slices_S1040x256_o0_128_S1040x128) shapeCasts_S1040x128_S1x1040x128

section at_
variable (w : Vec Ideal S1x1x3x256 .f32) (b : Vec Ideal S1x1x1x256 .f32) (x7 x8 x9 : Vec Ideal S1x1024x128 .f32)

theorem convA_at (r : Fin 1024) (l : Fin 128) : convA w b x7 x8 x9 (ix2 r l)
    = b (ix4 0 0 0 ⟨l.val, by omega⟩) + x7 (ix3 0 r l) * w (ix4 0 0 0 ⟨l.val, by omega⟩) + x8 (ix3 0 r l) * w (ix4 0 0 1 ⟨l.val, by omega⟩) + x9 (ix3 0 r l) * w (ix4 0 0 2 ⟨l.val, by omega⟩) := by
  pointwise [convA]

theorem convB_at (r : Fin 1024) (l : Fin 128) : convB w b x7 x8 x9 (ix2 r l)
    = b (ix4 0 0 0 ⟨128 + l.val, by omega⟩) + x7 (ix3 0 r l) * w (ix4 0 0 0 ⟨128 + l.val, by omega⟩) + x8 (ix3 0 r l) * w (ix4 0 0 1 ⟨128 + l.val, by omega⟩) + x9 (ix3 0 r l) * w (ix4 0 0 2 ⟨128 + l.val, by omega⟩) := by
  pointwise [convB]

theorem gated_at (g v : FVec Ideal S1024x128 .f32) (r : Fin 1024) (l : Fin 128) : gated g v (ix2 r l)
    = g (ix2 r l) * Ideal.div 1 (1 + Ideal.exp2 (g (ix2 r l) * negLog2e)) * v (ix2 r l) := by
  pointwise [gated]
  rfl

theorem downTile_at (o : Vec Ideal S1x1024x1024 .f32) (a₀ a₁ : FVec Ideal S1024x128 .bf16) (wd : Vec Ideal S1x256x1024 .bf16) (r j : Fin 1024) :
    downTile o a₀ a₁ wd (ix3 0 r j) = o (ix3 0 r j) + ∑ c : Fin 256, (if h : c.val < 128 then a₀ (ix2 r ⟨c.val, h⟩) else a₁ (ix2 r ⟨c.val - 128, by omega⟩)) * wd (ix3 0 c j) := by
  pointwise [downTile]

theorem upA_at (h : Vec Ideal S1040x1024 .bf16) (w : Vec Ideal S1x1x1024x256 .bf16) (r : Fin 1040) (l : Fin 128) :
    upA h w (ix3 0 r l) = ∑ d : Fin 1024, h (ix2 r d) * w (ix4 0 0 d ⟨l.val, by omega⟩) := by
  pointwise [upA, upTile]

theorem upB_at (h : Vec Ideal S1040x1024 .bf16) (w : Vec Ideal S1x1x1024x256 .bf16) (r : Fin 1040) (l : Fin 128) :
    upB h w (ix3 0 r l) = ∑ d : Fin 1024, h (ix2 r d) * w (ix4 0 0 d ⟨128 + l.val, by omega⟩) := by
  pointwise [upB, upTile]

end at_

end Cert.Ffn
-- ==== Proof.Ffn.Trip.lean ====
module

public import proofs.«01_k».proof.Proof.Gen.Kernel2Ideal.Frame
public import proofs.«01_k».proof.Proof.Gen.Kernel2Ideal.Loops
public import proofs.«01_k».proof.Proof.Ffn.Stage

/-!
# One turn of the feed-forward's loop, and the two together

A turn finishes four chunks and projects the next one up.
-/

open Idealize.ShloMosaic
open Cert.Kernel2Ideal Cert.Kernel2Ideal.Gen

set_option maxRecDepth 16384

@[expose] public section

namespace Cert.Ffn

/-- The two halves of a chunk's projected rows, one above the other. -/
def pairUp (p q : Vec Ideal S1x1040x128 .f32) : Vec Ideal S2x1040x128 .f32 :=
  fun y => if (y 0).val = 0 then p (ix3 0 (y 1) (y 2)) else q (ix3 0 (y 1) (y 2))

theorem read_pair (v : View sig .tc .vmem S2x1040x128 .f32) (f : BufTy.Contents (Elt Ideal) v.ty) (inb₁ inb₀) (q p : Vec Ideal S1x1040x128 .f32) (L : List (View.Piece (Elt Ideal) S2x1040x128 .f32)) :
    v.read (Elt Ideal) (v.writes (Elt Ideal) f (⟨Rect.unit ![1, 0, 0] S1x1040x128.size inb₁, q⟩ :: ⟨Rect.unit ![0, 0, 0] S1x1040x128.size inb₀, p⟩ :: L)) = pairUp p q := by
  rw [View.read_writes_cons_put v f inb₁ q _ rfl, View.read_writes_cons_put v f inb₀ p _ rfl]
  funext y
  have h1 := (y 1).isLt; have h2 := (y 2).isLt; have h0 := (y 0).isLt
  change (y 0).val < 2 at h0; change (y 1).val < 1040 at h1; change (y 2).val < 128 at h2
  unfold pairUp VecWindow.put
  by_cases h : (y 0).val = 0
  · rw [if_pos h, dif_neg (fun hh => by have := (hh 0).1; change 1 ≤ (y 0).val at this; omega),
      dif_pos (fun a => by fin_cases a <;> [exact ⟨Nat.zero_le _, by show (y 0).val < 0 + 1; omega⟩; exact ⟨Nat.zero_le _, by show (y 1).val < 0 + 1040; omega⟩; exact ⟨Nat.zero_le _, by show (y 2).val < 0 + 128; omega⟩])]
    refine congrArg p (funext fun a => Fin.ext ?_)
    fin_cases a
    · show (y 0).val - 0 = 0; omega
    · rfl
    · rfl
  · rw [if_neg h, dif_pos (fun a => by fin_cases a <;> [exact ⟨by show 1 ≤ (y 0).val; omega, by show (y 0).val < 1 + 1; omega⟩; exact ⟨Nat.zero_le _, by show (y 1).val < 0 + 1040; omega⟩; exact ⟨Nat.zero_le _, by show (y 2).val < 0 + 128; omega⟩])]
    refine congrArg q (funext fun a => Fin.ext ?_)
    fin_cases a
    · show (y 0).val - 1 = 0; omega
    · rfl
    · rfl

theorem readCov_pair (v : View sig .tc .vmem S2x1040x128 .f32) (inb₁ inb₀) (q p : Vec Ideal S1x1040x128 .f32) (L : List (View.Piece (Elt Ideal) S2x1040x128 .f32)) (off size : Fin 3 → ℕ) (inb) :
    v.readCov (Val := Elt Ideal) (⟨Rect.unit ![1, 0, 0] ![1, 1040, 128] inb₁, q⟩ :: ⟨Rect.unit ![0, 0, 0] ![1, 1040, 128] inb₀, p⟩ :: L) (Rect.unit off size inb).toLoadRect = VecWindow.window (pairUp p q) off size inb := by
  unfold View.readCov
  rw [View.readAt_unit v _ inb rfl inb]; exact congrArg (fun x => VecWindow.window x off size inb) (read_pair v _ inb₁ inb₀ q p L)

theorem read_rows (v : View sig .tc .vmem S1040x1024 .bf16) (f : BufTy.Contents (Elt Ideal) v.ty) (inb) :
    v.readAt (Elt Ideal) (Rect.unit ![0, 0] ![1040, 1024] inb).toLoadRect f = v.read (Elt Ideal) f := View.readAt_full v f inb

theorem read_block (v : View sig .tc .vmem S1x1024x1024 .f32) (f : BufTy.Contents (Elt Ideal) v.ty) (inb) :
    v.readAt (Elt Ideal) (Rect.unit ![0, 0, 0] ![1, 1024, 1024] inb).toLoadRect f = v.read (Elt Ideal) f := View.readAt_full v f inb

theorem read_win (v : View sig .tc .vmem S2x1040x128 .f32) (f : BufTy.Contents (Elt Ideal) v.ty) (off) (inb) :
    v.readAt (Elt Ideal) (Rect.unit off ![1, 1024, 128] inb).toLoadRect f = VecWindow.window (v.read (Elt Ideal) f) off ![1, 1024, 128] inb := rfl

theorem readCov_block (v : View sig .tc .vmem S1x1024x1024 .f32) (inb' inb) (w : Vec Ideal S1x1024x1024 .f32) (L : List (View.Piece (Elt Ideal) S1x1024x1024 .f32)) :
    v.readCov (Val := Elt Ideal) (⟨Rect.unit ![0, 0, 0] ![1, 1024, 1024] inb', w⟩ :: L) (Rect.unit ![0, 0, 0] ![1, 1024, 1024] inb).toLoadRect = w := View.readCov_full v inb inb' w L

theorem rowsIn (p : Fin 2) (t : Fin 3) : ∀ a : Fin 3, (![p.val, 7 + t.val, 0] : Fin 3 → ℕ) a + S1x1024x128.size a ≤ S2x1040x128.size a := by
  revert p t; decide +kernel

/-- The 1024 rows of a half that end `2 - t` rows below its middle. -/
def rows (g : Vec Ideal S2x1040x128 .f32) (p : Fin 2) (t : Fin 3) : Vec Ideal S1x1024x128 .f32 :=
  VecWindow.window g ![p.val, 7 + t.val, 0] S1x1024x128.size (rowsIn p t)

theorem rows_00 (g : Vec Ideal S2x1040x128 .f32) (inb) : VecWindow.window g ![0, 7, 0] ![1, 1024, 128] inb = rows g 0 0 := rfl
theorem rows_01 (g : Vec Ideal S2x1040x128 .f32) (inb) : VecWindow.window g ![0, 8, 0] ![1, 1024, 128] inb = rows g 0 1 := rfl
theorem rows_02 (g : Vec Ideal S2x1040x128 .f32) (inb) : VecWindow.window g ![0, 9, 0] ![1, 1024, 128] inb = rows g 0 2 := rfl
theorem rows_10 (g : Vec Ideal S2x1040x128 .f32) (inb) : VecWindow.window g ![1, 7, 0] ![1, 1024, 128] inb = rows g 1 0 := rfl
theorem rows_11 (g : Vec Ideal S2x1040x128 .f32) (inb) : VecWindow.window g ![1, 8, 0] ![1, 1024, 128] inb = rows g 1 1 := rfl
theorem rows_12 (g : Vec Ideal S2x1040x128 .f32) (inb) : VecWindow.window g ![1, 9, 0] ![1, 1024, 128] inb = rows g 1 2 := rfl

/-- What a chunk adds, given its projected rows `g` and `v`, -/
noncomputable def stage (o : Vec Ideal S1x1024x1024 .f32) (g v : Vec Ideal S2x1040x128 .f32) (wg wv : Vec Ideal S1x1x3x256 .f32) (bg bv : Vec Ideal S1x1x1x256 .f32) (wd : Vec Ideal S1x256x1024 .bf16) : Vec Ideal S1x1024x1024 .f32 :=
  downTile o (gated (convA wg bg (rows g 0 0) (rows g 0 1) (rows g 0 2)) (convA wv bv (rows v 0 0) (rows v 0 1) (rows v 0 2)))
    (gated (convB wg bg (rows g 1 0) (rows g 1 1) (rows g 1 2)) (convB wv bv (rows v 1 0) (rows v 1 1) (rows v 1 2))) wd

/-- and a chunk's projected rows. -/
noncomputable def up (h : Vec Ideal S1040x1024 .bf16) (w : Vec Ideal S1x1x1024x256 .bf16) : Vec Ideal S2x1040x128 .f32 := pairUp (upA h w) (upB h w)

/-! Chunk `j`'s weights. -/
def wUp (x : Vec Ideal S2x11x1024x256 .bf16) (p : Fin 2) (j : Fin 11) : Vec Ideal S1x1x1024x256 .bf16 := fun y => x (ix4 p j (y 2) (y 3))
def wConv (x : Vec Ideal S2x11x3x256 .f32) (p : Fin 2) (j : Fin 11) : Vec Ideal S1x1x3x256 .f32 := fun y => x (ix4 p j (y 2) (y 3))
def wBias (x : Vec Ideal S2x11x1x256 .f32) (p : Fin 2) (j : Fin 11) : Vec Ideal S1x1x1x256 .f32 := fun y => x (ix4 p j (y 2) (y 3))
def wDown (x : Vec Ideal S11x256x1024 .bf16) (j : Fin 11) : Vec Ideal S1x256x1024 .bf16 := fun y => x (ix3 j (y 1) (y 2))

/-- All of chunk `j`. -/
noncomputable def chunk (x5 : Vec Ideal S2x11x3x256 .f32) (x6 : Vec Ideal S2x11x1x256 .f32) (x7 : Vec Ideal S11x256x1024 .bf16) (o : Vec Ideal S1x1024x1024 .f32) (g v : Vec Ideal S2x1040x128 .f32) (j : Fin 11) : Vec Ideal S1x1024x1024 .f32 :=
  stage o g v (wConv x5 0 j) (wConv x5 1 j) (wBias x6 0 j) (wBias x6 1 j) (wDown x7 j)

theorem wUp_read (v : View sig .tc .vmem S2x11x1024x256 .bf16) (f : BufTy.Contents (Elt Ideal) v.ty) (off : Fin 4 → ℕ) (inb) (p : Fin 2) (j : Fin 11) (h : off = ![p.val, j.val, 0, 0]) :
    v.readAt (Elt Ideal) (Rect.unit (s := S2x11x1024x256) off S1x1x1024x256.size inb).toLoadRect f = wUp (v.read (Elt Ideal) f) p j := by
  subst h
  refine funext fun y => congrArg (v.read (Elt Ideal) f) (funext fun a => Fin.ext ?_)
  have h0 := (y 0).isLt; have h1 := (y 1).isLt
  change (y 0).val < 1 at h0; change (y 1).val < 1 at h1
  fin_cases a
  · show p.val + 1 * (y 0).val = p.val; omega
  · show j.val + 1 * (y 1).val = j.val; omega
  · show 0 + 1 * (y 2).val = (y 2).val; omega
  · show 0 + 1 * (y 3).val = (y 3).val; omega

theorem wConv_read (v : View sig .tc .vmem S2x11x3x256 .f32) (f : BufTy.Contents (Elt Ideal) v.ty) (off : Fin 4 → ℕ) (inb) (p : Fin 2) (j : Fin 11) (h : off = ![p.val, j.val, 0, 0]) :
    v.readAt (Elt Ideal) (Rect.unit (s := S2x11x3x256) off S1x1x3x256.size inb).toLoadRect f = wConv (v.read (Elt Ideal) f) p j := by
  subst h
  refine funext fun y => congrArg (v.read (Elt Ideal) f) (funext fun a => Fin.ext ?_)
  have h0 := (y 0).isLt; have h1 := (y 1).isLt
  change (y 0).val < 1 at h0; change (y 1).val < 1 at h1
  fin_cases a
  · show p.val + 1 * (y 0).val = p.val; omega
  · show j.val + 1 * (y 1).val = j.val; omega
  · show 0 + 1 * (y 2).val = (y 2).val; omega
  · show 0 + 1 * (y 3).val = (y 3).val; omega

theorem wBias_read (v : View sig .tc .vmem S2x11x1x256 .f32) (f : BufTy.Contents (Elt Ideal) v.ty) (off : Fin 4 → ℕ) (inb) (p : Fin 2) (j : Fin 11) (h : off = ![p.val, j.val, 0, 0]) :
    v.readAt (Elt Ideal) (Rect.unit (s := S2x11x1x256) off S1x1x1x256.size inb).toLoadRect f = wBias (v.read (Elt Ideal) f) p j := by
  subst h
  refine funext fun y => congrArg (v.read (Elt Ideal) f) (funext fun a => Fin.ext ?_)
  have h0 := (y 0).isLt; have h1 := (y 1).isLt
  change (y 0).val < 1 at h0; change (y 1).val < 1 at h1
  fin_cases a
  · show p.val + 1 * (y 0).val = p.val; omega
  · show j.val + 1 * (y 1).val = j.val; omega
  · show 0 + 1 * (y 2).val = (y 2).val; omega
  · show 0 + 1 * (y 3).val = (y 3).val; omega

theorem wDown_read (v : View sig .tc .vmem S11x256x1024 .bf16) (f : BufTy.Contents (Elt Ideal) v.ty) (off : Fin 3 → ℕ) (inb) (j : Fin 11) (h : off = ![j.val, 0, 0]) :
    v.readAt (Elt Ideal) (Rect.unit (s := S11x256x1024) off S1x256x1024.size inb).toLoadRect f = wDown (v.read (Elt Ideal) f) j := by
  subst h
  refine funext fun y => congrArg (v.read (Elt Ideal) f) (funext fun a => Fin.ext ?_)
  have h0 := (y 0).isLt
  change (y 0).val < 1 at h0
  fin_cases a
  · show j.val + 1 * (y 0).val = j.val; omega
  · show 0 + 1 * (y 1).val = (y 1).val; omega
  · show 0 + 1 * (y 2).val = (y 2).val; omega

/-- Chunk `4 k + n`. -/
def at4 (k : Fin k0_t1_loop.trips) (n : Fin 5) : Fin 11 := ⟨4 * k.val + n.val, by have := Nat.lt_of_lt_of_le k.isLt k0_t1_abs.2.1; omega⟩

section Trip

variable (c : Dev nD) (i : grid0.Coords) (arg2 : Memref sig .tc .vmem S1x1024x1024 .f32) (harg2 : arg2.IsWhole) (arg3 : Memref sig .tc .vmem S1x8x1024 .f32) (harg3 : arg3.IsWhole)
    (arg4 : Memref sig .tc .vmem S1x8x1024 .f32) (harg4 : arg4.IsWhole) (arg5 : Memref sig .tc .vmem S1x1024 .f32) (harg5 : arg5.IsWhole)
    (arg6 : Memref sig .tc .vmem S2x11x1024x256 .bf16) (harg6 : arg6.IsWhole) (arg7 : Memref sig .tc .vmem S2x11x3x256 .f32) (harg7 : arg7.IsWhole)
    (arg8 : Memref sig .tc .vmem S2x11x1x256 .f32) (harg8 : arg8.IsWhole) (arg9 : Memref sig .tc .vmem S11x256x1024 .bf16) (harg9 : arg9.IsWhole)
    (arg10 : Memref sig .tc .vmem S1x1024 .f32) (harg10 : arg10.IsWhole) (arg11 : Memref sig .tc .vmem S1x1024x1024 .f32) (harg11 : arg11.IsWhole)
    (arg12 : Memref sig .tc .vmem S1040x1024 .bf16) (harg12 : arg12.IsWhole) (arg13 : Memref sig .tc .vmem S2x1040x128 .f32) (harg13 : arg13.IsWhole)
    (arg14 : Memref sig .tc .vmem S2x1040x128 .f32) (harg14 : arg14.IsWhole) (arg15 : Memref sig .tc .vmem S2x1040x128 .f32) (harg15 : arg15.IsWhole)
    (arg16 : Memref sig .tc .vmem S2x1040x128 .f32) (harg16 : arg16.IsWhole)
  (v67 : Vec Ideal S1040x1024 .bf16) (v70 : FVec Ideal S1040x256 .f32) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X12 : BufTy.Contents (Elt Ideal) arg12.view.ty) (k : Fin k0_t1_loop.trips) (f11 : BufTy.Contents (Elt Ideal) arg11.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty)

theorem trip_13 : arg13.view.read (Elt Ideal) (arg13.view.writes (Elt Ideal) f13 (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 k f11 f13 f14 f15 f16).2.1) = (up (arg12.view.read (Elt Ideal) X12) (wUp (arg6.view.read (Elt Ideal) X6) 0 (at4 k 4))) := by
  unfold tripL_k0_t1 trip_k0_t1
  dsimp only
  simp only [trip_k0_t1.sl.HW_arg11_1, trip_k0_t1.sl.HW_arg11_2, trip_k0_t1.sl.HW_arg11_3, trip_k0_t1.sl.HW_arg13_2, trip_k0_t1.sl.HW_arg13_3, trip_k0_t1.sl.HW_arg14_2, trip_k0_t1.sl.HW_arg14_3, trip_k0_t1.sl.HW_arg15_2, trip_k0_t1.sl.HW_arg15_3, trip_k0_t1.sl.HW_arg15_4, trip_k0_t1.sl.HW_arg16_2, trip_k0_t1.sl.HW_arg16_3, trip_k0_t1.sl.HW_arg16_4, trip_k0_t1.sl.arg17, trip_k0_t1.sl.cst_369, trip_k0_t1.sl.cst_451, trip_k0_t1.sl.cst_457, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v1010, trip_k0_t1.sl.v1011, trip_k0_t1.sl.v1012, trip_k0_t1.sl.v1015, trip_k0_t1.sl.v1016, trip_k0_t1.sl.v1017, trip_k0_t1.sl.v1020, trip_k0_t1.sl.v1021, trip_k0_t1.sl.v1023, trip_k0_t1.sl.v1025, trip_k0_t1.sl.v1026, trip_k0_t1.sl.v1029, trip_k0_t1.sl.v1030, trip_k0_t1.sl.v1031, trip_k0_t1.sl.v1032, trip_k0_t1.sl.v1033, trip_k0_t1.sl.v1034, trip_k0_t1.sl.v1035, trip_k0_t1.sl.v1036, trip_k0_t1.sl.v1037, trip_k0_t1.sl.v1038, trip_k0_t1.sl.v1039, trip_k0_t1.sl.v1040, trip_k0_t1.sl.v1041, trip_k0_t1.sl.v1042, trip_k0_t1.sl.v1043, trip_k0_t1.sl.v1044, trip_k0_t1.sl.v1045, trip_k0_t1.sl.v1046, trip_k0_t1.sl.v1050, trip_k0_t1.sl.v1053, trip_k0_t1.sl.v1054, trip_k0_t1.sl.v1055, trip_k0_t1.sl.v1056, trip_k0_t1.sl.v1057, trip_k0_t1.sl.v1058, trip_k0_t1.sl.v1059, trip_k0_t1.sl.v1060, trip_k0_t1.sl.v1061, trip_k0_t1.sl.v1062, trip_k0_t1.sl.v1063, trip_k0_t1.sl.v1064, trip_k0_t1.sl.v1065, trip_k0_t1.sl.v1066, trip_k0_t1.sl.v1067, trip_k0_t1.sl.v1068, trip_k0_t1.sl.v1069, trip_k0_t1.sl.v1070, trip_k0_t1.sl.v1071, trip_k0_t1.sl.v1072, trip_k0_t1.sl.v1073, trip_k0_t1.sl.v1081, trip_k0_t1.sl.v1088, trip_k0_t1.sl.v1094, trip_k0_t1.sl.v1116, trip_k0_t1.sl.v1117, trip_k0_t1.sl.v1118, trip_k0_t1.sl.v1119, trip_k0_t1.sl.v1120, trip_k0_t1.sl.v1121, trip_k0_t1.sl.v1122, trip_k0_t1.sl.v1123, trip_k0_t1.sl.v1124, trip_k0_t1.sl.v1125, trip_k0_t1.sl.v1126, trip_k0_t1.sl.v1127, trip_k0_t1.sl.v1128, trip_k0_t1.sl.v1129, trip_k0_t1.sl.v1130, trip_k0_t1.sl.v1131, trip_k0_t1.sl.v1132, trip_k0_t1.sl.v1133, trip_k0_t1.sl.v1134, trip_k0_t1.sl.v1135, trip_k0_t1.sl.v1138, trip_k0_t1.sl.v1141, trip_k0_t1.sl.v1142, trip_k0_t1.sl.v1143, trip_k0_t1.sl.v1144, trip_k0_t1.sl.v1145, trip_k0_t1.sl.v1146, trip_k0_t1.sl.v1147, trip_k0_t1.sl.v1148, trip_k0_t1.sl.v1149, trip_k0_t1.sl.v1150, trip_k0_t1.sl.v1151, trip_k0_t1.sl.v1156, trip_k0_t1.sl.v1173, trip_k0_t1.sl.v534, trip_k0_t1.sl.v535, trip_k0_t1.sl.v537, trip_k0_t1.sl.v539, trip_k0_t1.sl.v540, trip_k0_t1.sl.v543, trip_k0_t1.sl.v544, trip_k0_t1.sl.v545, trip_k0_t1.sl.v547, trip_k0_t1.sl.v548, trip_k0_t1.sl.v549, trip_k0_t1.sl.v551, trip_k0_t1.sl.v552, trip_k0_t1.sl.v553, trip_k0_t1.sl.v554, trip_k0_t1.sl.v555, trip_k0_t1.sl.v556, trip_k0_t1.sl.v557, trip_k0_t1.sl.v558, trip_k0_t1.sl.v559, trip_k0_t1.sl.v560, trip_k0_t1.sl.v561, trip_k0_t1.sl.v563, trip_k0_t1.sl.v566, trip_k0_t1.sl.v567, trip_k0_t1.sl.v569, trip_k0_t1.sl.v570, trip_k0_t1.sl.v571, trip_k0_t1.sl.v572, trip_k0_t1.sl.v573, trip_k0_t1.sl.v574, trip_k0_t1.sl.v576, trip_k0_t1.sl.v577, trip_k0_t1.sl.v578, trip_k0_t1.sl.v579, trip_k0_t1.sl.v580, trip_k0_t1.sl.v582, trip_k0_t1.sl.v583, trip_k0_t1.sl.v584, trip_k0_t1.sl.v585, trip_k0_t1.sl.v586, trip_k0_t1.sl.v589, trip_k0_t1.sl.v592, trip_k0_t1.sl.v593, trip_k0_t1.sl.v595, trip_k0_t1.sl.v596, trip_k0_t1.sl.v597, trip_k0_t1.sl.v598, trip_k0_t1.sl.v599, trip_k0_t1.sl.v600, trip_k0_t1.sl.v680, trip_k0_t1.sl.v681, trip_k0_t1.sl.v682, trip_k0_t1.sl.v683, trip_k0_t1.sl.v684, trip_k0_t1.sl.v685, trip_k0_t1.sl.v687, trip_k0_t1.sl.v690, trip_k0_t1.sl.v691, trip_k0_t1.sl.v692, trip_k0_t1.sl.v695, trip_k0_t1.sl.v696, trip_k0_t1.sl.v698, trip_k0_t1.sl.v700, trip_k0_t1.sl.v701, trip_k0_t1.sl.v704, trip_k0_t1.sl.v705, trip_k0_t1.sl.v706, trip_k0_t1.sl.v708, trip_k0_t1.sl.v709, trip_k0_t1.sl.v710, trip_k0_t1.sl.v712, trip_k0_t1.sl.v713, trip_k0_t1.sl.v714, trip_k0_t1.sl.v715, trip_k0_t1.sl.v716, trip_k0_t1.sl.v717, trip_k0_t1.sl.v718, trip_k0_t1.sl.v719, trip_k0_t1.sl.v720, trip_k0_t1.sl.v721, trip_k0_t1.sl.v725, trip_k0_t1.sl.v728, trip_k0_t1.sl.v729, trip_k0_t1.sl.v730, trip_k0_t1.sl.v731, trip_k0_t1.sl.v732, trip_k0_t1.sl.v733, trip_k0_t1.sl.v734, trip_k0_t1.sl.v735, trip_k0_t1.sl.v736, trip_k0_t1.sl.v737, trip_k0_t1.sl.v738, trip_k0_t1.sl.v739, trip_k0_t1.sl.v740, trip_k0_t1.sl.v741, trip_k0_t1.sl.v742, trip_k0_t1.sl.v743, trip_k0_t1.sl.v744, trip_k0_t1.sl.v745, trip_k0_t1.sl.v756, trip_k0_t1.sl.v763, trip_k0_t1.sl.v769, trip_k0_t1.sl.v791, trip_k0_t1.sl.v792, trip_k0_t1.sl.v793, trip_k0_t1.sl.v794, trip_k0_t1.sl.v795, trip_k0_t1.sl.v796, trip_k0_t1.sl.v797, trip_k0_t1.sl.v798, trip_k0_t1.sl.v799, trip_k0_t1.sl.v800, trip_k0_t1.sl.v801, trip_k0_t1.sl.v802, trip_k0_t1.sl.v803, trip_k0_t1.sl.v804, trip_k0_t1.sl.v805, trip_k0_t1.sl.v806, trip_k0_t1.sl.v807, trip_k0_t1.sl.v808, trip_k0_t1.sl.v809, trip_k0_t1.sl.v810, trip_k0_t1.sl.v813, trip_k0_t1.sl.v816, trip_k0_t1.sl.v817, trip_k0_t1.sl.v818, trip_k0_t1.sl.v819, trip_k0_t1.sl.v820, trip_k0_t1.sl.v821, trip_k0_t1.sl.v822, trip_k0_t1.sl.v823, trip_k0_t1.sl.v825, trip_k0_t1.sl.v831, trip_k0_t1.sl.v848, trip_k0_t1.sl.v860, trip_k0_t1.sl.v862, trip_k0_t1.sl.v864, trip_k0_t1.sl.v865, trip_k0_t1.sl.v868, trip_k0_t1.sl.v869, trip_k0_t1.sl.v870, trip_k0_t1.sl.v871, trip_k0_t1.sl.v872, trip_k0_t1.sl.v873, trip_k0_t1.sl.v874, trip_k0_t1.sl.v875, trip_k0_t1.sl.v876, trip_k0_t1.sl.v877, trip_k0_t1.sl.v878, trip_k0_t1.sl.v879, trip_k0_t1.sl.v880, trip_k0_t1.sl.v881, trip_k0_t1.sl.v882, trip_k0_t1.sl.v883, trip_k0_t1.sl.v884, trip_k0_t1.sl.v885, trip_k0_t1.sl.v888, trip_k0_t1.sl.v891, trip_k0_t1.sl.v892, trip_k0_t1.sl.v893, trip_k0_t1.sl.v894, trip_k0_t1.sl.v895, trip_k0_t1.sl.v896, trip_k0_t1.sl.v897, trip_k0_t1.sl.v898, trip_k0_t1.sl.v899, trip_k0_t1.sl.v900, trip_k0_t1.sl.v901, trip_k0_t1.sl.v902, trip_k0_t1.sl.v903, trip_k0_t1.sl.v904, trip_k0_t1.sl.v905, trip_k0_t1.sl.v906, trip_k0_t1.sl.v907, trip_k0_t1.sl.v908, trip_k0_t1.sl.v909, trip_k0_t1.sl.v910, trip_k0_t1.sl.v911, trip_k0_t1.sl.v914, trip_k0_t1.sl.v917, trip_k0_t1.sl.v918, trip_k0_t1.sl.v919, trip_k0_t1.sl.v920, trip_k0_t1.sl.v921, trip_k0_t1.sl.v922, trip_k0_t1.sl.v923, trip_k0_t1.sl.v924, trip_k0_t1.sl.v925, trip_k0_t1.sl.v926, trip_k0_t1.sl.v927, trip_k0_t1.sl.v928, trip_k0_t1.sl.v932, trip_k0_t1.sl.v955, trip_k0_t1.sl.v962, trip_k0_t1.sl.v968, trip_k0_t1.sl.v981, trip_k0_t1.sl.v988, trip_k0_t1.sl.v994]
  rw [read_pair]
  rw [View.readAt_full, wUp_read arg6.view X6 _ _ 0 (at4 k 4) (by revert k; decide +kernel)]
  rfl

theorem trip_14 : arg14.view.read (Elt Ideal) (arg14.view.writes (Elt Ideal) f14 (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 k f11 f13 f14 f15 f16).2.2.1) = (up (arg12.view.read (Elt Ideal) X12) (wUp (arg6.view.read (Elt Ideal) X6) 1 (at4 k 4))) := by
  unfold tripL_k0_t1 trip_k0_t1
  dsimp only
  simp only [trip_k0_t1.sl.HW_arg11_1, trip_k0_t1.sl.HW_arg11_2, trip_k0_t1.sl.HW_arg11_3, trip_k0_t1.sl.HW_arg13_2, trip_k0_t1.sl.HW_arg13_3, trip_k0_t1.sl.HW_arg14_2, trip_k0_t1.sl.HW_arg14_3, trip_k0_t1.sl.HW_arg15_2, trip_k0_t1.sl.HW_arg15_3, trip_k0_t1.sl.HW_arg15_4, trip_k0_t1.sl.HW_arg16_2, trip_k0_t1.sl.HW_arg16_3, trip_k0_t1.sl.HW_arg16_4, trip_k0_t1.sl.arg17, trip_k0_t1.sl.cst_369, trip_k0_t1.sl.cst_451, trip_k0_t1.sl.cst_457, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v1010, trip_k0_t1.sl.v1011, trip_k0_t1.sl.v1012, trip_k0_t1.sl.v1015, trip_k0_t1.sl.v1016, trip_k0_t1.sl.v1017, trip_k0_t1.sl.v1020, trip_k0_t1.sl.v1021, trip_k0_t1.sl.v1023, trip_k0_t1.sl.v1025, trip_k0_t1.sl.v1026, trip_k0_t1.sl.v1029, trip_k0_t1.sl.v1030, trip_k0_t1.sl.v1031, trip_k0_t1.sl.v1032, trip_k0_t1.sl.v1033, trip_k0_t1.sl.v1034, trip_k0_t1.sl.v1035, trip_k0_t1.sl.v1036, trip_k0_t1.sl.v1037, trip_k0_t1.sl.v1038, trip_k0_t1.sl.v1039, trip_k0_t1.sl.v1040, trip_k0_t1.sl.v1041, trip_k0_t1.sl.v1042, trip_k0_t1.sl.v1043, trip_k0_t1.sl.v1044, trip_k0_t1.sl.v1045, trip_k0_t1.sl.v1046, trip_k0_t1.sl.v1050, trip_k0_t1.sl.v1053, trip_k0_t1.sl.v1054, trip_k0_t1.sl.v1055, trip_k0_t1.sl.v1056, trip_k0_t1.sl.v1057, trip_k0_t1.sl.v1058, trip_k0_t1.sl.v1059, trip_k0_t1.sl.v1060, trip_k0_t1.sl.v1061, trip_k0_t1.sl.v1062, trip_k0_t1.sl.v1063, trip_k0_t1.sl.v1064, trip_k0_t1.sl.v1065, trip_k0_t1.sl.v1066, trip_k0_t1.sl.v1067, trip_k0_t1.sl.v1068, trip_k0_t1.sl.v1069, trip_k0_t1.sl.v1070, trip_k0_t1.sl.v1071, trip_k0_t1.sl.v1072, trip_k0_t1.sl.v1073, trip_k0_t1.sl.v1081, trip_k0_t1.sl.v1088, trip_k0_t1.sl.v1094, trip_k0_t1.sl.v1116, trip_k0_t1.sl.v1117, trip_k0_t1.sl.v1118, trip_k0_t1.sl.v1119, trip_k0_t1.sl.v1120, trip_k0_t1.sl.v1121, trip_k0_t1.sl.v1122, trip_k0_t1.sl.v1123, trip_k0_t1.sl.v1124, trip_k0_t1.sl.v1125, trip_k0_t1.sl.v1126, trip_k0_t1.sl.v1127, trip_k0_t1.sl.v1128, trip_k0_t1.sl.v1129, trip_k0_t1.sl.v1130, trip_k0_t1.sl.v1131, trip_k0_t1.sl.v1132, trip_k0_t1.sl.v1133, trip_k0_t1.sl.v1134, trip_k0_t1.sl.v1135, trip_k0_t1.sl.v1138, trip_k0_t1.sl.v1141, trip_k0_t1.sl.v1142, trip_k0_t1.sl.v1143, trip_k0_t1.sl.v1144, trip_k0_t1.sl.v1145, trip_k0_t1.sl.v1146, trip_k0_t1.sl.v1147, trip_k0_t1.sl.v1148, trip_k0_t1.sl.v1149, trip_k0_t1.sl.v1150, trip_k0_t1.sl.v1151, trip_k0_t1.sl.v1156, trip_k0_t1.sl.v1173, trip_k0_t1.sl.v534, trip_k0_t1.sl.v535, trip_k0_t1.sl.v537, trip_k0_t1.sl.v539, trip_k0_t1.sl.v540, trip_k0_t1.sl.v543, trip_k0_t1.sl.v544, trip_k0_t1.sl.v545, trip_k0_t1.sl.v547, trip_k0_t1.sl.v548, trip_k0_t1.sl.v549, trip_k0_t1.sl.v551, trip_k0_t1.sl.v552, trip_k0_t1.sl.v553, trip_k0_t1.sl.v554, trip_k0_t1.sl.v555, trip_k0_t1.sl.v556, trip_k0_t1.sl.v557, trip_k0_t1.sl.v558, trip_k0_t1.sl.v559, trip_k0_t1.sl.v560, trip_k0_t1.sl.v561, trip_k0_t1.sl.v563, trip_k0_t1.sl.v566, trip_k0_t1.sl.v567, trip_k0_t1.sl.v569, trip_k0_t1.sl.v570, trip_k0_t1.sl.v571, trip_k0_t1.sl.v572, trip_k0_t1.sl.v573, trip_k0_t1.sl.v574, trip_k0_t1.sl.v576, trip_k0_t1.sl.v577, trip_k0_t1.sl.v578, trip_k0_t1.sl.v579, trip_k0_t1.sl.v580, trip_k0_t1.sl.v582, trip_k0_t1.sl.v583, trip_k0_t1.sl.v584, trip_k0_t1.sl.v585, trip_k0_t1.sl.v586, trip_k0_t1.sl.v589, trip_k0_t1.sl.v592, trip_k0_t1.sl.v593, trip_k0_t1.sl.v595, trip_k0_t1.sl.v596, trip_k0_t1.sl.v597, trip_k0_t1.sl.v598, trip_k0_t1.sl.v599, trip_k0_t1.sl.v600, trip_k0_t1.sl.v680, trip_k0_t1.sl.v681, trip_k0_t1.sl.v682, trip_k0_t1.sl.v683, trip_k0_t1.sl.v684, trip_k0_t1.sl.v685, trip_k0_t1.sl.v687, trip_k0_t1.sl.v690, trip_k0_t1.sl.v691, trip_k0_t1.sl.v692, trip_k0_t1.sl.v695, trip_k0_t1.sl.v696, trip_k0_t1.sl.v698, trip_k0_t1.sl.v700, trip_k0_t1.sl.v701, trip_k0_t1.sl.v704, trip_k0_t1.sl.v705, trip_k0_t1.sl.v706, trip_k0_t1.sl.v708, trip_k0_t1.sl.v709, trip_k0_t1.sl.v710, trip_k0_t1.sl.v712, trip_k0_t1.sl.v713, trip_k0_t1.sl.v714, trip_k0_t1.sl.v715, trip_k0_t1.sl.v716, trip_k0_t1.sl.v717, trip_k0_t1.sl.v718, trip_k0_t1.sl.v719, trip_k0_t1.sl.v720, trip_k0_t1.sl.v721, trip_k0_t1.sl.v725, trip_k0_t1.sl.v728, trip_k0_t1.sl.v729, trip_k0_t1.sl.v730, trip_k0_t1.sl.v731, trip_k0_t1.sl.v732, trip_k0_t1.sl.v733, trip_k0_t1.sl.v734, trip_k0_t1.sl.v735, trip_k0_t1.sl.v736, trip_k0_t1.sl.v737, trip_k0_t1.sl.v738, trip_k0_t1.sl.v739, trip_k0_t1.sl.v740, trip_k0_t1.sl.v741, trip_k0_t1.sl.v742, trip_k0_t1.sl.v743, trip_k0_t1.sl.v744, trip_k0_t1.sl.v745, trip_k0_t1.sl.v756, trip_k0_t1.sl.v763, trip_k0_t1.sl.v769, trip_k0_t1.sl.v791, trip_k0_t1.sl.v792, trip_k0_t1.sl.v793, trip_k0_t1.sl.v794, trip_k0_t1.sl.v795, trip_k0_t1.sl.v796, trip_k0_t1.sl.v797, trip_k0_t1.sl.v798, trip_k0_t1.sl.v799, trip_k0_t1.sl.v800, trip_k0_t1.sl.v801, trip_k0_t1.sl.v802, trip_k0_t1.sl.v803, trip_k0_t1.sl.v804, trip_k0_t1.sl.v805, trip_k0_t1.sl.v806, trip_k0_t1.sl.v807, trip_k0_t1.sl.v808, trip_k0_t1.sl.v809, trip_k0_t1.sl.v810, trip_k0_t1.sl.v813, trip_k0_t1.sl.v816, trip_k0_t1.sl.v817, trip_k0_t1.sl.v818, trip_k0_t1.sl.v819, trip_k0_t1.sl.v820, trip_k0_t1.sl.v821, trip_k0_t1.sl.v822, trip_k0_t1.sl.v823, trip_k0_t1.sl.v825, trip_k0_t1.sl.v831, trip_k0_t1.sl.v848, trip_k0_t1.sl.v860, trip_k0_t1.sl.v862, trip_k0_t1.sl.v864, trip_k0_t1.sl.v865, trip_k0_t1.sl.v868, trip_k0_t1.sl.v869, trip_k0_t1.sl.v870, trip_k0_t1.sl.v871, trip_k0_t1.sl.v872, trip_k0_t1.sl.v873, trip_k0_t1.sl.v874, trip_k0_t1.sl.v875, trip_k0_t1.sl.v876, trip_k0_t1.sl.v877, trip_k0_t1.sl.v878, trip_k0_t1.sl.v879, trip_k0_t1.sl.v880, trip_k0_t1.sl.v881, trip_k0_t1.sl.v882, trip_k0_t1.sl.v883, trip_k0_t1.sl.v884, trip_k0_t1.sl.v885, trip_k0_t1.sl.v888, trip_k0_t1.sl.v891, trip_k0_t1.sl.v892, trip_k0_t1.sl.v893, trip_k0_t1.sl.v894, trip_k0_t1.sl.v895, trip_k0_t1.sl.v896, trip_k0_t1.sl.v897, trip_k0_t1.sl.v898, trip_k0_t1.sl.v899, trip_k0_t1.sl.v900, trip_k0_t1.sl.v901, trip_k0_t1.sl.v902, trip_k0_t1.sl.v903, trip_k0_t1.sl.v904, trip_k0_t1.sl.v905, trip_k0_t1.sl.v906, trip_k0_t1.sl.v907, trip_k0_t1.sl.v908, trip_k0_t1.sl.v909, trip_k0_t1.sl.v910, trip_k0_t1.sl.v911, trip_k0_t1.sl.v914, trip_k0_t1.sl.v917, trip_k0_t1.sl.v918, trip_k0_t1.sl.v919, trip_k0_t1.sl.v920, trip_k0_t1.sl.v921, trip_k0_t1.sl.v922, trip_k0_t1.sl.v923, trip_k0_t1.sl.v924, trip_k0_t1.sl.v925, trip_k0_t1.sl.v926, trip_k0_t1.sl.v927, trip_k0_t1.sl.v928, trip_k0_t1.sl.v932, trip_k0_t1.sl.v955, trip_k0_t1.sl.v962, trip_k0_t1.sl.v968, trip_k0_t1.sl.v981, trip_k0_t1.sl.v988, trip_k0_t1.sl.v994]
  rw [read_pair]
  rw [View.readAt_full, wUp_read arg6.view X6 _ _ 1 (at4 k 4) (by revert k; decide +kernel)]
  rfl

set_option maxHeartbeats 1500000 in
theorem trip_11 : arg11.view.read (Elt Ideal) (arg11.view.writes (Elt Ideal) f11 (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 k f11 f13 f14 f15 f16).1) = chunk (arg7.view.read (Elt Ideal) X7) (arg8.view.read (Elt Ideal) X8) (arg9.view.read (Elt Ideal) X9) (chunk (arg7.view.read (Elt Ideal) X7) (arg8.view.read (Elt Ideal) X8) (arg9.view.read (Elt Ideal) X9) (chunk (arg7.view.read (Elt Ideal) X7) (arg8.view.read (Elt Ideal) X8) (arg9.view.read (Elt Ideal) X9) (chunk (arg7.view.read (Elt Ideal) X7) (arg8.view.read (Elt Ideal) X8) (arg9.view.read (Elt Ideal) X9) (arg11.view.read (Elt Ideal) f11) (arg13.view.read (Elt Ideal) f13) (arg14.view.read (Elt Ideal) f14) (at4 k 0)) (up (arg12.view.read (Elt Ideal) X12) (wUp (arg6.view.read (Elt Ideal) X6) 0 (at4 k 1))) (up (arg12.view.read (Elt Ideal) X12) (wUp (arg6.view.read (Elt Ideal) X6) 1 (at4 k 1))) (at4 k 1)) (up (arg12.view.read (Elt Ideal) X12) (wUp (arg6.view.read (Elt Ideal) X6) 0 (at4 k 2))) (up (arg12.view.read (Elt Ideal) X12) (wUp (arg6.view.read (Elt Ideal) X6) 1 (at4 k 2))) (at4 k 2)) (up (arg12.view.read (Elt Ideal) X12) (wUp (arg6.view.read (Elt Ideal) X6) 0 (at4 k 3))) (up (arg12.view.read (Elt Ideal) X12) (wUp (arg6.view.read (Elt Ideal) X6) 1 (at4 k 3))) (at4 k 3) := by
  unfold tripL_k0_t1 trip_k0_t1
  dsimp only
  rw [View.read_writes_full]
  simp only [trip_k0_t1.sl.HW_arg11_1, trip_k0_t1.sl.HW_arg11_2, trip_k0_t1.sl.HW_arg11_3, trip_k0_t1.sl.HW_arg13_2, trip_k0_t1.sl.HW_arg13_3, trip_k0_t1.sl.HW_arg14_2, trip_k0_t1.sl.HW_arg14_3, trip_k0_t1.sl.HW_arg15_2, trip_k0_t1.sl.HW_arg15_3, trip_k0_t1.sl.HW_arg15_4, trip_k0_t1.sl.HW_arg16_2, trip_k0_t1.sl.HW_arg16_3, trip_k0_t1.sl.HW_arg16_4, trip_k0_t1.sl.arg17, trip_k0_t1.sl.cst_369, trip_k0_t1.sl.cst_451, trip_k0_t1.sl.cst_457, trip_k0_t1.sl.r, trip_k0_t1.sl.r_1, trip_k0_t1.sl.r_10, trip_k0_t1.sl.r_11, trip_k0_t1.sl.r_12, trip_k0_t1.sl.r_13, trip_k0_t1.sl.r_14, trip_k0_t1.sl.r_15, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.v1010, trip_k0_t1.sl.v1011, trip_k0_t1.sl.v1012, trip_k0_t1.sl.v1015, trip_k0_t1.sl.v1016, trip_k0_t1.sl.v1017, trip_k0_t1.sl.v1020, trip_k0_t1.sl.v1021, trip_k0_t1.sl.v1023, trip_k0_t1.sl.v1025, trip_k0_t1.sl.v1026, trip_k0_t1.sl.v1029, trip_k0_t1.sl.v1030, trip_k0_t1.sl.v1031, trip_k0_t1.sl.v1032, trip_k0_t1.sl.v1033, trip_k0_t1.sl.v1034, trip_k0_t1.sl.v1035, trip_k0_t1.sl.v1036, trip_k0_t1.sl.v1037, trip_k0_t1.sl.v1038, trip_k0_t1.sl.v1039, trip_k0_t1.sl.v1040, trip_k0_t1.sl.v1041, trip_k0_t1.sl.v1042, trip_k0_t1.sl.v1043, trip_k0_t1.sl.v1044, trip_k0_t1.sl.v1045, trip_k0_t1.sl.v1046, trip_k0_t1.sl.v1050, trip_k0_t1.sl.v1053, trip_k0_t1.sl.v1054, trip_k0_t1.sl.v1055, trip_k0_t1.sl.v1056, trip_k0_t1.sl.v1057, trip_k0_t1.sl.v1058, trip_k0_t1.sl.v1059, trip_k0_t1.sl.v1060, trip_k0_t1.sl.v1061, trip_k0_t1.sl.v1062, trip_k0_t1.sl.v1063, trip_k0_t1.sl.v1064, trip_k0_t1.sl.v1065, trip_k0_t1.sl.v1066, trip_k0_t1.sl.v1067, trip_k0_t1.sl.v1068, trip_k0_t1.sl.v1069, trip_k0_t1.sl.v1070, trip_k0_t1.sl.v1071, trip_k0_t1.sl.v1072, trip_k0_t1.sl.v1073, trip_k0_t1.sl.v1081, trip_k0_t1.sl.v1088, trip_k0_t1.sl.v1094, trip_k0_t1.sl.v1116, trip_k0_t1.sl.v1117, trip_k0_t1.sl.v1118, trip_k0_t1.sl.v1119, trip_k0_t1.sl.v1120, trip_k0_t1.sl.v1121, trip_k0_t1.sl.v1122, trip_k0_t1.sl.v1123, trip_k0_t1.sl.v1124, trip_k0_t1.sl.v1125, trip_k0_t1.sl.v1126, trip_k0_t1.sl.v1127, trip_k0_t1.sl.v1128, trip_k0_t1.sl.v1129, trip_k0_t1.sl.v1130, trip_k0_t1.sl.v1131, trip_k0_t1.sl.v1132, trip_k0_t1.sl.v1133, trip_k0_t1.sl.v1134, trip_k0_t1.sl.v1135, trip_k0_t1.sl.v1138, trip_k0_t1.sl.v1141, trip_k0_t1.sl.v1142, trip_k0_t1.sl.v1143, trip_k0_t1.sl.v1144, trip_k0_t1.sl.v1145, trip_k0_t1.sl.v1146, trip_k0_t1.sl.v1147, trip_k0_t1.sl.v1148, trip_k0_t1.sl.v1149, trip_k0_t1.sl.v1150, trip_k0_t1.sl.v1151, trip_k0_t1.sl.v1156, trip_k0_t1.sl.v1173, trip_k0_t1.sl.v534, trip_k0_t1.sl.v535, trip_k0_t1.sl.v537, trip_k0_t1.sl.v539, trip_k0_t1.sl.v540, trip_k0_t1.sl.v543, trip_k0_t1.sl.v544, trip_k0_t1.sl.v545, trip_k0_t1.sl.v547, trip_k0_t1.sl.v548, trip_k0_t1.sl.v549, trip_k0_t1.sl.v551, trip_k0_t1.sl.v552, trip_k0_t1.sl.v553, trip_k0_t1.sl.v554, trip_k0_t1.sl.v555, trip_k0_t1.sl.v556, trip_k0_t1.sl.v557, trip_k0_t1.sl.v558, trip_k0_t1.sl.v559, trip_k0_t1.sl.v560, trip_k0_t1.sl.v561, trip_k0_t1.sl.v563, trip_k0_t1.sl.v566, trip_k0_t1.sl.v567, trip_k0_t1.sl.v569, trip_k0_t1.sl.v570, trip_k0_t1.sl.v571, trip_k0_t1.sl.v572, trip_k0_t1.sl.v573, trip_k0_t1.sl.v574, trip_k0_t1.sl.v576, trip_k0_t1.sl.v577, trip_k0_t1.sl.v578, trip_k0_t1.sl.v579, trip_k0_t1.sl.v580, trip_k0_t1.sl.v582, trip_k0_t1.sl.v583, trip_k0_t1.sl.v584, trip_k0_t1.sl.v585, trip_k0_t1.sl.v586, trip_k0_t1.sl.v589, trip_k0_t1.sl.v592, trip_k0_t1.sl.v593, trip_k0_t1.sl.v595, trip_k0_t1.sl.v596, trip_k0_t1.sl.v597, trip_k0_t1.sl.v598, trip_k0_t1.sl.v599, trip_k0_t1.sl.v600, trip_k0_t1.sl.v680, trip_k0_t1.sl.v681, trip_k0_t1.sl.v682, trip_k0_t1.sl.v683, trip_k0_t1.sl.v684, trip_k0_t1.sl.v685, trip_k0_t1.sl.v687, trip_k0_t1.sl.v690, trip_k0_t1.sl.v691, trip_k0_t1.sl.v692, trip_k0_t1.sl.v695, trip_k0_t1.sl.v696, trip_k0_t1.sl.v698, trip_k0_t1.sl.v700, trip_k0_t1.sl.v701, trip_k0_t1.sl.v704, trip_k0_t1.sl.v705, trip_k0_t1.sl.v706, trip_k0_t1.sl.v708, trip_k0_t1.sl.v709, trip_k0_t1.sl.v710, trip_k0_t1.sl.v712, trip_k0_t1.sl.v713, trip_k0_t1.sl.v714, trip_k0_t1.sl.v715, trip_k0_t1.sl.v716, trip_k0_t1.sl.v717, trip_k0_t1.sl.v718, trip_k0_t1.sl.v719, trip_k0_t1.sl.v720, trip_k0_t1.sl.v721, trip_k0_t1.sl.v725, trip_k0_t1.sl.v728, trip_k0_t1.sl.v729, trip_k0_t1.sl.v730, trip_k0_t1.sl.v731, trip_k0_t1.sl.v732, trip_k0_t1.sl.v733, trip_k0_t1.sl.v734, trip_k0_t1.sl.v735, trip_k0_t1.sl.v736, trip_k0_t1.sl.v737, trip_k0_t1.sl.v738, trip_k0_t1.sl.v739, trip_k0_t1.sl.v740, trip_k0_t1.sl.v741, trip_k0_t1.sl.v742, trip_k0_t1.sl.v743, trip_k0_t1.sl.v744, trip_k0_t1.sl.v745, trip_k0_t1.sl.v756, trip_k0_t1.sl.v763, trip_k0_t1.sl.v769, trip_k0_t1.sl.v791, trip_k0_t1.sl.v792, trip_k0_t1.sl.v793, trip_k0_t1.sl.v794, trip_k0_t1.sl.v795, trip_k0_t1.sl.v796, trip_k0_t1.sl.v797, trip_k0_t1.sl.v798, trip_k0_t1.sl.v799, trip_k0_t1.sl.v800, trip_k0_t1.sl.v801, trip_k0_t1.sl.v802, trip_k0_t1.sl.v803, trip_k0_t1.sl.v804, trip_k0_t1.sl.v805, trip_k0_t1.sl.v806, trip_k0_t1.sl.v807, trip_k0_t1.sl.v808, trip_k0_t1.sl.v809, trip_k0_t1.sl.v810, trip_k0_t1.sl.v813, trip_k0_t1.sl.v816, trip_k0_t1.sl.v817, trip_k0_t1.sl.v818, trip_k0_t1.sl.v819, trip_k0_t1.sl.v820, trip_k0_t1.sl.v821, trip_k0_t1.sl.v822, trip_k0_t1.sl.v823, trip_k0_t1.sl.v825, trip_k0_t1.sl.v831, trip_k0_t1.sl.v848, trip_k0_t1.sl.v860, trip_k0_t1.sl.v862, trip_k0_t1.sl.v864, trip_k0_t1.sl.v865, trip_k0_t1.sl.v868, trip_k0_t1.sl.v869, trip_k0_t1.sl.v870, trip_k0_t1.sl.v871, trip_k0_t1.sl.v872, trip_k0_t1.sl.v873, trip_k0_t1.sl.v874, trip_k0_t1.sl.v875, trip_k0_t1.sl.v876, trip_k0_t1.sl.v877, trip_k0_t1.sl.v878, trip_k0_t1.sl.v879, trip_k0_t1.sl.v880, trip_k0_t1.sl.v881, trip_k0_t1.sl.v882, trip_k0_t1.sl.v883, trip_k0_t1.sl.v884, trip_k0_t1.sl.v885, trip_k0_t1.sl.v888, trip_k0_t1.sl.v891, trip_k0_t1.sl.v892, trip_k0_t1.sl.v893, trip_k0_t1.sl.v894, trip_k0_t1.sl.v895, trip_k0_t1.sl.v896, trip_k0_t1.sl.v897, trip_k0_t1.sl.v898, trip_k0_t1.sl.v899, trip_k0_t1.sl.v900, trip_k0_t1.sl.v901, trip_k0_t1.sl.v902, trip_k0_t1.sl.v903, trip_k0_t1.sl.v904, trip_k0_t1.sl.v905, trip_k0_t1.sl.v906, trip_k0_t1.sl.v907, trip_k0_t1.sl.v908, trip_k0_t1.sl.v909, trip_k0_t1.sl.v910, trip_k0_t1.sl.v911, trip_k0_t1.sl.v914, trip_k0_t1.sl.v917, trip_k0_t1.sl.v918, trip_k0_t1.sl.v919, trip_k0_t1.sl.v920, trip_k0_t1.sl.v921, trip_k0_t1.sl.v922, trip_k0_t1.sl.v923, trip_k0_t1.sl.v924, trip_k0_t1.sl.v925, trip_k0_t1.sl.v926, trip_k0_t1.sl.v927, trip_k0_t1.sl.v928, trip_k0_t1.sl.v932, trip_k0_t1.sl.v955, trip_k0_t1.sl.v962, trip_k0_t1.sl.v968, trip_k0_t1.sl.v981, trip_k0_t1.sl.v988, trip_k0_t1.sl.v994, readCov_block, readCov_pair]
  rw [wConv_read arg7.view X7 (k0_off3 k) _ 0 (at4 k 0) (by revert k; decide +kernel),
    wBias_read arg8.view X8 (k0_off4 k) _ 0 (at4 k 0) (by revert k; decide +kernel),
    wConv_read arg7.view X7 (k0_off5 k) _ 1 (at4 k 0) (by revert k; decide +kernel),
    wBias_read arg8.view X8 (k0_off6 k) _ 1 (at4 k 0) (by revert k; decide +kernel),
    wDown_read arg9.view X9 (k0_off7 k) _ (at4 k 0) (by revert k; decide +kernel),
    wConv_read arg7.view X7 (k0_off8 k 1#32) _ 0 (at4 k 1) (by revert k; decide +kernel),
    wBias_read arg8.view X8 (k0_off9 k 1#32) _ 0 (at4 k 1) (by revert k; decide +kernel),
    wConv_read arg7.view X7 (k0_off10 k 1#32) _ 1 (at4 k 1) (by revert k; decide +kernel),
    wBias_read arg8.view X8 (k0_off11 k 1#32) _ 1 (at4 k 1) (by revert k; decide +kernel),
    wDown_read arg9.view X9 (k0_off12 k 1#32) _ (at4 k 1) (by revert k; decide +kernel),
    wConv_read arg7.view X7 (k0_off8 k 2#32) _ 0 (at4 k 2) (by revert k; decide +kernel),
    wBias_read arg8.view X8 (k0_off9 k 2#32) _ 0 (at4 k 2) (by revert k; decide +kernel),
    wConv_read arg7.view X7 (k0_off10 k 2#32) _ 1 (at4 k 2) (by revert k; decide +kernel),
    wBias_read arg8.view X8 (k0_off11 k 2#32) _ 1 (at4 k 2) (by revert k; decide +kernel),
    wDown_read arg9.view X9 (k0_off12 k 2#32) _ (at4 k 2) (by revert k; decide +kernel),
    wConv_read arg7.view X7 (k0_off15 k) _ 0 (at4 k 3) (by revert k; decide +kernel),
    wBias_read arg8.view X8 (k0_off16 k) _ 0 (at4 k 3) (by revert k; decide +kernel),
    wConv_read arg7.view X7 (k0_off17 k) _ 1 (at4 k 3) (by revert k; decide +kernel),
    wBias_read arg8.view X8 (k0_off18 k) _ 1 (at4 k 3) (by revert k; decide +kernel),
    wDown_read arg9.view X9 (k0_off19 k) _ (at4 k 3) (by revert k; decide +kernel),
    wUp_read arg6.view X6 (k0_off1 k 1#32) _ 0 (at4 k 1) (by revert k; decide +kernel),
    wUp_read arg6.view X6 (k0_off2 k 1#32) _ 1 (at4 k 1) (by revert k; decide +kernel),
    wUp_read arg6.view X6 (k0_off1 k 2#32) _ 0 (at4 k 2) (by revert k; decide +kernel),
    wUp_read arg6.view X6 (k0_off2 k 2#32) _ 1 (at4 k 2) (by revert k; decide +kernel),
    wUp_read arg6.view X6 (k0_off13 k 1#32) _ 0 (at4 k 3) (by revert k; decide +kernel),
    wUp_read arg6.view X6 (k0_off14 k 1#32) _ 1 (at4 k 3) (by revert k; decide +kernel)]
  simp only [read_rows, read_block, read_win]
  simp -index only [rows_00, rows_01, rows_02, rows_10, rows_11, rows_12]
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay81]
  repeat rw [← upTile.eq_1]
  repeat rw [← upA.eq_1]
  repeat rw [← upB.eq_1]
  repeat rw [readCov_pair]
  repeat rw [read_rows]
  repeat rw [← up.eq_1]
  repeat rw [rows_00]
  repeat rw [rows_01]
  repeat rw [rows_02]
  repeat rw [rows_10]
  repeat rw [rows_11]
  repeat rw [rows_12]
  repeat rw [← convA.eq_1]
  repeat rw [← convB.eq_1]
  repeat rw [← gated.eq_1]
  repeat rw [← downTile.eq_1]
  simp only [chunk, stage]

end Trip

/-- All of chunk `j`, from the normalised rows `h`. -/
noncomputable def chunkOf (h : Vec Ideal S1040x1024 .bf16) (x4 : Vec Ideal S2x11x1024x256 .bf16) (x5 : Vec Ideal S2x11x3x256 .f32) (x6 : Vec Ideal S2x11x1x256 .f32) (x7 : Vec Ideal S11x256x1024 .bf16) (o : Vec Ideal S1x1024x1024 .f32) (j : Fin 11) : Vec Ideal S1x1024x1024 .f32 :=
  chunk x5 x6 x7 o (up h (wUp x4 0 j)) (up h (wUp x4 1 j)) j

section Turns

variable (c : Dev nD) (i : grid0.Coords) (arg2 : Memref sig .tc .vmem S1x1024x1024 .f32) (harg2 : arg2.IsWhole) (arg3 : Memref sig .tc .vmem S1x8x1024 .f32) (harg3 : arg3.IsWhole)
    (arg4 : Memref sig .tc .vmem S1x8x1024 .f32) (harg4 : arg4.IsWhole) (arg5 : Memref sig .tc .vmem S1x1024 .f32) (harg5 : arg5.IsWhole)
    (arg6 : Memref sig .tc .vmem S2x11x1024x256 .bf16) (harg6 : arg6.IsWhole) (arg7 : Memref sig .tc .vmem S2x11x3x256 .f32) (harg7 : arg7.IsWhole)
    (arg8 : Memref sig .tc .vmem S2x11x1x256 .f32) (harg8 : arg8.IsWhole) (arg9 : Memref sig .tc .vmem S11x256x1024 .bf16) (harg9 : arg9.IsWhole)
    (arg10 : Memref sig .tc .vmem S1x1024 .f32) (harg10 : arg10.IsWhole) (arg11 : Memref sig .tc .vmem S1x1024x1024 .f32) (harg11 : arg11.IsWhole)
    (arg12 : Memref sig .tc .vmem S1040x1024 .bf16) (harg12 : arg12.IsWhole) (arg13 : Memref sig .tc .vmem S2x1040x128 .f32) (harg13 : arg13.IsWhole)
    (arg14 : Memref sig .tc .vmem S2x1040x128 .f32) (harg14 : arg14.IsWhole) (arg15 : Memref sig .tc .vmem S2x1040x128 .f32) (harg15 : arg15.IsWhole)
    (arg16 : Memref sig .tc .vmem S2x1040x128 .f32) (harg16 : arg16.IsWhole)
  (v67 : Vec Ideal S1040x1024 .bf16) (v70 : FVec Ideal S1040x256 .f32) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X12 : BufTy.Contents (Elt Ideal) arg12.view.ty) (G11 : BufTy.Contents (Elt Ideal) arg11.view.ty) (G13 : BufTy.Contents (Elt Ideal) arg13.view.ty) (G14 : BufTy.Contents (Elt Ideal) arg14.view.ty) (G15 : BufTy.Contents (Elt Ideal) arg15.view.ty) (G16 : BufTy.Contents (Elt Ideal) arg16.view.ty)

/-- The turns' stores, -/
noncomputable abbrev turns (n : ℕ) := pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 n

/-- the result block after `n` turns, -/
noncomputable abbrev T11 (n : ℕ) : Vec Ideal S1x1024x1024 .f32 := arg11.view.read (Elt Ideal) (arg11.view.writes (Elt Ideal) G11 (turns c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 n).1)
/-- and the projected rows. -/
noncomputable abbrev T13 (n : ℕ) : Vec Ideal S2x1040x128 .f32 := arg13.view.read (Elt Ideal) (arg13.view.writes (Elt Ideal) G13 (turns c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 n).2.1)
noncomputable abbrev T14 (n : ℕ) : Vec Ideal S2x1040x128 .f32 := arg14.view.read (Elt Ideal) (arg14.view.writes (Elt Ideal) G14 (turns c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 n).2.2.1)

theorem turn_13 (k : Fin k0_t1_loop.trips) : T13 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 (k.val + 1) = (up (arg12.view.read (Elt Ideal) X12) (wUp (arg6.view.read (Elt Ideal) X6) 0 (at4 k 4))) := by
  unfold T13 turns
  rw [pb_k0_t1_succ, View.writes_append]
  exact trip_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 k _ _ _ _ _

theorem turn_14 (k : Fin k0_t1_loop.trips) : T14 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 (k.val + 1) = (up (arg12.view.read (Elt Ideal) X12) (wUp (arg6.view.read (Elt Ideal) X6) 1 (at4 k 4))) := by
  unfold T14 turns
  rw [pb_k0_t1_succ, View.writes_append]
  exact trip_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 k _ _ _ _ _

theorem turn_11 (k : Fin k0_t1_loop.trips) : T11 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 (k.val + 1) = chunk (arg7.view.read (Elt Ideal) X7) (arg8.view.read (Elt Ideal) X8) (arg9.view.read (Elt Ideal) X9) (chunk (arg7.view.read (Elt Ideal) X7) (arg8.view.read (Elt Ideal) X8) (arg9.view.read (Elt Ideal) X9) (chunk (arg7.view.read (Elt Ideal) X7) (arg8.view.read (Elt Ideal) X8) (arg9.view.read (Elt Ideal) X9) (chunk (arg7.view.read (Elt Ideal) X7) (arg8.view.read (Elt Ideal) X8) (arg9.view.read (Elt Ideal) X9) (T11 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 k.val) (T13 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 k.val) (T14 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 k.val) (at4 k 0)) (up (arg12.view.read (Elt Ideal) X12) (wUp (arg6.view.read (Elt Ideal) X6) 0 (at4 k 1))) (up (arg12.view.read (Elt Ideal) X12) (wUp (arg6.view.read (Elt Ideal) X6) 1 (at4 k 1))) (at4 k 1)) (up (arg12.view.read (Elt Ideal) X12) (wUp (arg6.view.read (Elt Ideal) X6) 0 (at4 k 2))) (up (arg12.view.read (Elt Ideal) X12) (wUp (arg6.view.read (Elt Ideal) X6) 1 (at4 k 2))) (at4 k 2)) (up (arg12.view.read (Elt Ideal) X12) (wUp (arg6.view.read (Elt Ideal) X6) 0 (at4 k 3))) (up (arg12.view.read (Elt Ideal) X12) (wUp (arg6.view.read (Elt Ideal) X6) 1 (at4 k 3))) (at4 k 3) := by
  unfold T11 turns
  rw [pb_k0_t1_succ, View.writes_append]
  exact trip_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 k _ _ _ _ _

/-- The two turns finish chunks 0 to 7 and project chunk 8 up. -/
theorem both (h13 : arg13.view.read (Elt Ideal) G13 = up (arg12.view.read (Elt Ideal) X12) (wUp (arg6.view.read (Elt Ideal) X6) 0 0)) (h14 : arg14.view.read (Elt Ideal) G14 = up (arg12.view.read (Elt Ideal) X12) (wUp (arg6.view.read (Elt Ideal) X6) 1 0)) :
    T11 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 2 = chunkOf (arg12.view.read (Elt Ideal) X12) (arg6.view.read (Elt Ideal) X6) (arg7.view.read (Elt Ideal) X7) (arg8.view.read (Elt Ideal) X8) (arg9.view.read (Elt Ideal) X9) ((chunkOf (arg12.view.read (Elt Ideal) X12) (arg6.view.read (Elt Ideal) X6) (arg7.view.read (Elt Ideal) X7) (arg8.view.read (Elt Ideal) X8) (arg9.view.read (Elt Ideal) X9) ((chunkOf (arg12.view.read (Elt Ideal) X12) (arg6.view.read (Elt Ideal) X6) (arg7.view.read (Elt Ideal) X7) (arg8.view.read (Elt Ideal) X8) (arg9.view.read (Elt Ideal) X9) ((chunkOf (arg12.view.read (Elt Ideal) X12) (arg6.view.read (Elt Ideal) X6) (arg7.view.read (Elt Ideal) X7) (arg8.view.read (Elt Ideal) X8) (arg9.view.read (Elt Ideal) X9) ((chunkOf (arg12.view.read (Elt Ideal) X12) (arg6.view.read (Elt Ideal) X6) (arg7.view.read (Elt Ideal) X7) (arg8.view.read (Elt Ideal) X8) (arg9.view.read (Elt Ideal) X9) ((chunkOf (arg12.view.read (Elt Ideal) X12) (arg6.view.read (Elt Ideal) X6) (arg7.view.read (Elt Ideal) X7) (arg8.view.read (Elt Ideal) X8) (arg9.view.read (Elt Ideal) X9) ((chunkOf (arg12.view.read (Elt Ideal) X12) (arg6.view.read (Elt Ideal) X6) (arg7.view.read (Elt Ideal) X7) (arg8.view.read (Elt Ideal) X8) (arg9.view.read (Elt Ideal) X9) ((chunkOf (arg12.view.read (Elt Ideal) X12) (arg6.view.read (Elt Ideal) X6) (arg7.view.read (Elt Ideal) X7) (arg8.view.read (Elt Ideal) X8) (arg9.view.read (Elt Ideal) X9) (arg11.view.read (Elt Ideal) G11) 0)) 1)) 2)) 3)) 4)) 5)) 6)) 7 ∧ T13 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 2 = up (arg12.view.read (Elt Ideal) X12) (wUp (arg6.view.read (Elt Ideal) X6) 0 8) ∧ T14 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 2 = up (arg12.view.read (Elt Ideal) X12) (wUp (arg6.view.read (Elt Ideal) X6) 1 8) := by
  have e0 : T13 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 0 = _ := h13
  have e1 : T14 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 0 = _ := h14
  have z : T11 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 0 = arg11.view.read (Elt Ideal) G11 := rfl
  have a := turn_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 ⟨0, by decide +kernel⟩
  have b := turn_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 ⟨0, by decide +kernel⟩
  have d := turn_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 ⟨0, by decide +kernel⟩
  have a' := turn_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 ⟨1, by decide +kernel⟩
  refine ⟨?_, turn_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 ⟨1, by decide +kernel⟩, turn_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 v67 v70 X6 X7 X8 X9 X12 G11 G13 G14 G15 G16 ⟨1, by decide +kernel⟩⟩
  dsimp only at a b d a'
  rw [e0, e1, z] at a
  rw [zero_add] at a b d
  rw [a, b, d] at a'
  exact a'

end Turns

end Cert.Ffn
-- ==== Proof.Ffn.Post.lean ====
module

public import proofs.«01_k».proof.Proof.Ffn.Body
public import proofs.«01_k».proof.Proof.Ffn.Trip

/-!
# What one run of the feed-forward's body leaves in the result's block
-/

open Idealize.ShloMosaic
open Cert.Kernel2Ideal Cert.Kernel2Ideal.Gen

set_option maxRecDepth 16384

@[expose] public section

namespace Cert.Ffn

/-- The normalised rows a block's convolution sees: the eight rows before it, its own 1024, and the eight after. -/
noncomputable def rowsOf (i : grid0.Coords) (x0 : Vec Ideal S1x1024x1024 .f32) (x1 x2 : Vec Ideal S1x8x1024 .f32) (x3 : Vec Ideal S1x1024 .f32) : Vec Ideal S1040x1024 .bf16 :=
  VecWindow.put (VecWindow.put (VecWindow.put (fun _ => (0 : EReal)) ![0, 0] S8x1024.size (k0_pay70 (F := Ideal) i x3 x1)) ![8, 0] S1024x1024.size (k0_pay72 (F := Ideal) (k0_pay71 (F := Ideal) x3 x0)))
    ![1032, 0] S8x1024.size (k0_pay73 (F := Ideal) (Scalar.cmpi .eq (BitVec.ofNat 32 (i 1).val) 3#32) (k0_pay69 (F := Ideal) x3) x2)

theorem puts_free (z z' : Vec Ideal S1040x1024 .bf16) (a b : Vec Ideal S8x1024 .bf16) (m : Vec Ideal S1024x1024 .bf16) :
    VecWindow.put (VecWindow.put (VecWindow.put z ![0, 0] S8x1024.size a) ![8, 0] S1024x1024.size m) ![1032, 0] S8x1024.size b
      = VecWindow.put (VecWindow.put (VecWindow.put z' ![0, 0] S8x1024.size a) ![8, 0] S1024x1024.size m) ![1032, 0] S8x1024.size b := by
  funext y
  unfold VecWindow.put
  split
  · rfl
  rename_i h1
  split
  · rfl
  rename_i h2
  split
  · rfl
  rename_i h3
  exfalso
  have h0 := (y 0).isLt; have hy := (y 1).isLt
  change (y 0).val < 1040 at h0; change (y 1).val < 1024 at hy
  by_cases e : (y 0).val < 8
  · exact h3 (fun a => by fin_cases a <;> [exact ⟨Nat.zero_le _, by show (y 0).val < 0 + 8; omega⟩; exact ⟨Nat.zero_le _, by show (y 1).val < 0 + 1024; omega⟩])
  by_cases e' : (y 0).val < 1032
  · exact h2 (fun a => by fin_cases a <;> [exact ⟨by show 8 ≤ (y 0).val; omega, by show (y 0).val < 8 + 1024; omega⟩; exact ⟨Nat.zero_le _, by show (y 1).val < 0 + 1024; omega⟩])
  · exact h1 (fun a => by fin_cases a <;> [exact ⟨by show 1032 ≤ (y 0).val; omega, by show (y 0).val < 1032 + 8; omega⟩; exact ⟨Nat.zero_le _, by show (y 1).val < 0 + 1024; omega⟩])

theorem readCov_append_block (v : View sig .tc .vmem S1x1024x1024 .f32) (L L' : List (View.Piece (Elt Ideal) S1x1024x1024 .f32)) (inb) :
    v.readCov (Val := Elt Ideal) (L ++ L') (Rect.unit ![0, 0, 0] ![1, 1024, 1024] inb).toLoadRect = v.read (Elt Ideal) (v.writes (Elt Ideal) (v.writes (Elt Ideal) v.junk L') L) := by
  unfold View.readCov
  rw [View.writes_append]; exact read_block v _ inb

theorem readCov_append_win (v : View sig .tc .vmem S2x1040x128 .f32) (L L' : List (View.Piece (Elt Ideal) S2x1040x128 .f32)) (off) (inb) :
    v.readCov (Val := Elt Ideal) (L ++ L') (Rect.unit off ![1, 1024, 128] inb).toLoadRect = VecWindow.window (v.read (Elt Ideal) (v.writes (Elt Ideal) (v.writes (Elt Ideal) v.junk L') L)) off ![1, 1024, 128] inb := by
  unfold View.readCov
  rw [View.writes_append]; rfl

section Post

variable (c : Dev nD) (i : grid0.Coords) (arg2 : Memref sig .tc .vmem S1x1024x1024 .f32) (harg2 : arg2.IsWhole) (arg3 : Memref sig .tc .vmem S1x8x1024 .f32) (harg3 : arg3.IsWhole)
    (arg4 : Memref sig .tc .vmem S1x8x1024 .f32) (harg4 : arg4.IsWhole) (arg5 : Memref sig .tc .vmem S1x1024 .f32) (harg5 : arg5.IsWhole)
    (arg6 : Memref sig .tc .vmem S2x11x1024x256 .bf16) (harg6 : arg6.IsWhole) (arg7 : Memref sig .tc .vmem S2x11x3x256 .f32) (harg7 : arg7.IsWhole)
    (arg8 : Memref sig .tc .vmem S2x11x1x256 .f32) (harg8 : arg8.IsWhole) (arg9 : Memref sig .tc .vmem S11x256x1024 .bf16) (harg9 : arg9.IsWhole)
    (arg10 : Memref sig .tc .vmem S1x1024 .f32) (harg10 : arg10.IsWhole) (arg11 : Memref sig .tc .vmem S1x1024x1024 .f32) (harg11 : arg11.IsWhole)
    (arg12 : Memref sig .tc .vmem S1040x1024 .bf16) (harg12 : arg12.IsWhole) (arg13 : Memref sig .tc .vmem S2x1040x128 .f32) (harg13 : arg13.IsWhole)
    (arg14 : Memref sig .tc .vmem S2x1040x128 .f32) (harg14 : arg14.IsWhole) (arg15 : Memref sig .tc .vmem S2x1040x128 .f32) (harg15 : arg15.IsWhole)
    (arg16 : Memref sig .tc .vmem S2x1040x128 .f32) (harg16 : arg16.IsWhole)
  (x0 : Vec Ideal S1x1024x1024 .f32) (x1 x2 : Vec Ideal S1x8x1024 .f32) (x3 : Vec Ideal S1x1024 .f32) (x4 : Vec Ideal S2x11x1024x256 .bf16) (x5 : Vec Ideal S2x11x3x256 .f32)
  (x6 : Vec Ideal S2x11x1x256 .f32) (x7 : Vec Ideal S11x256x1024 .bf16) (x8 : Vec Ideal S1x1024 .f32)

theorem rows_read (f : BufTy.Contents (Elt Ideal) arg12.view.ty) : arg12.view.read (Elt Ideal) (arg12.view.writes (Elt Ideal) f (ffnRun.sl.HS0_3 (F := Ideal) c i arg2 harg2 arg3 harg3 arg4 harg4 arg5 harg5 x0 x1 x2 x3)) = (rowsOf i x0 x1 x2 x3) := by
  unfold ffnRun.sl.HS0_3
  rw [View.read_writes_cons_put arg12.view f _ _ _ rfl, View.read_writes_cons_put arg12.view f _ _ _ rfl, View.read_writes_cons_put arg12.view f _ _ _ rfl]
  refine (puts_free _ (fun _ => (0 : EReal)) _ _ _).trans ?_
  simp only [ffnRun.sl.r, ffnRun.sl.r_1, ffnRun.sl.v1]
  rw [View.readAt_full, View.readAt_full, View.readAt_full, View.readAt_full, harg2.read_unread, harg3.read_unread, harg4.read_unread, harg5.read_unread]
  rfl

theorem v67_eq : (ffnRun.sl.v67 (F := Ideal) c i arg2 harg2 arg3 harg3 arg4 harg4 arg5 harg5 arg12 x0 x1 x2 x3) = (rowsOf i x0 x1 x2 x3) := by
  unfold ffnRun.sl.v67 View.readCov
  exact (View.readAt_full arg12.view _ _).trans (rows_read c i arg2 harg2 arg3 harg3 arg4 harg4 arg5 harg5 arg12 x0 x1 x2 x3 _)

theorem v91_eq : (ffnRun.sl.v91 (F := Ideal) c i arg2 harg2 arg3 harg3 arg4 harg4 arg5 harg5 arg12 x0 x1 x2 x3) = (rowsOf i x0 x1 x2 x3) := v67_eq c i arg2 harg2 arg3 harg3 arg4 harg4 arg5 harg5 arg12 x0 x1 x2 x3

theorem up_read (f : BufTy.Contents (Elt Ideal) arg13.view.ty) : arg13.view.read (Elt Ideal) (arg13.view.writes (Elt Ideal) f (ffnRun.sl.HS1_2 (F := Ideal) c i arg2 harg2 arg3 harg3 arg4 harg4 arg5 harg5 arg6 harg6 arg12 x0 x1 x2 x3 x4)) = up (rowsOf i x0 x1 x2 x3) (wUp x4 0 0) := by
  unfold ffnRun.sl.HS1_2 ffnRun.sl.r_2
  rw [read_pair, v67_eq c i arg2 harg2 arg3 harg3 arg4 harg4 arg5 harg5 arg12 x0 x1 x2 x3, wUp_read arg6.view _ ![0, 0, 0, 0] _ 0 0 rfl, harg6.read_unread]
  rfl

theorem up_read' (f : BufTy.Contents (Elt Ideal) arg14.view.ty) : arg14.view.read (Elt Ideal) (arg14.view.writes (Elt Ideal) f (ffnRun.sl.HS2_2 (F := Ideal) c i arg2 harg2 arg3 harg3 arg4 harg4 arg5 harg5 arg6 harg6 arg12 x0 x1 x2 x3 x4)) = up (rowsOf i x0 x1 x2 x3) (wUp x4 1 0) := by
  unfold ffnRun.sl.HS2_2
  rw [read_pair, v67_eq c i arg2 harg2 arg3 harg3 arg4 harg4 arg5 harg5 arg12 x0 x1 x2 x3, wUp_read arg6.view _ ![1, 0, 0, 0] _ 1 0 rfl, harg6.read_unread]
  rfl

theorem start_read (f : BufTy.Contents (Elt Ideal) arg11.view.ty) : arg11.view.read (Elt Ideal) (arg11.view.writes (Elt Ideal) f (ffnRun.sl.H9_1 (F := Ideal) c arg2 harg2 x0)) = k0_pay74 x0 := by
  unfold ffnRun.sl.H9_1
  rw [View.read_writes_full, View.readAt_full, harg2.read_unread]

theorem turns_eq : T11 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ffnRun.sl.v67 (F := Ideal) c i arg2 harg2 arg3 harg3 arg4 harg4 arg5 harg5 arg12 x0 x1 x2 x3) (ffnRun.sl.r_2 (F := Ideal) c i arg2 harg2 arg3 harg3 arg4 harg4 arg5 harg5 arg6 harg6 arg12 x0 x1 x2 x3 x4) (harg6.unread x4) (harg7.unread x5) (harg8.unread x6) (harg9.unread x7) (arg12.view.writes (Elt Ideal) arg12.view.junk (ffnRun.sl.HS0_3 (F := Ideal) c i arg2 harg2 arg3 harg3 arg4 harg4 arg5 harg5 x0 x1 x2 x3)) (arg11.view.writes (Elt Ideal) arg11.view.junk (ffnRun.sl.H9_1 (F := Ideal) c arg2 harg2 x0)) (arg13.view.writes (Elt Ideal) arg13.view.junk (ffnRun.sl.HS1_2 (F := Ideal) c i arg2 harg2 arg3 harg3 arg4 harg4 arg5 harg5 arg6 harg6 arg12 x0 x1 x2 x3 x4)) (arg14.view.writes (Elt Ideal) arg14.view.junk (ffnRun.sl.HS2_2 (F := Ideal) c i arg2 harg2 arg3 harg3 arg4 harg4 arg5 harg5 arg6 harg6 arg12 x0 x1 x2 x3 x4)) arg15.view.junk arg16.view.junk 2 = (chunkOf (rowsOf i x0 x1 x2 x3) x4 x5 x6 x7 ((chunkOf (rowsOf i x0 x1 x2 x3) x4 x5 x6 x7 ((chunkOf (rowsOf i x0 x1 x2 x3) x4 x5 x6 x7 ((chunkOf (rowsOf i x0 x1 x2 x3) x4 x5 x6 x7 ((chunkOf (rowsOf i x0 x1 x2 x3) x4 x5 x6 x7 ((chunkOf (rowsOf i x0 x1 x2 x3) x4 x5 x6 x7 ((chunkOf (rowsOf i x0 x1 x2 x3) x4 x5 x6 x7 ((chunkOf (rowsOf i x0 x1 x2 x3) x4 x5 x6 x7 (k0_pay74 x0) 0)) 1)) 2)) 3)) 4)) 5)) 6)) 7)
    ∧ T13 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ffnRun.sl.v67 (F := Ideal) c i arg2 harg2 arg3 harg3 arg4 harg4 arg5 harg5 arg12 x0 x1 x2 x3) (ffnRun.sl.r_2 (F := Ideal) c i arg2 harg2 arg3 harg3 arg4 harg4 arg5 harg5 arg6 harg6 arg12 x0 x1 x2 x3 x4) (harg6.unread x4) (harg7.unread x5) (harg8.unread x6) (harg9.unread x7) (arg12.view.writes (Elt Ideal) arg12.view.junk (ffnRun.sl.HS0_3 (F := Ideal) c i arg2 harg2 arg3 harg3 arg4 harg4 arg5 harg5 x0 x1 x2 x3)) (arg11.view.writes (Elt Ideal) arg11.view.junk (ffnRun.sl.H9_1 (F := Ideal) c arg2 harg2 x0)) (arg13.view.writes (Elt Ideal) arg13.view.junk (ffnRun.sl.HS1_2 (F := Ideal) c i arg2 harg2 arg3 harg3 arg4 harg4 arg5 harg5 arg6 harg6 arg12 x0 x1 x2 x3 x4)) (arg14.view.writes (Elt Ideal) arg14.view.junk (ffnRun.sl.HS2_2 (F := Ideal) c i arg2 harg2 arg3 harg3 arg4 harg4 arg5 harg5 arg6 harg6 arg12 x0 x1 x2 x3 x4)) arg15.view.junk arg16.view.junk 2 = up (rowsOf i x0 x1 x2 x3) (wUp x4 0 8) ∧ T14 c i arg2 harg2 arg3 harg3 arg4 harg4 arg5 harg5 arg6 harg6 arg7 harg7 arg8 harg8 arg9 harg9 arg10 harg10 arg11 harg11 arg12 harg12 arg13 harg13 arg14 harg14 arg15 harg15 arg16 harg16 (ffnRun.sl.v67 (F := Ideal) c i arg2 harg2 arg3 harg3 arg4 harg4 arg5 harg5 arg12 x0 x1 x2 x3) (ffnRun.sl.r_2 (F := Ideal) c i arg2 harg2 arg3 harg3 arg4 harg4 arg5 harg5 arg6 harg6 arg12 x0 x1 x2 x3 x4) (harg6.unread x4) (harg7.unread x5) (harg8.unread x6) (harg9.unread x7) (arg12.view.writes (Elt Ideal) arg12.view.junk (ffnRun.sl.HS0_3 (F := Ideal) c i arg2 harg2 arg3 harg3 arg4 harg4 arg5 harg5 x0 x1 x2 x3)) (arg11.view.writes (Elt Ideal) arg11.view.junk (ffnRun.sl.H9_1 (F := Ideal) c arg2 harg2 x0)) (arg13.view.writes (Elt Ideal) arg13.view.junk (ffnRun.sl.HS1_2 (F := Ideal) c i arg2 harg2 arg3 harg3 arg4 harg4 arg5 harg5 arg6 harg6 arg12 x0 x1 x2 x3 x4)) (arg14.view.writes (Elt Ideal) arg14.view.junk (ffnRun.sl.HS2_2 (F := Ideal) c i arg2 harg2 arg3 harg3 arg4 harg4 arg5 harg5 arg6 harg6 arg12 x0 x1 x2 x3 x4)) arg15.view.junk arg16.view.junk 2 = up (rowsOf i x0 x1 x2 x3) (wUp x4 1 8) := by
  have B := both c i arg2 harg2 arg3 harg3 arg4 harg4 arg5 harg5 arg6 harg6 arg7 harg7 arg8 harg8 arg9 harg9 arg10 harg10 arg11 harg11 arg12 harg12 arg13 harg13 arg14 harg14 arg15 harg15 arg16 harg16 (ffnRun.sl.v67 (F := Ideal) c i arg2 harg2 arg3 harg3 arg4 harg4 arg5 harg5 arg12 x0 x1 x2 x3) (ffnRun.sl.r_2 (F := Ideal) c i arg2 harg2 arg3 harg3 arg4 harg4 arg5 harg5 arg6 harg6 arg12 x0 x1 x2 x3 x4) (harg6.unread x4) (harg7.unread x5) (harg8.unread x6) (harg9.unread x7) (arg12.view.writes (Elt Ideal) arg12.view.junk (ffnRun.sl.HS0_3 (F := Ideal) c i arg2 harg2 arg3 harg3 arg4 harg4 arg5 harg5 x0 x1 x2 x3)) (arg11.view.writes (Elt Ideal) arg11.view.junk (ffnRun.sl.H9_1 (F := Ideal) c arg2 harg2 x0)) (arg13.view.writes (Elt Ideal) arg13.view.junk (ffnRun.sl.HS1_2 (F := Ideal) c i arg2 harg2 arg3 harg3 arg4 harg4 arg5 harg5 arg6 harg6 arg12 x0 x1 x2 x3 x4)) (arg14.view.writes (Elt Ideal) arg14.view.junk (ffnRun.sl.HS2_2 (F := Ideal) c i arg2 harg2 arg3 harg3 arg4 harg4 arg5 harg5 arg6 harg6 arg12 x0 x1 x2 x3 x4)) arg15.view.junk arg16.view.junk
    (by rw [up_read c i arg2 harg2 arg3 harg3 arg4 harg4 arg5 harg5 arg6 harg6 arg12 arg13 x0 x1 x2 x3 x4, rows_read c i arg2 harg2 arg3 harg3 arg4 harg4 arg5 harg5 arg12 x0 x1 x2 x3, harg6.read_unread]) (by rw [up_read' c i arg2 harg2 arg3 harg3 arg4 harg4 arg5 harg5 arg6 harg6 arg12 arg14 x0 x1 x2 x3 x4, rows_read c i arg2 harg2 arg3 harg3 arg4 harg4 arg5 harg5 arg12 x0 x1 x2 x3, harg6.read_unread])
  rw [start_read c arg2 harg2 arg11 x0, rows_read c i arg2 harg2 arg3 harg3 arg4 harg4 arg5 harg5 arg12 x0 x1 x2 x3, harg6.read_unread, harg7.read_unread, harg8.read_unread, harg9.read_unread] at B
  exact B

set_option maxHeartbeats 1500000 in
theorem run_read (v : View sig .tc .vmem S1x1024x1024 .f32) (f : BufTy.Contents (Elt Ideal) v.ty) :
    v.read (Elt Ideal) (v.writes (Elt Ideal) f (runAt c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8).1) = k0_pay1 (chunkOf (rowsOf i x0 x1 x2 x3) x4 x5 x6 x7 (chunkOf (rowsOf i x0 x1 x2 x3) x4 x5 x6 x7 (chunkOf (rowsOf i x0 x1 x2 x3) x4 x5 x6 x7 (chunkOf (rowsOf i x0 x1 x2 x3) x4 x5 x6 x7 ((chunkOf (rowsOf i x0 x1 x2 x3) x4 x5 x6 x7 ((chunkOf (rowsOf i x0 x1 x2 x3) x4 x5 x6 x7 ((chunkOf (rowsOf i x0 x1 x2 x3) x4 x5 x6 x7 ((chunkOf (rowsOf i x0 x1 x2 x3) x4 x5 x6 x7 ((chunkOf (rowsOf i x0 x1 x2 x3) x4 x5 x6 x7 ((chunkOf (rowsOf i x0 x1 x2 x3) x4 x5 x6 x7 ((chunkOf (rowsOf i x0 x1 x2 x3) x4 x5 x6 x7 (k0_pay74 x0) 0)) 1)) 2)) 3)) 4)) 5)) 6)) 7) 8) 9) 10) x8 := by
  obtain ⟨B1, B2, B3⟩ := turns_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7
  have e2 : Scf.trips k0_t1_loop.lb k0_t1_loop.ub k0_t1_loop.st = 2 := by decide +kernel
  unfold runAt ffnRun
  dsimp only
  rw [View.read_writes_full]
  simp only [ffnRun.sl.H9_1_1, ffnRun.sl.H9_2, ffnRun.sl.H9_3, ffnRun.sl.HS1_2_1, ffnRun.sl.HS2_2_1, ffnRun.sl.HS3_2, ffnRun.sl.HS4_2, ffnRun.sl.cst_111, ffnRun.sl.cst_304, ffnRun.sl.r, ffnRun.sl.r_1, ffnRun.sl.r_10, ffnRun.sl.r_11, ffnRun.sl.r_12, ffnRun.sl.r_13, ffnRun.sl.r_14, ffnRun.sl.r_15, ffnRun.sl.r_16, ffnRun.sl.r_17, ffnRun.sl.r_18, ffnRun.sl.r_19, ffnRun.sl.r_20, ffnRun.sl.r_21, ffnRun.sl.r_22, ffnRun.sl.r_23, ffnRun.sl.r_24, ffnRun.sl.r_25, ffnRun.sl.r_26, ffnRun.sl.r_27, ffnRun.sl.r_28, ffnRun.sl.r_29, ffnRun.sl.r_3, ffnRun.sl.r_30, ffnRun.sl.r_31, ffnRun.sl.r_32, ffnRun.sl.r_33, ffnRun.sl.r_34, ffnRun.sl.r_35, ffnRun.sl.r_4, ffnRun.sl.r_5, ffnRun.sl.r_6, ffnRun.sl.r_7, ffnRun.sl.r_8, ffnRun.sl.r_9, ffnRun.sl.v1, ffnRun.sl.v119, ffnRun.sl.v126, ffnRun.sl.v132, ffnRun.sl.v143, ffnRun.sl.v150, ffnRun.sl.v156, ffnRun.sl.v177, ffnRun.sl.v184, ffnRun.sl.v190, ffnRun.sl.v201, ffnRun.sl.v208, ffnRun.sl.v214, ffnRun.sl.v231, ffnRun.sl.v268, ffnRun.sl.v275, ffnRun.sl.v281, ffnRun.sl.v292, ffnRun.sl.v299, ffnRun.sl.v305, ffnRun.sl.v326, ffnRun.sl.v333, ffnRun.sl.v339, ffnRun.sl.v350, ffnRun.sl.v357, ffnRun.sl.v363, ffnRun.sl.v380, ffnRun.sl.v394, ffnRun.sl.v401, ffnRun.sl.v407, ffnRun.sl.v418, ffnRun.sl.v425, ffnRun.sl.v431, ffnRun.sl.v452, ffnRun.sl.v459, ffnRun.sl.v465, ffnRun.sl.v476, ffnRun.sl.v483, ffnRun.sl.v489, ffnRun.sl.v506, ffnRun.sl.v515, v91_eq, readCov_block, readCov_pair]
  simp only [readCov_append_block, readCov_append_win, e2]
  repeat rw [readCov_append_win]
  repeat rw [readCov_append_block]
  unfold T11 turns at B1
  unfold T13 turns at B2
  unfold T14 turns at B3
  rw [B1]
  rw [B2]
  rw [B3]
  rw [wConv_read arg7.view (harg7.unread x5) ![0, 8, 0, 0] _ 0 8 rfl]
  rw [wBias_read arg8.view (harg8.unread x6) ![0, 8, 0, 0] _ 0 8 rfl]
  rw [wConv_read arg7.view (harg7.unread x5) ![1, 8, 0, 0] _ 1 8 rfl]
  rw [wBias_read arg8.view (harg8.unread x6) ![1, 8, 0, 0] _ 1 8 rfl]
  rw [wDown_read arg9.view (harg9.unread x7) ![8, 0, 0] _ 8 rfl]
  rw [wConv_read arg7.view (harg7.unread x5) ![0, 9, 0, 0] _ 0 9 rfl]
  rw [wBias_read arg8.view (harg8.unread x6) ![0, 9, 0, 0] _ 0 9 rfl]
  rw [wUp_read arg6.view (harg6.unread x4) ![0, 9, 0, 0] _ 0 9 rfl]
  rw [wConv_read arg7.view (harg7.unread x5) ![1, 9, 0, 0] _ 1 9 rfl]
  rw [wBias_read arg8.view (harg8.unread x6) ![1, 9, 0, 0] _ 1 9 rfl]
  rw [wUp_read arg6.view (harg6.unread x4) ![1, 9, 0, 0] _ 1 9 rfl]
  rw [wDown_read arg9.view (harg9.unread x7) ![9, 0, 0] _ 9 rfl]
  rw [wConv_read arg7.view (harg7.unread x5) ![0, 10, 0, 0] _ 0 10 rfl]
  rw [wBias_read arg8.view (harg8.unread x6) ![0, 10, 0, 0] _ 0 10 rfl]
  rw [wUp_read arg6.view (harg6.unread x4) ![0, 10, 0, 0] _ 0 10 rfl]
  rw [wConv_read arg7.view (harg7.unread x5) ![1, 10, 0, 0] _ 1 10 rfl]
  rw [wBias_read arg8.view (harg8.unread x6) ![1, 10, 0, 0] _ 1 10 rfl]
  rw [wUp_read arg6.view (harg6.unread x4) ![1, 10, 0, 0] _ 1 10 rfl]
  rw [wDown_read arg9.view (harg9.unread x7) ![10, 0, 0] _ 10 rfl]
  rw [View.readAt_full]
  rw [harg6.read_unread, harg7.read_unread, harg8.read_unread, harg9.read_unread, harg10.read_unread]
  simp only [k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127]
  repeat rw [← upTile.eq_1]
  repeat rw [← upA.eq_1]
  repeat rw [← upB.eq_1]
  repeat rw [← up.eq_1]
  repeat rw [rows_00]
  repeat rw [rows_01]
  repeat rw [rows_02]
  repeat rw [rows_10]
  repeat rw [rows_11]
  repeat rw [rows_12]
  repeat rw [← convA.eq_1]
  repeat rw [← convB.eq_1]
  repeat rw [← gated.eq_1]
  repeat rw [← downTile.eq_1]
  simp only [chunkOf, chunk, stage]

end Post

end Cert.Ffn
-- ==== Proof.Ffn.Spec.lean ====
module

public import Idealize.ShloMosaic.Lib.Pointwise

/-!
# The feed-forward of one sequence, number by number
-/

open Idealize.ShloMosaic

set_option maxRecDepth 16384

@[expose] public section

namespace Cert.Ffn

/-- A row divided by its root mean square and scaled. -/
noncomputable def nrm (f g : Fin 1024 → EReal) (d : Fin 1024) : EReal :=
  f d * Ideal.rsqrt (Ideal.div (∑ k, f k * f k) (Ideal.ofBits .f32 0x44800000#32) + Ideal.ofBits .f32 0x358637BD#32) * g d

/-- The gate's product of a value. -/
noncomputable def gate (g v : EReal) : EReal := g * Ideal.div 1 (1 + Ideal.exp (-g)) * v

section
variable (X : Fin 4096 → Fin 1024 → EReal) (g : Fin 1024 → EReal) (W : Fin 1024 → Fin 5632 → EReal) (K : Fin 3 → Fin 5632 → EReal) (B : Fin 5632 → EReal)
  (D : Fin 2816 → Fin 1024 → EReal) (gf : Fin 1024 → EReal)

/-- The normalised rows between two rows of zeros. -/
noncomputable def padRow (n : ℕ) (d : Fin 1024) : EReal := if h : 1 ≤ n ∧ n ≤ 4096 then nrm (X ⟨n - 1, by omega⟩) g d else 0

/-- Their projection up. -/
noncomputable def upRow (n : ℕ) (e : Fin 5632) : EReal := ∑ d, padRow X g n d * W d e

/-- The convolution of three neighbouring rows. -/
noncomputable def conv (s : Fin 4096) (e : Fin 5632) : EReal :=
  upRow X g W s.val e * K 0 e + upRow X g W (s.val + 1) e * K 1 e + upRow X g W (s.val + 2) e * K 2 e + B e

/-- The gated hidden row. -/
noncomputable def hid (s : Fin 4096) (c : Fin 2816) : EReal :=
  gate (conv X g W K B s ⟨c.val, by omega⟩) (conv X g W K B s ⟨2816 + c.val, by omega⟩)

/-- The result, normalised. -/
noncomputable def ffn (s : Fin 4096) (d : Fin 1024) : EReal :=
  nrm (fun k => X s k + ∑ c, hid X g W K B s c * D c k) gf d

end

/-- A power of two of a scaled value is its exponential. -/
theorem exp2_scaled (x : EReal) : Ideal.exp2 (x * ((-((Real.log 2)⁻¹) : ℝ) : EReal)) = Ideal.exp (-x) := by
  have hl : 0 < Real.log 2 := Real.log_pos (by norm_num)
  have hn : (-((Real.log 2)⁻¹) : ℝ) < 0 := neg_neg_of_pos (inv_pos.mpr hl)
  induction x with
  | bot => rw [EReal.bot_mul_coe_of_neg hn]; rfl
  | top => rw [EReal.top_mul_coe_of_neg hn]; rfl
  | coe r =>
    rw [← EReal.coe_mul, ← EReal.coe_neg]
    show ((2 ^ (r * -((Real.log 2)⁻¹)) : ℝ) : EReal) = ((Real.exp (-r) : ℝ) : EReal)
    rw [Real.rpow_def_of_pos (by norm_num)]
    congr 2
    field_simp

/-- A sum over eleven chunks of 256. -/
theorem sum_chunks (f : Fin 2816 → EReal) : ∑ c, f c = ∑ j : Fin 11, ∑ c : Fin 256, f ⟨j.val * 256 + c.val, by omega⟩ := by
  rw [← Fintype.sum_prod_type' (f := fun (j : Fin 11) (c : Fin 256) => f ⟨j.val * 256 + c.val, by omega⟩)]
  refine (Fintype.sum_equiv (finProdFinEquiv (m := 11) (n := 256)) _ _ fun p => congrArg f (Fin.ext ?_)).symm
  show p.1.val * 256 + p.2.val = p.2.val + 256 * p.1.val
  omega

theorem sum_eleven (f : Fin 11 → EReal) : ∑ j, f j = f 0 + f 1 + f 2 + f 3 + f 4 + f 5 + f 6 + f 7 + f 8 + f 9 + f 10 := by
  rw [Fin.sum_univ_castSucc, Fin.sum_univ_castSucc, Fin.sum_univ_castSucc, Fin.sum_univ_eight]; rfl

end Cert.Ffn
-- ==== Proof.Ffn.Value.lean ====
module

public import proofs.«01_k».proof.Proof.Ffn.Post
public import proofs.«01_k».proof.Proof.Ffn.Spec
public import Idealize.ShloMosaic.Lib.Pipeline.ValueKit.Geometry

/-!
# A block's numbers
-/

open Idealize.ShloMosaic
open Cert.Kernel2Ideal Cert.Kernel2Ideal.Gen

set_option maxRecDepth 16384

@[expose] public section

namespace Cert.Ffn

theorem own_at (x3 : Vec Ideal S1x1024 .f32) (x0 : Vec Ideal S1x1024x1024 .f32) (r d : Fin 1024) :
    k0_pay72 (F := Ideal) (k0_pay71 (F := Ideal) x3 x0) (ix2 r d) = nrm (fun k => x0 (ix3 0 r k)) (fun k => x3 (ix2 0 k)) d := by
  unfold nrm
  pointwise [k0_pay72, k0_pay71, k0_pay69]

theorem prev_at (i : grid0.Coords) (x3 : Vec Ideal S1x1024 .f32) (x1 : Vec Ideal S1x8x1024 .f32) (r : Fin 8) (d : Fin 1024) :
    k0_pay70 (F := Ideal) i x3 x1 (ix2 r d) = if (i 1).val = 0 then 0 else nrm (fun k => x1 (ix3 0 r k)) (fun k => x3 (ix2 0 k)) d := by
  have hb : ∀ n : Fin 4, Scalar.cmpi .eq (BitVec.ofNat 32 n.val) 0#32 = if n.val = 0 then 1#1 else 0#1 := by decide
  unfold nrm k0_pay70
  rw [hb (i 1)]
  split_ifs
  · pointwise [k0_pay69]
  · pointwise [k0_pay69]

theorem next_at (i : grid0.Coords) (x3 : Vec Ideal S1x1024 .f32) (x2 : Vec Ideal S1x8x1024 .f32) (r : Fin 8) (d : Fin 1024) :
    k0_pay73 (F := Ideal) (Scalar.cmpi .eq (BitVec.ofNat 32 (i 1).val) 3#32) (k0_pay69 (F := Ideal) x3) x2 (ix2 r d)
      = if (i 1).val = 3 then 0 else nrm (fun k => x2 (ix3 0 r k)) (fun k => x3 (ix2 0 k)) d := by
  have hb : ∀ n : Fin 4, Scalar.cmpi .eq (BitVec.ofNat 32 n.val) 3#32 = if n.val = 3 then 1#1 else 0#1 := by decide
  unfold nrm
  rw [hb (i 1)]
  split_ifs
  · pointwise [k0_pay73, k0_pay69]
  · pointwise [k0_pay73, k0_pay69]

theorem last_at (y : Vec Ideal S1x1024x1024 .f32) (x8 : Vec Ideal S1x1024 .f32) (r d : Fin 1024) :
    k0_pay1 (F := Ideal) y x8 (ix3 0 r d) = nrm (fun k => y (ix3 0 r k)) (fun k => x8 (ix2 0 k)) d := by
  unfold nrm
  pointwise [k0_pay1]

theorem first_at (x0 : Vec Ideal S1x1024x1024 .f32) (r d : Fin 1024) : k0_pay74 (F := Ideal) x0 (ix3 0 r d) = x0 (ix3 0 r d) := by
  pointwise [k0_pay74]

section
variable (h : Vec Ideal S1040x1024 .bf16) (x4 : Vec Ideal S2x11x1024x256 .bf16) (x5 : Vec Ideal S2x11x3x256 .f32) (x6 : Vec Ideal S2x11x1x256 .f32) (x7 : Vec Ideal S11x256x1024 .bf16)

/-- A projected row's number, -/
noncomputable def uAt (p : Fin 2) (j : Fin 11) (ρ : Fin 1040) (c : Fin 256) : EReal := ∑ d : Fin 1024, h (ix2 ρ d) * x4 (ix4 p j d c)

/-- its convolution, -/
noncomputable def cvAt (p : Fin 2) (j : Fin 11) (r : Fin 1024) (c : Fin 256) : EReal :=
  x6 (ix4 p j 0 c) + uAt h x4 p j ⟨r.val + 7, by omega⟩ c * x5 (ix4 p j 0 c) + uAt h x4 p j ⟨r.val + 8, by omega⟩ c * x5 (ix4 p j 1 c)
    + uAt h x4 p j ⟨r.val + 9, by omega⟩ c * x5 (ix4 p j 2 c)

/-- and the gate's product. -/
noncomputable def hidAt (j : Fin 11) (r : Fin 1024) (c : Fin 256) : EReal := gate (cvAt h x4 x5 x6 0 j r c) (cvAt h x4 x5 x6 1 j r c)

theorem gated_gate (g v : FVec Ideal S1024x128 .f32) (r : Fin 1024) (l : Fin 128) : gated g v (ix2 r l) = gate (g (ix2 r l)) (v (ix2 r l)) := by
  rw [gated_at]
  unfold gate negLog2e
  rw [exp2_scaled]

theorem rows_up (p : Fin 2) (j : Fin 11) (q : Fin 2) (t : Fin 3) (r : Fin 1024) (l : Fin 128) :
    rows (up h (wUp x4 p j)) q t (ix3 0 r l) = uAt h x4 p j ⟨r.val + (7 + t.val), by omega⟩ ⟨q.val * 128 + l.val, by omega⟩ := by
  unfold rows VecWindow.window up pairUp uAt
  have e : ∀ (a : Fin 2) (b : Fin 1040) (c : Fin 128) (y : S2x1040x128.Idx), y = ix3 a b c → (if (y 0).val = 0 then upA h (wUp x4 p j) (ix3 0 (y 1) (y 2)) else upB h (wUp x4 p j) (ix3 0 (y 1) (y 2)))
      = ∑ d : Fin 1024, h (ix2 b d) * x4 (ix4 p j d ⟨a.val * 128 + c.val, by omega⟩) := by
    rintro a b c y rfl
    show (if a.val = 0 then upA h (wUp x4 p j) (ix3 0 b c) else upB h (wUp x4 p j) (ix3 0 b c)) = _
    rcases (by omega : a.val = 0 ∨ a.val = 1) with ha | ha
    · rw [if_pos ha, upA_at]
      refine Finset.sum_congr rfl fun d _ => congrArg (fun z => h (ix2 b d) * x4 (ix4 p j d z)) (Fin.ext ?_)
      show c.val = a.val * 128 + c.val
      omega
    · rw [if_neg (by omega), upB_at]
      refine Finset.sum_congr rfl fun d _ => congrArg (fun z => h (ix2 b d) * x4 (ix4 p j d z)) (Fin.ext ?_)
      show 128 + c.val = a.val * 128 + c.val
      omega
  refine e q ⟨r.val + (7 + t.val), by omega⟩ l _ (funext fun a => Fin.ext ?_)
  refine (ValueKit.rect_emb_unit_val (s := S2x1040x128) _ _ (rowsIn q t) _ a).trans ?_
  fin_cases a
  · show q.val + 0 = q.val; omega
  · show 7 + t.val + r.val = r.val + (7 + t.val); omega
  · show 0 + l.val = l.val; omega

theorem convA_up (p : Fin 2) (j : Fin 11) (r : Fin 1024) (l : Fin 128) :
    convA (wConv x5 p j) (wBias x6 p j) (rows (up h (wUp x4 p j)) 0 0) (rows (up h (wUp x4 p j)) 0 1) (rows (up h (wUp x4 p j)) 0 2) (ix2 r l)
      = cvAt h x4 x5 x6 p j r ⟨l.val, by omega⟩ := by
  rw [convA_at, rows_up, rows_up, rows_up]
  unfold cvAt
  have e : ∀ hh, (⟨(0 : Fin 2).val * 128 + l.val, hh⟩ : Fin 256) = ⟨l.val, by omega⟩ := fun _ => Fin.ext (by show 0 * 128 + l.val = l.val; omega)
  rw [e]
  rfl

theorem convB_up (p : Fin 2) (j : Fin 11) (r : Fin 1024) (l : Fin 128) :
    convB (wConv x5 p j) (wBias x6 p j) (rows (up h (wUp x4 p j)) 1 0) (rows (up h (wUp x4 p j)) 1 1) (rows (up h (wUp x4 p j)) 1 2) (ix2 r l)
      = cvAt h x4 x5 x6 p j r ⟨128 + l.val, by omega⟩ := by
  rw [convB_at, rows_up, rows_up, rows_up]
  unfold cvAt
  have e : ∀ hh, (⟨(1 : Fin 2).val * 128 + l.val, hh⟩ : Fin 256) = ⟨128 + l.val, by omega⟩ := fun _ => Fin.ext (by show 1 * 128 + l.val = 128 + l.val; omega)
  rw [e]
  rfl

theorem chunkOf_at (o : Vec Ideal S1x1024x1024 .f32) (j : Fin 11) (r d : Fin 1024) :
    chunkOf h x4 x5 x6 x7 o j (ix3 0 r d) = o (ix3 0 r d) + ∑ c : Fin 256, hidAt h x4 x5 x6 j r c * x7 (ix3 j c d) := by
  unfold chunkOf chunk stage
  rw [downTile_at]
  refine congrArg _ (Finset.sum_congr rfl fun c _ => congrArg₂ (· * ·) ?_ rfl)
  unfold hidAt
  by_cases hc : c.val < 128
  · rw [dif_pos hc, gated_gate, convA_up, convA_up]
  · rw [dif_neg hc, gated_gate, convB_up, convB_up]
    have e : ∀ hh, (⟨128 + (⟨c.val - 128, hh⟩ : Fin 128).val, by omega⟩ : Fin 256) = c := fun _ => Fin.ext (by show 128 + (c.val - 128) = c.val; omega)
    rw [e]

theorem block_at (x0 : Vec Ideal S1x1024x1024 .f32) (x8 : Vec Ideal S1x1024 .f32) (r d : Fin 1024) :
    k0_pay1 (F := Ideal) (chunkOf h x4 x5 x6 x7 (chunkOf h x4 x5 x6 x7 (chunkOf h x4 x5 x6 x7 (chunkOf h x4 x5 x6 x7 (chunkOf h x4 x5 x6 x7 (chunkOf h x4 x5 x6 x7
      (chunkOf h x4 x5 x6 x7 (chunkOf h x4 x5 x6 x7 (chunkOf h x4 x5 x6 x7 (chunkOf h x4 x5 x6 x7 (chunkOf h x4 x5 x6 x7 (k0_pay74 (F := Ideal) x0) 0) 1) 2) 3) 4) 5) 6) 7) 8) 9) 10) x8 (ix3 0 r d)
      = nrm (fun k => x0 (ix3 0 r k) + ∑ j : Fin 11, ∑ c : Fin 256, hidAt h x4 x5 x6 j r c * x7 (ix3 j c k)) (fun k => x8 (ix2 0 k)) d := by
  rw [last_at]
  refine congrArg (fun f => nrm f _ d) (funext fun k => ?_)
  repeat rw [chunkOf_at]
  rw [first_at, sum_eleven]
  simp only [add_assoc]

end

section
variable (i : grid0.Coords) (x0 : Vec Ideal S1x1024x1024 .f32) (x1 x2 : Vec Ideal S1x8x1024 .f32) (x3 : Vec Ideal S1x1024 .f32)

/-- The rows a block's convolution sees: the one before, its own, the one after. -/
theorem rows_at (n : Fin 1026) (d : Fin 1024) :
    rowsOf i x0 x1 x2 x3 (ix2 ⟨7 + n.val, by omega⟩ d)
      = if hn : n.val = 0 then (if (i 1).val = 0 then 0 else nrm (fun k => x1 (ix3 0 7 k)) (fun k => x3 (ix2 0 k)) d)
        else if hn' : n.val ≤ 1024 then nrm (fun k => x0 (ix3 0 ⟨n.val - 1, by omega⟩ k)) (fun k => x3 (ix2 0 k)) d
        else (if (i 1).val = 3 then 0 else nrm (fun k => x2 (ix3 0 0 k)) (fun k => x3 (ix2 0 k)) d) := by
  have hd := d.isLt
  have hN := n.isLt
  unfold rowsOf
  rcases (by omega : n.val = 0 ∨ (1 ≤ n.val ∧ n.val ≤ 1024) ∨ n.val = 1025) with hn | hn | hn
  · rw [dif_pos hn, ← prev_at]
    unfold VecWindow.put
    rw [dif_neg (fun hh => by have := (hh 0).1; change 1032 ≤ 7 + n.val at this; omega), dif_neg (fun hh => by have := (hh 0).1; change 8 ≤ 7 + n.val at this; omega),
      dif_pos (fun a => by fin_cases a <;> [exact ⟨Nat.zero_le _, by show 7 + n.val < 0 + 8; omega⟩; exact ⟨Nat.zero_le _, by show d.val < 0 + 1024; omega⟩])]
    refine congrArg _ (funext fun a => Fin.ext ?_)
    fin_cases a
    · show 7 + n.val - 0 = 7; omega
    · rfl
  · rw [dif_neg (by omega), dif_pos hn.2, ← own_at]
    unfold VecWindow.put
    rw [dif_neg (fun hh => by have := (hh 0).1; change 1032 ≤ 7 + n.val at this; omega),
      dif_pos (fun a => by fin_cases a <;> [exact ⟨by show 8 ≤ 7 + n.val; omega, by show 7 + n.val < 8 + 1024; omega⟩; exact ⟨Nat.zero_le _, by show d.val < 0 + 1024; omega⟩])]
    refine congrArg _ (funext fun a => Fin.ext ?_)
    fin_cases a
    · show 7 + n.val - 8 = n.val - 1; omega
    · rfl
  · rw [dif_neg (by omega), dif_neg (by omega), ← next_at]
    unfold VecWindow.put
    rw [dif_pos (fun a => by fin_cases a <;> [exact ⟨by show 1032 ≤ 7 + n.val; omega, by show 7 + n.val < 1032 + 8; omega⟩; exact ⟨Nat.zero_le _, by show d.val < 0 + 1024; omega⟩])]
    refine congrArg _ (funext fun a => Fin.ext ?_)
    fin_cases a
    · show 7 + n.val - 1032 = 0; omega
    · rfl

end

end Cert.Ffn
-- ==== Proof.Ffn.Host.lean ====
module

public import proofs.«01_k».proof.Proof.Gen.Kernel2Ideal.Frame
public import Idealize.ShloMosaic.Lib.Pointwise

/-!
# What the host prepares for the feed-forward's call
-/

open Idealize.ShloMosaic Idealize.ShloMosaic.TcCoe
open Cert.Kernel2Ideal Cert.Kernel2Ideal.Gen

set_option maxRecDepth 16384

@[expose] public section

namespace Cert.Ffn

variable (m : (ℓ : Loc nD τ sig) → Buf (Elt Ideal) ℓ) (c : Dev nD)

/-- A scale as one row. -/
noncomputable def hRow (a : FVec Ideal S1024 .f32) : FVec Ideal S1x1024 .f32 := broadcastInDim S1x1024 ![1] bcast_S1024_S1x1024_1 a
/-- The weights up in their two halves of eleven chunks, -/
noncomputable def hUp (a : FVec Ideal S1024x5632 .f32) : FVec Ideal S2x11x1024x256 .bf16 :=
  transpose S2x11x1024x256 [1, 2, 0, 3] (shapeCast S1024x2x11x256 (truncf .bf16 a bitsLt_bf16_f32) shapeCasts_S1024x5632_S1024x2x11x256) transposes_S1024x2x11x256_S2x11x1024x256_1_2_0_3
/-- the convolution's weights, -/
noncomputable def hConv (a : FVec Ideal S3x5632 .f32) : FVec Ideal S2x11x3x256 .f32 :=
  transpose S2x11x3x256 [1, 2, 0, 3] (shapeCast S3x2x11x256 a shapeCasts_S3x5632_S3x2x11x256) transposes_S3x2x11x256_S2x11x3x256_1_2_0_3
/-- and its bias likewise. -/
noncomputable def hBias (a : FVec Ideal S5632 .f32) : FVec Ideal S2x11x1x256 .f32 :=
  transpose S2x11x1x256 [1, 2, 0, 3] (shapeCast S1x2x11x256 (broadcastInDim S1x5632 ![1] bcast_S5632_S1x5632_1 a) shapeCasts_S1x5632_S1x2x11x256) transposes_S1x2x11x256_S2x11x1x256_1_2_0_3
/-- The weights down in eleven chunks. -/
noncomputable def hDown (a : FVec Ideal S2816x1024 .f32) : FVec Ideal S11x256x1024 .bf16 :=
  shapeCast S11x256x1024 (truncf .bf16 a bitsLt_bf16_f32) shapeCasts_S2816x1024_S11x256x1024

theorem g_eq : V (F := Ideal) m c main_v0 = hRow (m ((c : Thread nD τ).loc main_arg1)) := by sl_kernel_rfl
theorem up_eq : V (F := Ideal) m c main_v3 = hUp (m ((c : Thread nD τ).loc main_arg2)) := by sl_kernel_rfl
theorem conv_eq : V (F := Ideal) m c main_v5 = hConv (m ((c : Thread nD τ).loc main_arg3)) := by sl_kernel_rfl
theorem bias_eq : V (F := Ideal) m c main_v8 = hBias (m ((c : Thread nD τ).loc main_arg4)) := by sl_kernel_rfl
theorem down_eq : V (F := Ideal) m c main_v10 = hDown (m ((c : Thread nD τ).loc main_arg5)) := by sl_kernel_rfl
theorem gf_eq : V (F := Ideal) m c main_v11 = hRow (m ((c : Thread nD τ).loc main_arg6)) := by sl_kernel_rfl

theorem hRow_at (a : S1024.Idx → EReal) (k : Fin 1024) : hRow a (ix2 0 k) = a (ix1 k) := by
  pointwise [hRow]
theorem hUp_at (a : S1024x5632.Idx → EReal) (p : Fin 2) (j : Fin 11) (d : Fin 1024) (e : Fin 256) :
    hUp a (ix4 p j d e) = a (ix2 d ⟨p.val * 2816 + (j.val * 256 + e.val), by omega⟩) := by
  pointwise [hUp]
  exact congrArg (fun z => a (ix2 d z)) (Fin.ext (Nat.add_assoc _ _ _))
theorem hConv_at (a : S3x5632.Idx → EReal) (p : Fin 2) (j : Fin 11) (t : Fin 3) (e : Fin 256) :
    hConv a (ix4 p j t e) = a (ix2 t ⟨p.val * 2816 + (j.val * 256 + e.val), by omega⟩) := by
  pointwise [hConv]
  exact congrArg (fun z => a (ix2 t z)) (Fin.ext (Nat.add_assoc _ _ _))
theorem hBias_at (a : S5632.Idx → EReal) (p : Fin 2) (j : Fin 11) (e : Fin 256) :
    hBias a (ix4 p j 0 e) = a (ix1 ⟨p.val * 2816 + (j.val * 256 + e.val), by omega⟩) := by
  pointwise [hBias]
  exact congrArg (fun z => a (ix1 z)) (Fin.ext (Nat.add_assoc _ _ _))
theorem hDown_at (a : S2816x1024.Idx → EReal) (j : Fin 11) (e : Fin 256) (d : Fin 1024) :
    hDown a (ix3 j e d) = a (ix2 ⟨j.val * 256 + e.val, by omega⟩ d) := by
  pointwise [hDown]

end Cert.Ffn
-- ==== Proof.Ffn.Region.lean ====
module

public import proofs.«01_k».proof.Proof.Ffn.Launch
public import proofs.«01_k».proof.Proof.Ffn.Value
public import proofs.«01_k».proof.Proof.Ffn.Host

/-!
# The feed-forward's result, as a whole array
-/

open Idealize.ShloMosaic Idealize.ShloMosaic.TcCoe
open Cert.Kernel2Ideal Cert.Kernel2Ideal.Gen

set_option maxRecDepth 16384

@[expose] public section

namespace Cert.Ffn

variable (m : (ℓ : Loc nD τ sig) → Buf (Elt Ideal) ℓ) (c : Dev nD)

/-- 1024 rows of one sequence, -/
noncomputable def tile (X : S4x4096x1024.Idx → EReal) (b q : Fin 4) (z : S1x1024x1024.Idx) : EReal :=
  X (ix3 b ⟨q.val * 1024 + (z 1).val, by have : (z 1).val < 1024 := (z 1).isLt; omega⟩ (z 2))
/-- the eight rows before them (or the first eight), -/
noncomputable def before (X : S4x4096x1024.Idx → EReal) (b q : Fin 4) (z : S1x8x1024.Idx) : EReal :=
  X (ix3 b ⟨(q.val * 128 - 1) * 8 + (z 1).val, by have : (z 1).val < 8 := (z 1).isLt; omega⟩ (z 2))
/-- and the eight after them (or the last eight). -/
noncomputable def behind (X : S4x4096x1024.Idx → EReal) (b q : Fin 4) (z : S1x8x1024.Idx) : EReal :=
  X (ix3 b ⟨min ((q.val + 1) * 128) 511 * 8 + (z 1).val, by have : (z 1).val < 8 := (z 1).isLt; omega⟩ (z 2))

/-- The block indices of the windows. -/
theorem idx0 : ∀ t : Fin cfg0.N, (win0_0.index t 0 = (grid0.coords t 0).val ∧ win0_0.index t 1 = (grid0.coords t 1).val ∧ win0_0.index t 2 = 0
    ∧ win0_1.index t 0 = (grid0.coords t 0).val ∧ win0_1.index t 1 = (grid0.coords t 1).val * 128 - 1 ∧ win0_1.index t 2 = 0
    ∧ win0_2.index t 0 = (grid0.coords t 0).val ∧ win0_2.index t 1 = min (((grid0.coords t 1).val + 1) * 128) 511 ∧ win0_2.index t 2 = 0)
    ∧ (win0_3.index t 0 = 0 ∧ win0_3.index t 1 = 0
    ∧ win0_4.index t 0 = 0 ∧ win0_4.index t 1 = 0 ∧ win0_4.index t 2 = 0 ∧ win0_4.index t 3 = 0
    ∧ win0_5.index t 0 = 0 ∧ win0_5.index t 1 = 0 ∧ win0_5.index t 2 = 0 ∧ win0_5.index t 3 = 0
    ∧ win0_6.index t 0 = 0 ∧ win0_6.index t 1 = 0 ∧ win0_6.index t 2 = 0 ∧ win0_6.index t 3 = 0)
    ∧ (win0_7.index t 0 = 0 ∧ win0_7.index t 1 = 0 ∧ win0_7.index t 2 = 0 ∧ win0_8.index t 0 = 0 ∧ win0_8.index t 1 = 0
    ∧ win0_9.index t 0 = (grid0.coords t 0).val ∧ win0_9.index t 1 = (grid0.coords t 1).val ∧ win0_9.index t 2 = 0) := by
  decide +kernel

theorem iblk_0 (t : Fin cfg0.N) : iblk m c 0 t = tile (V m c main_arg0 : S4x4096x1024.Idx → EReal) (grid0.coords t 0) (grid0.coords t 1) := by
  funext y; unfold tile; blk_ext [iblk, idx0 t]
theorem iblk_1 (t : Fin cfg0.N) : iblk m c 1 t = before (V m c main_arg0 : S4x4096x1024.Idx → EReal) (grid0.coords t 0) (grid0.coords t 1) := by
  funext y; unfold before; blk_ext [iblk, idx0 t]
theorem iblk_2 (t : Fin cfg0.N) : iblk m c 2 t = behind (V m c main_arg0 : S4x4096x1024.Idx → EReal) (grid0.coords t 0) (grid0.coords t 1) := by
  funext y; unfold behind; blk_ext [iblk, idx0 t]
theorem iblk_3 (t : Fin cfg0.N) : iblk m c 3 t = (V m c main_v0 : S1x1024.Idx → EReal) := by
  funext y; blk_ext [iblk, idx0 t]
theorem iblk_4 (t : Fin cfg0.N) : iblk m c 4 t = (V m c main_v3 : S2x11x1024x256.Idx → EReal) := by
  funext y; blk_ext [iblk, idx0 t]
theorem iblk_5 (t : Fin cfg0.N) : iblk m c 5 t = (V m c main_v5 : S2x11x3x256.Idx → EReal) := by
  funext y; blk_ext [iblk, idx0 t]
theorem iblk_6 (t : Fin cfg0.N) : iblk m c 6 t = (V m c main_v8 : S2x11x1x256.Idx → EReal) := by
  funext y; blk_ext [iblk, idx0 t]
theorem iblk_7 (t : Fin cfg0.N) : iblk m c 7 t = (V m c main_v10 : S11x256x1024.Idx → EReal) := by
  funext y; blk_ext [iblk, idx0 t]
theorem iblk_8 (t : Fin cfg0.N) : iblk m c 8 t = (V m c main_v11 : S1x1024.Idx → EReal) := by
  funext y; blk_ext [iblk, idx0 t]

section
variable (X : S4x4096x1024.Idx → EReal) (g : S1024.Idx → EReal) (W : S1024x5632.Idx → EReal) (K : S3x5632.Idx → EReal) (B : S5632.Idx → EReal)
  (D : S2816x1024.Idx → EReal) (gf : S1024.Idx → EReal) (i : grid0.Coords)

/-- The rows a block's convolution sees are the sequence's, between two rows of zeros. -/
theorem rows_pad (b : Fin 4) (n : Fin 1026) (d : Fin 1024) :
    rowsOf i (tile X b (i 1)) (before X b (i 1)) (behind X b (i 1)) (hRow g) (ix2 ⟨7 + n.val, by omega⟩ d)
      = padRow (fun s k => X (ix3 b s k)) (fun k => g (ix1 k)) ((i 1).val * 1024 + n.val) d := by
  have hq : (i 1).val < 4 := (i 1).isLt
  have hN := n.isLt
  have row : ∀ s s' : Fin 4096, s.val = s'.val → nrm (fun k => X (ix3 b s k)) (fun k => hRow g (ix2 0 k)) d = nrm (fun k => X (ix3 b s' k)) (fun k => g (ix1 k)) d := fun s s' h => by
    rw [Fin.ext h]
    exact congrArg (fun f => nrm _ f d) (funext fun k => hRow_at g k)
  rw [rows_at]
  unfold padRow
  rcases (by omega : n.val = 0 ∨ (1 ≤ n.val ∧ n.val ≤ 1024) ∨ n.val = 1025) with hn | hn | hn
  · rw [dif_pos hn]
    by_cases h0 : (i 1).val = 0
    · rw [if_pos h0, dif_neg (by omega)]
    · rw [if_neg h0, dif_pos (by omega)]
      exact row _ _ (by show ((i 1).val * 128 - 1) * 8 + 7 = (i 1).val * 1024 + n.val - 1; omega)
  · rw [dif_neg (by omega), dif_pos hn.2, dif_pos (by omega)]
    exact row _ _ (by show (i 1).val * 1024 + (n.val - 1) = (i 1).val * 1024 + n.val - 1; omega)
  · rw [dif_neg (by omega), dif_neg (by omega)]
    by_cases h3 : (i 1).val = 3
    · rw [if_pos h3, dif_neg (by omega)]
    · rw [if_neg h3, dif_pos (by omega)]
      exact row _ _ (by show min (((i 1).val + 1) * 128) 511 * 8 + 0 = (i 1).val * 1024 + n.val - 1; omega)

theorem u_at (b : Fin 4) (p : Fin 2) (j : Fin 11) (n : Fin 1026) (e : Fin 256) (ρ : Fin 1040) (hρ : ρ.val = 7 + n.val) :
    uAt (rowsOf i (tile X b (i 1)) (before X b (i 1)) (behind X b (i 1)) (hRow g)) (hUp W) p j ρ e
      = upRow (fun s k => X (ix3 b s k)) (fun k => g (ix1 k)) (fun d e => W (ix2 d e)) ((i 1).val * 1024 + n.val) ⟨p.val * 2816 + (j.val * 256 + e.val), by omega⟩ := by
  rw [show ρ = ⟨7 + n.val, by omega⟩ from Fin.ext hρ]
  unfold uAt upRow
  refine Finset.sum_congr rfl fun d _ => ?_
  rw [rows_pad, hUp_at]

theorem bias_last (b p q r : EReal) : b + p + q + r = p + q + r + b := by
  rw [add_comm _ b, ← add_assoc, ← add_assoc]

theorem cv_at (b : Fin 4) (p : Fin 2) (j : Fin 11) (r : Fin 1024) (e : Fin 256) (s : Fin 4096) (hs : s.val = (i 1).val * 1024 + r.val) :
    cvAt (rowsOf i (tile X b (i 1)) (before X b (i 1)) (behind X b (i 1)) (hRow g)) (hUp W) (hConv K) (hBias B) p j r e
      = conv (fun s k => X (ix3 b s k)) (fun k => g (ix1 k)) (fun d e => W (ix2 d e)) (fun t e => K (ix2 t e)) (fun e => B (ix1 e)) s ⟨p.val * 2816 + (j.val * 256 + e.val), by omega⟩ := by
  unfold cvAt conv
  rw [u_at X g W i b p j ⟨r.val, by omega⟩ e _ (Nat.add_comm _ _), u_at X g W i b p j ⟨r.val + 1, by omega⟩ e _ (by show r.val + 8 = 7 + (r.val + 1); omega),
    u_at X g W i b p j ⟨r.val + 2, by omega⟩ e _ (by show r.val + 9 = 7 + (r.val + 2); omega), hConv_at, hConv_at, hConv_at, hBias_at, hs]
  exact bias_last _ _ _ _

theorem hid_at (b : Fin 4) (j : Fin 11) (r : Fin 1024) (e : Fin 256) (s : Fin 4096) (hs : s.val = (i 1).val * 1024 + r.val) :
    hidAt (rowsOf i (tile X b (i 1)) (before X b (i 1)) (behind X b (i 1)) (hRow g)) (hUp W) (hConv K) (hBias B) j r e
      = hid (fun s k => X (ix3 b s k)) (fun k => g (ix1 k)) (fun d e => W (ix2 d e)) (fun t e => K (ix2 t e)) (fun e => B (ix1 e)) s ⟨j.val * 256 + e.val, by omega⟩ := by
  unfold hidAt hid
  rw [cv_at X g W K B i b 0 j r e s hs, cv_at X g W K B i b 1 j r e s hs]
  refine congrArg₂ gate (congrArg _ (Fin.ext ?_)) (congrArg _ (Fin.ext ?_))
  · show (0 : Fin 2).val * 2816 + (j.val * 256 + e.val) = j.val * 256 + e.val
    rw [Fin.val_zero, Nat.zero_mul, Nat.zero_add]
  · show (1 : Fin 2).val * 2816 + (j.val * 256 + e.val) = 2816 + (j.val * 256 + e.val)
    rw [Fin.val_one, Nat.one_mul]

/-- The feed-forward's result as an array. -/
noncomputable def ffnArr (y : S4x4096x1024.Idx) : EReal :=
  ffn (fun s k => X (ix3 (y 0) s k)) (fun k => g (ix1 k)) (fun d e => W (ix2 d e)) (fun t e => K (ix2 t e)) (fun e => B (ix1 e)) (fun c d => D (ix2 c d)) (fun k => gf (ix1 k)) (y 1) (y 2)

end

theorem out_point (t : Fin cfg0.N) (r d : Fin 1024) (y : S4x4096x1024.Idx)
    (hy : (y 0).val = (grid0.coords t 0).val ∧ (y 1).val = (grid0.coords t 1).val * 1024 + r.val ∧ (y 2).val = d.val) :
    outsAt m c t (ix3 0 r d) = ffnArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) y := by
  obtain ⟨h0, h1, h2⟩ := hy
  have y0 : y 0 = grid0.coords t 0 := Fin.ext h0
  have y2 : y 2 = d := Fin.ext h2
  unfold outsAt runPt
  rw [run_read, iblk_0, iblk_1, iblk_2, iblk_3, iblk_4, iblk_5, iblk_6, iblk_7, iblk_8, V_main_arg0, g_eq, up_eq, conv_eq, bias_eq, down_eq, gf_eq, block_at]
  unfold ffnArr ffn
  rw [y0, y2]
  have eg : (fun k => hRow (m ((c : Thread nD τ).loc main_arg6)) (ix2 0 k)) = fun k => m ((c : Thread nD τ).loc main_arg6) (ix1 k) := funext fun k => hRow_at _ k
  rw [eg]
  refine congrArg (fun f => nrm f _ d) (funext fun k => ?_)
  refine congrArg₂ (· + ·) (congrArg (fun s => m ((c : Thread nD τ).loc main_arg0) (ix3 (grid0.coords t 0) s k)) (Fin.ext h1.symm)) ?_
  rw [sum_chunks]
  refine Finset.sum_congr rfl fun j _ => Finset.sum_congr rfl fun e _ => ?_
  rw [hid_at _ _ _ _ _ _ (grid0.coords t 0) j r e (y 1) h1, hDown_at]

theorem out_arr : (dat m c).arrAt 9 cfg0.N = ffnArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dat m c).arrAt_eq_of_covers 9 _ (by decide +kernel) fun t hf y => ?_
  blk_simp
  rw [after_9]
  obtain ⟨r, j, rfl⟩ : ∃ (r j : Fin 1024), y = (ix3 0 r j : S1x1024x1024.Idx) := ⟨y 1, y 2, by funext a; fin_cases a <;> first | rfl | exact Subsingleton.elim (α := Fin 1) _ _⟩
  refine out_point m c t r j _ ⟨?_, ?_, ?_⟩
  all_goals first | (blk_simp [idx0 t]; done) | (blk_simp [idx0 t]; omega)

end Cert.Ffn
-- ==== Proof.Ffn.RefRow.lean ====
module

public import proofs.«01_k».proof.Proof.Gen.Reference2Ideal.Read
public import proofs.«01_k».proof.Proof.Ffn.Spec
public import Idealize.ShloMosaic.Lib.IdealHost
public import Idealize.ShloMosaic.Lib.KernelVsHost

/-!
# The reference's feed-forward, number by number
-/

open Idealize.ShloMosaic Idealize.ShloMosaic.TcCoe
open Cert.Reference2Ideal Cert.Reference2Ideal.Gen Cert.Reference2Ideal.Read

set_option maxRecDepth 16384

@[expose] public section

namespace Cert.FfnRef

open Cert.Ffn

variable (x0 : S4x4096x1024.Idx → EReal) (x1 : S1024.Idx → EReal) (x2 : S1024x5632.Idx → EReal) (x3 : S3x5632.Idx → EReal) (x4 : S5632.Idx → EReal)
  (x5 : S2816x1024.Idx → EReal) (x6 : S1024.Idx → EReal)

theorem v12_at (b : Fin 4) (s : Fin 4096) (d : Fin 1024) :
    val_main_v12 (F := Ideal) x0 x1 (ix3 b s d) = nrm (fun k => x0 (ix3 b s k)) (fun k => x1 (ix1 k)) d := by
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply, show val_main_cst (F := Ideal) (Shape.Idx.first h_S_) = 0 from Ideal.ofBits_zero_f32, zero_add]
  have e : ∀ k, idx_main_v1 (idx_main_v2 (idx_main_v8 (ix3 b s d : S4x4096x1024.Idx))) k = (ix3 b s k : S4x4096x1024.Idx) := fun k => by funext a; fin_cases a <;> rfl
  have e' : idx_main_v10 (idx_main_v11 (ix3 b s d : S4x4096x1024.Idx)) = (ix1 d : S1024.Idx) := by funext a; fin_cases a; rfl
  simp only [e, val_main_v0_apply]
  rw [e']
  rfl

theorem v56_at (b : Fin 4) (s : Fin 4096) (d : Fin 1024) :
    val_main_v56 (F := Ideal) x0 x1 x2 x3 x4 x5 x6 (ix3 b s d) = nrm (fun k => val_main_v43 (F := Ideal) x0 x1 x2 x3 x4 x5 (ix3 b s k)) (fun k => x6 (ix1 k)) d := by
  rw [val_main_v56_apply, val_main_v53_apply, val_main_v52_apply, val_main_v51_apply, val_main_v50_apply, val_main_v48_apply, val_main_v46_apply, val_main_v45_apply,
    val_main_v47_apply, val_main_v49_apply, val_main_v55_apply, val_main_v54_apply, show val_main_cst_2 (F := Ideal) (Shape.Idx.first h_S_) = 0 from Ideal.ofBits_zero_f32, zero_add]
  have e : ∀ k, idx_main_v45 (idx_main_v46 (idx_main_v52 (ix3 b s d : S4x4096x1024.Idx))) k = (ix3 b s k : S4x4096x1024.Idx) := fun k => by funext a; fin_cases a <;> rfl
  have e' : idx_main_v54 (idx_main_v55 (ix3 b s d : S4x4096x1024.Idx)) = (ix1 d : S1024.Idx) := by funext a; fin_cases a; rfl
  simp only [e, val_main_v44_apply]
  rw [e']
  generalize val_main_v43 (F := Ideal) x0 x1 x2 x3 x4 x5 = y
  rfl

theorem v14_at (b : Fin 4) (n : Fin 4098) (e : Fin 5632) :
    val_main_v14 (F := Ideal) x0 x1 x2 (ix3 b n e) = upRow (fun s k => x0 (ix3 b s k)) (fun k => x1 (ix1 k)) (fun d e => x2 (ix2 d e)) n.val e := by
  have key : ∀ y : S4x4096x5632.Idx → EReal, pad S4x4098x5632 ![0, 1, 0] ![0, 1, 0] ![0, 0, 0] y (val_main_call0_v0 (F := Ideal)) pads_S4x4096x5632_S4x4098x5632_000_110_000 h_S_ (ix3 b n e)
      = if h : 1 ≤ n.val ∧ n.val ≤ 4096 then y (ix3 b ⟨n.val - 1, by omega⟩ e) else 0 := by
    intro y
    have hb := b.isLt
    have he := e.isLt
    split_ifs with h
    · refine pad_apply_of_inside _ _ _ y _ _ _ _ (ix3 b ⟨n.val - 1, by omega⟩ e) fun a => ?_
      fin_cases a
      · show b.val = 0 + b.val * (0 + 1); omega
      · show n.val = 1 + (n.val - 1) * (0 + 1); omega
      · show e.val = 0 + e.val * (0 + 1); omega
    · refine (pad_apply_of_not_inside _ _ _ y _ _ _ _ (1 : Fin 3) ?_).trans ?_
      · rintro ⟨h1, -, h2⟩
        change 1 ≤ n.val at h1
        change (n.val - 1) / (0 + 1) < 4096 at h2
        omega
      · show (((0#32 : BitVec 32).toInt : ℝ) : EReal) = 0
        simp
  unfold val_main_v14
  refine (key _).trans ?_
  unfold upRow padRow
  split_ifs with h
  · rw [val_main_v13_apply]
    refine Finset.sum_congr rfl fun k _ => ?_
    have e1 : lidx_main_v13 (ix3 b ⟨n.val - 1, by omega⟩ e : S4x4096x5632.Idx) k = (ix3 b ⟨n.val - 1, by omega⟩ k : S4x4096x1024.Idx) := by funext a; fin_cases a <;> rfl
    have e2 : ridx_main_v13 (ix3 b ⟨n.val - 1, by omega⟩ e : S4x4096x5632.Idx) k = (ix2 k e : S1024x5632.Idx) := by funext a; fin_cases a <;> rfl
    rw [e1, e2, v12_at]
  · exact (Finset.sum_eq_zero fun k _ => zero_mul _).symm

theorem v37_at (b : Fin 4) (s : Fin 4096) (e : Fin 5632) :
    val_main_v37 (F := Ideal) x0 x1 x2 x3 x4 (ix3 b s e)
      = conv (fun s k => x0 (ix3 b s k)) (fun k => x1 (ix1 k)) (fun d e => x2 (ix2 d e)) (fun t e => x3 (ix2 t e)) (fun e => x4 (ix1 e)) s e := by
  rw [val_main_v37_apply, val_main_v34_apply, val_main_v27_apply, val_main_v20_apply, val_main_v26_apply, val_main_v33_apply, val_main_v15_apply, val_main_v21_apply, val_main_v28_apply,
    val_main_v19_apply, val_main_v18_apply, val_main_v17_apply, val_main_v16_apply, val_main_v25_apply, val_main_v24_apply, val_main_v23_apply, val_main_v22_apply,
    val_main_v32_apply, val_main_v31_apply, val_main_v30_apply, val_main_v29_apply, val_main_v36_apply, val_main_v35_apply]
  have e15 : idx_main_v15 (ix3 b s e : S4x4096x5632.Idx) = (ix3 b ⟨s.val, by omega⟩ e : S4x4098x5632.Idx) := by funext a; fin_cases a <;> rfl
  have e21 : idx_main_v21 (ix3 b s e : S4x4096x5632.Idx) = (ix3 b ⟨s.val + 1, by omega⟩ e : S4x4098x5632.Idx) := by
    funext a; fin_cases a <;> first | rfl | exact Fin.ext (by first | exact Nat.add_comm _ _ | rfl)
  have e28 : idx_main_v28 (ix3 b s e : S4x4096x5632.Idx) = (ix3 b ⟨s.val + 2, by omega⟩ e : S4x4098x5632.Idx) := by
    funext a; fin_cases a <;> first | rfl | exact Fin.ext (by first | exact Nat.add_comm _ _ | rfl)
  have w0 : idx_main_v16 (idx_main_v17 (idx_main_v18 (idx_main_v19 (ix3 b s e : S4x4096x5632.Idx)))) = (ix2 0 e : S3x5632.Idx) := by
    funext a; fin_cases a <;> first | rfl | exact Fin.ext (Nat.mod_eq_of_lt e.isLt)
  have w1 : idx_main_v22 (idx_main_v23 (idx_main_v24 (idx_main_v25 (ix3 b s e : S4x4096x5632.Idx)))) = (ix2 1 e : S3x5632.Idx) := by
    funext a; fin_cases a <;> first | rfl | exact Fin.ext (Nat.mod_eq_of_lt e.isLt)
  have w2 : idx_main_v29 (idx_main_v30 (idx_main_v31 (idx_main_v32 (ix3 b s e : S4x4096x5632.Idx)))) = (ix2 2 e : S3x5632.Idx) := by
    funext a; fin_cases a <;> first | rfl | exact Fin.ext (Nat.mod_eq_of_lt e.isLt)
  have wb : idx_main_v35 (idx_main_v36 (ix3 b s e : S4x4096x5632.Idx)) = (ix1 e : S5632.Idx) := by funext a; fin_cases a; rfl
  rw [e15, e21, e28, w0, w1, w2, wb, v14_at, v14_at, v14_at]
  rfl

theorem v41_at (b : Fin 4) (s : Fin 4096) (c : Fin 2816) :
    val_main_v41 (F := Ideal) x0 x1 x2 x3 x4 (ix3 b s c)
      = hid (fun s k => x0 (ix3 b s k)) (fun k => x1 (ix1 k)) (fun d e => x2 (ix2 d e)) (fun t e => x3 (ix2 t e)) (fun e => x4 (ix1 e)) s c := by
  rw [val_main_v41_apply, val_main_v39_apply, val_main_call1_v5_apply, val_main_call1_v4_apply, val_main_call1_v3_apply, val_main_call1_v2_apply, val_main_call1_v1_apply, val_main_call1_v0_apply,
    val_main_v38_apply, val_main_v40_apply]
  have e1 : idx_main_v38 (ix3 b s c : S4x4096x2816.Idx) = (ix3 b s ⟨c.val, by omega⟩ : S4x4096x5632.Idx) := by funext a; fin_cases a <;> rfl
  have e2 : idx_main_v40 (ix3 b s c : S4x4096x2816.Idx) = (ix3 b s ⟨2816 + c.val, by omega⟩ : S4x4096x5632.Idx) := by funext a; fin_cases a <;> rfl
  rw [e1, e2, v37_at, v37_at, val_main_call1_cst_apply, val_main_call1_cst_0_apply]
  unfold hid gate
  generalize conv _ _ _ _ _ _ _ = A
  generalize conv _ _ _ _ _ _ _ = B
  have one : FloatOps.ofBits (F := Ideal) .f32 0x3F800000#32 = (1 : EReal) := Ideal.ofBits_one_f32
  rw [one]
  rfl

theorem ref_at (b : Fin 4) (s : Fin 4096) (d : Fin 1024) :
    val_main_v56 (F := Ideal) x0 x1 x2 x3 x4 x5 x6 (ix3 b s d)
      = ffn (fun s k => x0 (ix3 b s k)) (fun k => x1 (ix1 k)) (fun d e => x2 (ix2 d e)) (fun t e => x3 (ix2 t e)) (fun e => x4 (ix1 e)) (fun c d => x5 (ix2 c d)) (fun k => x6 (ix1 k)) s d := by
  rw [v56_at]
  unfold ffn
  refine congrArg (fun f => nrm f _ d) (funext fun k => ?_)
  rw [val_main_v43_apply, val_main_v42_apply]
  refine congrArg (x0 (ix3 b s k) + ·) (Finset.sum_congr rfl fun c _ => ?_)
  have e1 : lidx_main_v42 (ix3 b s k : S4x4096x1024.Idx) c = (ix3 b s c : S4x4096x2816.Idx) := by funext a; fin_cases a <;> rfl
  have e2 : ridx_main_v42 (ix3 b s k : S4x4096x1024.Idx) c = (ix2 c k : S2816x1024.Idx) := by funext a; fin_cases a <;> rfl
  rw [e1, e2, v41_at]

end Cert.FfnRef
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite
public import proofs.«01_k».proof.Proof.Mixer.Whole
public import proofs.«01_k».proof.Proof.Mixer.Run
public import proofs.«01_k».proof.Proof.Mixer.Finite
public import proofs.«01_k».proof.Proof.Ffn.LaunchBits
public import proofs.«01_k».proof.Proof.Ffn.Region
public import proofs.«01_k».proof.Proof.Ffn.RefRow
public import Idealize.ShloMosaic.Adequacy
public import Idealize.ShloMosaic.Init

@[expose] public section

noncomputable section

namespace Cert.Proof

open Idealize.ShloMosaic Idealize.ShloMosaic.TcCoe Idealize.SL.Sem

/-- The reference declares no semaphore: its run is its frame. -/
theorem reference_frame : Cert.quiescent_ReferenceIdeal (hReferenceIdeal := Cert.ReferenceIdeal.Gen.facts) := fun m g _ =>
  (θ_run (Cert.ReferenceIdeal.defs (F := Ideal)) _ _).mono
    (fun r h => ⟨fun c => (h c).2, funext fun s => match s with
      | ⟨_, .reg i⟩ => absurd i.isLt (Nat.not_lt_zero _)
      | ⟨_, .dma i⟩ => absurd i.isLt (Nat.not_lt_zero _)⟩)
    (Cert.ReferenceIdeal.Value.run (F := Ideal) m g)

theorem named : Cert.preserves_Kernel_KernelIdeal :=
  ⟨IdealRules.named_const.statement Cert.KernelIdeal.κ "log2e" .f32 0x3FB8AA3B#32 _ rfl,
   IdealRules.named_const.statement Cert.KernelIdeal.κ "mask" .f32 0xF149F2CA#32 _ rfl,
   IdealRules.named_const.statement Cert.KernelIdeal.κ "scale_log2e" .f32 0x3E38AA3B#32 _ rfl⟩

/-- The two programs' results are equal. -/
theorem value : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hargs
  refine ⟨fun c => Cert.KernelIdeal.Gen.W9 m g c Cert.KernelIdeal.main_v64, Cert.Mixer.run m g, ?_⟩
  refine (θ_run _ _ _).mono (fun r h c => ⟨(h c).1.trans ?_, (h c).2⟩) (Cert.ReferenceIdeal.Value.run (F := Ideal) m' g')
  obtain ⟨h0, h1, h2, h3⟩ := hpre c
  obtain ⟨a0, a1, a2, a3, a4, a5, a6, a7⟩ := hargs c
  have R := Cert.Mixer.reals (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7))
  refine (Cert.ReferenceIdeal.Read.val_main_v114_eq m' c).trans ?_
  rw [a0, a1, a2, a3, a4, a5, a6, a7]
  exact (Cert.Mixer.result_eq m g c (R.1 h0) (R.2.1 h1) (R.2.2.1 h2) (R.2.2.2 h3)).symm

/-- The feed-forward's reference likewise. -/
theorem reference2_frame : Cert.quiescent_Reference2Ideal (hReference2Ideal := Cert.Reference2Ideal.Gen.facts) := fun m g _ =>
  (θ_run (Cert.Reference2Ideal.defs (F := Ideal)) _ _).mono
    (fun r h => ⟨fun c => (h c).2, funext fun s => match s with
      | ⟨_, .reg i⟩ => absurd i.isLt (Nat.not_lt_zero _)
      | ⟨_, .dma i⟩ => absurd i.isLt (Nat.not_lt_zero _)⟩)
    (Cert.Reference2Ideal.Value.run (F := Ideal) m g)

theorem named2 : Cert.preserves_Kernel2_Kernel2Ideal :=
  IdealRules.named_const.statement Cert.Kernel2Ideal.κ "neg_log2e" .f32 0xBFB8AA3B#32 _ rfl

/-- The feed-forward's two results are equal. -/
theorem value2 : Cert.algebraic_Kernel2Ideal_Reference2Ideal (hKernel2Ideal := Cert.Kernel2Ideal.Gen.facts) (hReference2Ideal := Cert.Reference2Ideal.Gen.facts) := by
  intro m g m' g' _ hargs
  refine ⟨fun c => (Cert.Ffn.dat m c).arrAt 9 Cert.Kernel2Ideal.cfg0.N, (θ_run _ _ _).mono (fun r h => h.1) (Cert.Ffn.run_whole (F := Ideal) m g), ?_⟩
  refine (θ_run _ _ _).mono (fun r h c => ⟨(h c).1.trans ?_, (h c).2⟩) (Cert.Reference2Ideal.Value.run (F := Ideal) m' g')
  obtain ⟨a0, a1, a2, a3, a4, a5, a6⟩ := hargs c
  refine (Cert.Reference2Ideal.Read.val_main_v56_eq m' c).trans ?_
  rw [a0, a1, a2, a3, a4, a5, a6]
  refine Eq.trans ?_ (Cert.Ffn.out_arr m c).symm
  funext y
  obtain ⟨b, s, d, rfl⟩ : ∃ (b : Fin 4) (s : Fin 4096) (d : Fin 1024), y = (ix3 b s d : Cert.Reference2Ideal.S4x4096x1024.Idx) :=
    ⟨y 0, y 1, y 2, by funext a; fin_cases a <;> rfl⟩
  exact Cert.FfnRef.ref_at _ _ _ _ _ _ _ b s d

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Pre_finite.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.FfnBits.run_frame (F := Bits) m g, fun m g _ => Cert.Ffn.run_frame (F := Ideal) m g, reference2_frame,
  named, value, named2, value2⟩

end Cert.Proof

end
